-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_v154) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_v41) = v1 c
          ∧ r.2.mem ((c.tc : Thread Cert.Reference2Ideal.nD Cert.Reference2Ideal.τ).loc Cert.Reference2Ideal.main_v42) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v58) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_v31) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)) (v4 : (c : Dev Cert.Kernel8Ideal.nD) → Buf (Elt Ideal) ((c.tc : Thread Cert.Kernel8Ideal.nD Cert.Kernel8Ideal.τ).loc Cert.Kernel8Ideal.main_v1_4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_v1_4) = v4 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v58) = v0 c
          ∧ r.2.mem ((c.tc : Thread Cert.Reference8Ideal.nD Cert.Reference8Ideal.τ).loc Cert.Reference8Ideal.main_v64) = v1 c
          ∧ r.2.mem ((c.tc : Thread Cert.Reference8Ideal.nD Cert.Reference8Ideal.τ).loc Cert.Reference8Ideal.main_v65) = v2 c
          ∧ r.2.mem ((c.tc : Thread Cert.Reference8Ideal.nD Cert.Reference8Ideal.τ).loc Cert.Reference8Ideal.main_v63) = v3 c
          ∧ r.2.mem ((c.tc : Thread Cert.Reference8Ideal.nD Cert.Reference8Ideal.τ).loc Cert.Reference8Ideal.main_v66) = v4 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v22) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v2) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v45) = v0 c
          ∧ r.2.mem ((c.tc : Thread Cert.Reference18Ideal.nD Cert.Reference18Ideal.τ).loc Cert.Reference18Ideal.main_v28) = v1 c
          ∧ r.2.mem ((c.tc : Thread Cert.Reference18Ideal.nD Cert.Reference18Ideal.τ).loc Cert.Reference18Ideal.main_v25) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v3) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v62) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== Kernel.lean ====
abbrev S8192x1024 : Shape := ⟨2, ![8192, 1024]⟩
abbrev S1024x1024 : Shape := ⟨2, ![1024, 1024]⟩
abbrev S8192x10240 : Shape := ⟨2, ![8192, 10240]⟩
abbrev S1x1024 : Shape := ⟨2, ![1, 1024]⟩
abbrev S1x8x128x128 : Shape := ⟨4, ![1, 8, 128, 128]⟩
abbrev S1x8x128 : Shape := ⟨3, ![1, 8, 128]⟩
abbrev S8192x10368 : Shape := ⟨2, ![8192, 10368]⟩
abbrev S8x128x128 : Shape := ⟨3, ![8, 128, 128]⟩
abbrev S8x128 : Shape := ⟨2, ![8, 128]⟩
abbrev S8x128x1 : Shape := ⟨3, ![8, 128, 1]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S128x128 : Shape := ⟨2, ![128, 128]⟩
abbrev S128x1024 : Shape := ⟨2, ![128, 1024]⟩
abbrev S1x128x128 : Shape := ⟨3, ![1, 128, 128]⟩
abbrev S1x128x1 : Shape := ⟨3, ![1, 128, 1]⟩
abbrev S128x1 : Shape := ⟨2, ![128, 1]⟩
abbrev S128 : Shape := ⟨1, ![128]⟩
abbrev S7x128x1 : Shape := ⟨3, ![7, 128, 1]⟩
abbrev S128x896 : Shape := ⟨2, ![128, 896]⟩
abbrev S7x128x128 : Shape := ⟨3, ![7, 128, 128]⟩
abbrev S6x128x1 : Shape := ⟨3, ![6, 128, 1]⟩
abbrev S128x768 : Shape := ⟨2, ![128, 768]⟩
abbrev S6x128x128 : Shape := ⟨3, ![6, 128, 128]⟩
abbrev S5x128x1 : Shape := ⟨3, ![5, 128, 1]⟩
abbrev S2x128x1 : Shape := ⟨3, ![2, 128, 1]⟩
abbrev S128x640 : Shape := ⟨2, ![128, 640]⟩
abbrev S128x256 : Shape := ⟨2, ![128, 256]⟩
abbrev S5x128x128 : Shape := ⟨3, ![5, 128, 128]⟩
abbrev S2x128x128 : Shape := ⟨3, ![2, 128, 128]⟩
abbrev S4x128x1 : Shape := ⟨3, ![4, 128, 1]⟩
abbrev S3x128x1 : Shape := ⟨3, ![3, 128, 1]⟩
abbrev S128x512 : Shape := ⟨2, ![128, 512]⟩
abbrev S128x384 : Shape := ⟨2, ![128, 384]⟩
abbrev S4x128x128 : Shape := ⟨3, ![4, 128, 128]⟩
abbrev S3x128x128 : Shape := ⟨3, ![3, 128, 128]⟩
abbrev S384x1024 : Shape := ⟨2, ![384, 1024]⟩
abbrev S256x1024 : Shape := ⟨2, ![256, 1024]⟩
abbrev S1024 : Shape := ⟨1, ![1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x10240, .bf16⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S8192x10368, .bf16⟩
  | .hbm, ⟨7, _⟩ => ⟨S8x128x128, .f32⟩
  | .hbm, ⟨8, _⟩ => ⟨S8x128, .f32⟩
  | .hbm, ⟨9, _⟩ => ⟨S8x128x1, .f32⟩
  | .hbm, ⟨10, _⟩ => ⟨S8192x10368, .bf16⟩
  | .hbm, ⟨11, _⟩ => ⟨S1x1024, .f32⟩
  | .hbm, ⟨12, _⟩ => ⟨S8x128x128, .f32⟩
  | .hbm, ⟨13, _⟩ => ⟨S8x128x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | .local _ .vmem, ⟨8, _⟩ => ⟨S8x128x128, .f32⟩
  | .local _ .vmem, ⟨9, _⟩ => ⟨S8x128x1, .f32⟩
  | .local _ .vmem, ⟨10, _⟩ => ⟨S512x2048, .bf16⟩
  | .local _ .vmem, ⟨11, _⟩ => ⟨S512x2048, .bf16⟩
  | .local _ .vmem, ⟨12, _⟩ => ⟨S1x1024, .f32⟩
  | .local _ .vmem, ⟨13, _⟩ => ⟨S8x128x128, .f32⟩
  | .local _ .vmem, ⟨14, _⟩ => ⟨S8x128x1, .f32⟩
  | .local _ .vmem, ⟨15, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x128x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S8192x1024 : Shape := ⟨2, ![8192, 1024]⟩
abbrev S1024x1024 : Shape := ⟨2, ![1024, 1024]⟩
abbrev S8192x10240 : Shape := ⟨2, ![8192, 10240]⟩
abbrev S1x1024 : Shape := ⟨2, ![1, 1024]⟩
abbrev S1x8x128x128 : Shape := ⟨4, ![1, 8, 128, 128]⟩
abbrev S1x8x128 : Shape := ⟨3, ![1, 8, 128]⟩
abbrev S8192x10368 : Shape := ⟨2, ![8192, 10368]⟩
abbrev S1x8192x1024 : Shape := ⟨3, ![1, 8192, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x64x128x8x128 : Shape := ⟨5, ![1, 64, 128, 8, 128]⟩
abbrev S128x128 : Shape := ⟨2, ![128, 128]⟩
abbrev S1x128x128 : Shape := ⟨3, ![1, 128, 128]⟩
abbrev S8x1x64x128x128 : Shape := ⟨5, ![8, 1, 64, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S8192 : Shape := ⟨1, ![8192]⟩
abbrev S8192x8320 : Shape := ⟨2, ![8192, 8320]⟩
abbrev S8x128x1 : Shape := ⟨3, ![8, 128, 1]⟩

abbrev nBuf : Space → Nat
  | .hbm => 211
  | .vmem => 0
  | .smem => 0
  | _ => 0

abbrev hbmTy0_0 (i : Nat) : BufTy := match i % 128 with
  | 0 => ⟨S8192x1024, .bf16⟩
  | 1 => ⟨S1024x1024, .bf16⟩
  | 2 => ⟨S8192x10240, .bf16⟩
  | 3 => ⟨S1x1024, .f32⟩
  | 4 => ⟨S1x8x128x128, .f32⟩
  | 5 => ⟨S1x8x128, .f32⟩
  | 6 => ⟨S8192x10368, .bf16⟩
  | 7 => ⟨S8192x10240, .f32⟩
  | 8 => ⟨S8192x1024, .f32⟩
  | 9 => ⟨S8192x1024, .f32⟩
  | 10 => ⟨S1024x1024, .f32⟩
  | 11 => ⟨S1x8192x1024, .f32⟩
  | 12 => ⟨S1x8192x1024, .f32⟩
  | 13 => ⟨S1024, .f32⟩
  | 14 => ⟨S8x128x128, .f32⟩
  | 15 => ⟨S8x128, .f32⟩
  | 16 => ⟨S1x8192x1024, .f32⟩
  | 17 => ⟨S1x8192x1024, .f32⟩
  | 18 => ⟨S1x8192x1024, .f32⟩
  | 19 => ⟨S_, .f32⟩
  | 20 => ⟨S1x8192x1024, .f32⟩
  | 21 => ⟨S1x8192x1024, .f32⟩
  | 22 => ⟨S_, .f32⟩
  | 23 => ⟨S1x8192x1024, .f32⟩
  | 24 => ⟨S1x8192x1024, .f32⟩
  | 25 => ⟨S1x8192x1024, .f32⟩
  | 26 => ⟨S_, .f32⟩
  | 27 => ⟨S1x8192x1024, .f32⟩
  | 28 => ⟨S1x8192x1024, .f32⟩
  | 29 => ⟨S1x8192x1024, .f32⟩
  | 30 => ⟨S_, .f32⟩
  | 31 => ⟨S1x8192x1024, .f32⟩
  | 32 => ⟨S1x8192x1024, .f32⟩
  | 33 => ⟨S_, .f32⟩
  | 34 => ⟨S1x8192x1024, .f32⟩
  | 35 => ⟨S1x8192x1024, .f32⟩
  | 36 => ⟨S1x8192x1024, .f32⟩
  | 37 => ⟨S_, .f32⟩
  | 38 => ⟨S1x8192x1024, .f32⟩
  | 39 => ⟨S1x8192x1024, .f32⟩
  | 40 => ⟨S_, .f32⟩
  | 41 => ⟨S1x8192x1024, .f32⟩
  | 42 => ⟨S1x8192x1024, .f32⟩
  | 43 => ⟨S1x8192x1024, .f32⟩
  | 44 => ⟨S1x8192x1024, .f32⟩
  | 45 => ⟨S1x8192x1024, .f32⟩
  | 46 => ⟨S1x8192x1024, .f32⟩
  | 47 => ⟨S_, .f32⟩
  | 48 => ⟨S1x8192x1024, .f32⟩
  | 49 => ⟨S1x8192x1024, .f32⟩
  | 50 => ⟨S_, .f32⟩
  | 51 => ⟨S1x8192x1024, .f32⟩
  | 52 => ⟨S1x8192x1024, .f32⟩
  | 53 => ⟨S1x8192x1024, .f32⟩
  | 54 => ⟨S_, .f32⟩
  | 55 => ⟨S1x8192x1024, .f32⟩
  | 56 => ⟨S1x8192x1024, .f32⟩
  | 57 => ⟨S1x8192x1024, .f32⟩
  | 58 => ⟨S_, .f32⟩
  | 59 => ⟨S1x8192x1024, .f32⟩
  | 60 => ⟨S1x8192x1024, .f32⟩
  | 61 => ⟨S_, .f32⟩
  | 62 => ⟨S1x8192x1024, .f32⟩
  | 63 => ⟨S1x8192x1024, .f32⟩
  | 64 => ⟨S1x8192x1024, .f32⟩
  | 65 => ⟨S_, .f32⟩
  | 66 => ⟨S1x8192x1024, .f32⟩
  | 67 => ⟨S1x8192x1024, .f32⟩
  | 68 => ⟨S_, .f32⟩
  | 69 => ⟨S1x8192x1024, .f32⟩
  | 70 => ⟨S1x8192x1024, .f32⟩
  | 71 => ⟨S1x8192x1024, .f32⟩
  | 72 => ⟨S1x8192x1024, .f32⟩
  | 73 => ⟨S_, .f32⟩
  | 74 => ⟨S1x8192x1024, .f32⟩
  | 75 => ⟨S1x8192x1024, .f32⟩
  | 76 => ⟨S_, .f32⟩
  | 77 => ⟨S1x8192, .f32⟩
  | 78 => ⟨S1x8192x1, .f32⟩
  | 79 => ⟨S_, .f32⟩
  | 80 => ⟨S1x8192x1, .f32⟩
  | 81 => ⟨S1x8192x1, .f32⟩
  | 82 => ⟨S_, .f32⟩
  | 83 => ⟨S1x8192x1, .f32⟩
  | 84 => ⟨S1x8192x1, .f32⟩
  | 85 => ⟨S1x8192x1, .f32⟩
  | 86 => ⟨S1x8192x1, .f32⟩
  | 87 => ⟨S_, .f32⟩
  | 88 => ⟨S1x8192x1, .f32⟩
  | 89 => ⟨S1x8192x1, .f32⟩
  | 90 => ⟨S1x8192x1024, .f32⟩
  | 91 => ⟨S1x8192x1024, .f32⟩
  | 92 => ⟨S1x1x1024, .f32⟩
  | 93 => ⟨S1x8192x1024, .f32⟩
  | 94 => ⟨S1x8192x1024, .f32⟩
  | 95 => ⟨S1x64x128x8x128, .f32⟩
  | 96 => ⟨S_, .i1⟩
  | 97 => ⟨S128x128, .i1⟩
  | 98 => ⟨S128x128, .i32⟩
  | 99 => ⟨S_, .i32⟩
  | 100 => ⟨S128x128, .i32⟩
  | 101 => ⟨S128x128, .i32⟩
  | 102 => ⟨S128x128, .i32⟩
  | 103 => ⟨S128x128, .i1⟩
  | 104 => ⟨S_, .i1⟩
  | 105 => ⟨S128x128, .i1⟩
  | 106 => ⟨S128x128, .i1⟩
  | 107 => ⟨S1x128x128, .i1⟩
  | 108 => ⟨S_, .f32⟩
  | 109 => ⟨S8x128x128, .f32⟩
  | 110 => ⟨S8x128x128, .i1⟩
  | 111 => ⟨S8x128x128, .f32⟩
  | 112 => ⟨S_, .f32⟩
  | 113 => ⟨S8x128x128, .f32⟩
  | 114 => ⟨S8x1x64x128x128, .f32⟩
  | 115 => ⟨S1x64x128x8x128, .f32⟩
  | 116 => ⟨S128x8, .f32⟩
  | 117 => ⟨S1x1x128x8x1, .f32⟩
  | 118 => ⟨S1x64x128x8x128, .f32⟩
  | 119 => ⟨S1x64x128x8x128, .f32⟩
  | 120 => ⟨S1x8192x1024, .f32⟩
  | 121 => ⟨S1x8192x1024, .f32⟩
  | 122 => ⟨S1x8192x1024, .f32⟩
  | 123 => ⟨S8192x1024, .f32⟩
  | 124 => ⟨S1x8192x1024, .f32⟩
  | 125 => ⟨S1x8192x1024, .f32⟩
  | 126 => ⟨S1x8192x1024, .f32⟩
  | 127 => ⟨S1x8192x1024, .f32⟩
  | _ => ⟨S8192x1024, .bf16⟩

abbrev hbmTy0_1 (i : Nat) : BufTy := match i % 128 with
  | 0 => ⟨S1x64x128x8x128, .f32⟩
  | 1 => ⟨S_, .f32⟩
  | 2 => ⟨S1x128x8, .f32⟩
  | 3 => ⟨S1x1x128x8x1, .f32⟩
  | 4 => ⟨S_, .f32⟩
  | 5 => ⟨S128x8, .f32⟩
  | 6 => ⟨S8x128, .f32⟩
  | 7 => ⟨S8x1x64x128x128, .f32⟩
  | 8 => ⟨S8x128x128, .f32⟩
  | 9 => ⟨S8x1x64x128x128, .f32⟩
  | 10 => ⟨S1x64x128x8x128, .f32⟩
  | 11 => ⟨S_, .f32⟩
  | 12 => ⟨S8x128x128, .f32⟩
  | 13 => ⟨S8x128x128, .f32⟩
  | 14 => ⟨S1x8192x1024, .f32⟩
  | 15 => ⟨S1x8192x1024, .f32⟩
  | 16 => ⟨S_, .f32⟩
  | 17 => ⟨S1x1024, .f32⟩
  | 18 => ⟨S1x1x1024, .f32⟩
  | 19 => ⟨S1x8192x1024, .f32⟩
  | 20 => ⟨S1x8192x1024, .f32⟩
  | 21 => ⟨S_, .f32⟩
  | 22 => ⟨S1024, .f32⟩
  | 23 => ⟨S1x8192x1024, .f32⟩
  | 24 => ⟨S_, .f32⟩
  | 25 => ⟨S1x8192, .f32⟩
  | 26 => ⟨S1x8192x1, .f32⟩
  | 27 => ⟨S1x8192x1024, .f32⟩
  | 28 => ⟨S1x8192x1024, .f32⟩
  | 29 => ⟨S1x8192x1, .f32⟩
  | 30 => ⟨S_, .f32⟩
  | 31 => ⟨S1x8192x1, .f32⟩
  | 32 => ⟨S1x8192x1, .f32⟩
  | 33 => ⟨S_, .f32⟩
  | 34 => ⟨S8192, .f32⟩
  | 35 => ⟨S1x8192, .f32⟩
  | 36 => ⟨S1x8192x1024, .f32⟩
  | 37 => ⟨S1x8192x1024, .f32⟩
  | 38 => ⟨S1x8192x1024, .f32⟩
  | 39 => ⟨S1x8192x1024, .f32⟩
  | 40 => ⟨S1x8192x1024, .f32⟩
  | 41 => ⟨S_, .f32⟩
  | 42 => ⟨S1x8192x1024, .f32⟩
  | 43 => ⟨S1x8192x1024, .f32⟩
  | 44 => ⟨S1x8192x1024, .f32⟩
  | 45 => ⟨S_, .f32⟩
  | 46 => ⟨S1x8192x1024, .f32⟩
  | 47 => ⟨S1x8192x1024, .f32⟩
  | 48 => ⟨S1x8192x1024, .f32⟩
  | 49 => ⟨S_, .f32⟩
  | 50 => ⟨S1x8192x1024, .f32⟩
  | 51 => ⟨S1x8192x1024, .f32⟩
  | 52 => ⟨S1x8192x1024, .f32⟩
  | 53 => ⟨S1x8192x1024, .f32⟩
  | 54 => ⟨S1x8192x1024, .f32⟩
  | 55 => ⟨S1x8192x1024, .f32⟩
  | 56 => ⟨S_, .f32⟩
  | 57 => ⟨S1x8192x1024, .f32⟩
  | 58 => ⟨S1x8192x1024, .f32⟩
  | 59 => ⟨S1x8192x1024, .f32⟩
  | 60 => ⟨S_, .f32⟩
  | 61 => ⟨S1x8192x1024, .f32⟩
  | 62 => ⟨S1x8192x1024, .f32⟩
  | 63 => ⟨S1x8192x1024, .f32⟩
  | 64 => ⟨S_, .f32⟩
  | 65 => ⟨S1x8192x1024, .f32⟩
  | 66 => ⟨S1x8192x1024, .f32⟩
  | 67 => ⟨S1x8192x1024, .f32⟩
  | 68 => ⟨S1x8192x1024, .f32⟩
  | 69 => ⟨S1x8x128, .f32⟩
  | 70 => ⟨S1x8x128x128, .f32⟩
  | 71 => ⟨S1x1024, .f32⟩
  | 72 => ⟨S_, .f32⟩
  | 73 => ⟨S8192x1024, .f32⟩
  | 74 => ⟨S_, .f32⟩
  | 75 => ⟨S8192x1024, .f32⟩
  | 76 => ⟨S8192x8320, .bf16⟩
  | 77 => ⟨S8192x8320, .f32⟩
  | 78 => ⟨S8192x10368, .f32⟩
  | 79 => ⟨S8192x10368, .bf16⟩
  | 80 => ⟨S8x128x128, .f32⟩
  | 81 => ⟨S8x128, .f32⟩
  | 82 => ⟨S8x128x1, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_13 : Ref sig .tc := ⟨.hbm, 73, rfl⟩
abbrev main_v52 : Ref sig .tc := ⟨.hbm, 74, rfl⟩
abbrev main_v53 : Ref sig .tc := ⟨.hbm, 75, rfl⟩
abbrev main_cst_14 : Ref sig .tc := ⟨.hbm, 76, rfl⟩
abbrev main_v54 : Ref sig .tc := ⟨.hbm, 77, rfl⟩
abbrev main_v55 : Ref sig .tc := ⟨.hbm, 78, rfl⟩
abbrev main_cst_15 : Ref sig .tc := ⟨.hbm, 79, rfl⟩
abbrev main_v56 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_17 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c : Ref sig .tc := ⟨.hbm, 96, rfl⟩
abbrev main_v70 : Ref sig .tc := ⟨.hbm, 97, rfl⟩
abbrev main_call0_v0 : Ref sig .tc := ⟨.hbm, 98, rfl⟩
abbrev main_call0_c : Ref sig .tc := ⟨.hbm, 99, rfl⟩
abbrev main_call0_v1 : Ref sig .tc := ⟨.hbm, 100, rfl⟩
abbrev main_call0_v2 : Ref sig .tc := ⟨.hbm, 101, rfl⟩
abbrev main_call0_v3 : Ref sig .tc := ⟨.hbm, 102, rfl⟩
abbrev main_call0_v4 : Ref sig .tc := ⟨.hbm, 103, rfl⟩
abbrev main_call0_c_0 : Ref sig .tc := ⟨.hbm, 104, rfl⟩
abbrev main_call0_v5 : Ref sig .tc := ⟨.hbm, 105, rfl⟩
abbrev main_v71 : Ref sig .tc := ⟨.hbm, 106, rfl⟩
abbrev main_v72 : Ref sig .tc := ⟨.hbm, 107, rfl⟩
abbrev main_cst_18 : Ref sig .tc := ⟨.hbm, 108, rfl⟩
abbrev main_v73 : Ref sig .tc := ⟨.hbm, 109, rfl⟩
abbrev main_v74_1 : Ref sig .tc := ⟨.hbm, 110, rfl⟩
abbrev main_v74_0 : Ref sig .tc := ⟨.hbm, 111, rfl⟩
abbrev main_call1_cst : Ref sig .tc := ⟨.hbm, 112, rfl⟩
abbrev main_v74_2 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_19 : Ref sig .tc := ⟨.hbm, 129, rfl⟩
abbrev main_v90 : Ref sig .tc := ⟨.hbm, 130, rfl⟩
abbrev main_v91 : Ref sig .tc := ⟨.hbm, 131, rfl⟩
abbrev main_cst_20 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_call2_cst : Ref sig .tc := ⟨.hbm, 139, rfl⟩
abbrev main_call2_v0 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_cst_21 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_22 : Ref sig .tc := ⟨.hbm, 149, rfl⟩
abbrev main_v105 : Ref sig .tc := ⟨.hbm, 150, rfl⟩
abbrev main_v106 : Ref sig .tc := ⟨.hbm, 151, rfl⟩
abbrev main_cst_23 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_24 : Ref sig .tc := ⟨.hbm, 158, rfl⟩
abbrev main_v112 : Ref sig .tc := ⟨.hbm, 159, rfl⟩
abbrev main_v113 : Ref sig .tc := ⟨.hbm, 160, rfl⟩
abbrev main_cst_25 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_cst_26 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_27 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_cst_28 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_cst_29 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_30 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_31 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_32 : Ref sig .tc := ⟨.hbm, 200, rfl⟩
abbrev main_v146 : Ref sig .tc := ⟨.hbm, 201, rfl⟩
abbrev main_cst_33 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩

abbrev nD : Nat := 1
abbrev τ : Topo := Topo.v7x

variable {F : FTy → Type} [FloatOps F]
-- ==== Kernel2.lean ====
abbrev S8192x1024 : Shape := ⟨2, ![8192, 1024]⟩
abbrev S1024x1024 : Shape := ⟨2, ![1024, 1024]⟩
abbrev S8192x10240 : Shape := ⟨2, ![8192, 10240]⟩
abbrev S8192x10368 : Shape := ⟨2, ![8192, 10368]⟩
abbrev S512x1024 : Shape := ⟨2, ![512, 1024]⟩
abbrev S512x2048 : Shape := ⟨2, ![512, 2048]⟩
abbrev S8x128 : Shape := ⟨2, ![8, 128]⟩

abbrev nBuf : Space → Nat
  | .hbm => 9
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x10240, .bf16⟩
  | .hbm, ⟨3, _⟩ => ⟨S8192x1024, .bf16⟩
  | .hbm, ⟨4, _⟩ => ⟨S8192x1024, .bf16⟩
  | .hbm, ⟨5, _⟩ => ⟨S8192x10368, .bf16⟩
  | .hbm, ⟨6, _⟩ => ⟨S8192x10368, .bf16⟩
  | .hbm, ⟨7, _⟩ => ⟨S8192x1024, .bf16⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, c4_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S8192x1024 : Shape := ⟨2, ![8192, 1024]⟩
abbrev S1024x1024 : Shape := ⟨2, ![1024, 1024]⟩
abbrev S8192x10240 : Shape := ⟨2, ![8192, 10240]⟩
abbrev S8192x10368 : Shape := ⟨2, ![8192, 10368]⟩
abbrev S_ : Shape := ⟨0, ![]⟩
abbrev S8192x8192 : Shape := ⟨2, ![8192, 8192]⟩
abbrev S8192x128 : Shape := ⟨2, ![8192, 128]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x10240, .bf16⟩
  | .hbm, ⟨3, _⟩ => ⟨S8192x1024, .bf16⟩
  | .hbm, ⟨4, _⟩ => ⟨S8192x1024, .bf16⟩
  | .hbm, ⟨5, _⟩ => ⟨S8192x10368, .bf16⟩
  | .hbm, ⟨6, _⟩ => ⟨S8192x1024, .f32⟩
  | .hbm, ⟨7, _⟩ => ⟨S1024x1024, .f32⟩
  | .hbm, ⟨8, _⟩ => ⟨S8192x10240, .f32⟩
  | .hbm, ⟨9, _⟩ => ⟨S8192x1024, .f32⟩
  | .hbm, ⟨10, _⟩ => ⟨S8192x1024, .f32⟩
  | .hbm, ⟨11, _⟩ => ⟨S8192x10368, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x8192, .f32⟩
  | .hbm, ⟨50, _⟩ => ⟨S8192x128, .f32⟩
  | .hbm, ⟨51, _⟩ => ⟨S8192x10368, .f32⟩
  | .hbm, ⟨52, _⟩ => ⟨S8192x10368, .bf16⟩
  | .hbm, ⟨53, _⟩ => ⟨S8192x1024, .bf16⟩
  | .hbm, ⟨54, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel3.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1024 : Shape := ⟨1, ![1024]⟩

abbrev nBuf : Space → Nat
  | .hbm => 13
  | .vmem => 20
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== Reference3Ideal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 81
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1024x4096, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x4096, .f32⟩
  | .hbm, ⟨43, _⟩ => ⟨S8192x4096, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S_, .f32⟩
  | .hbm, ⟨69, _⟩ => ⟨S8192, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel4.lean ====
abbrev S8192x1024 : Shape := ⟨2, ![8192, 1024]⟩
abbrev S4096x1024 : Shape := ⟨2, ![4096, 1024]⟩
abbrev S8192x4096 : Shape := ⟨2, ![8192, 4096]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S8192x1024 : Shape := ⟨2, ![8192, 1024]⟩
abbrev S4096x1024 : Shape := ⟨2, ![4096, 1024]⟩
abbrev S8192x4096 : Shape := ⟨2, ![8192, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4096x1024, .bf16⟩
  | .hbm, ⟨2, _⟩ => ⟨S8192x4096, .bf16⟩
  | .hbm, ⟨3, _⟩ => ⟨S8192x1024, .f32⟩
  | .hbm, ⟨4, _⟩ => ⟨S4096x1024, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel5.lean ====
abbrev S8192x4096 : Shape := ⟨2, ![8192, 4096]⟩
abbrev S8192x1024 : Shape := ⟨2, ![8192, 1024]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32_7 : BitVec 32 := 3#32
  let v16 : BitVec 1 := Scalar.cmpi .eq arg2 c3_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S4096x1024, .f32⟩
  | .hbm, ⟨9, _⟩ => ⟨S8192x1024, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S_, .f32⟩
  | .hbm, ⟨4, _⟩ => ⟨S1024x4096, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x1024 : Shape := ⟨2, ![8192, 1024]⟩
abbrev S8192x10368 : Shape := ⟨2, ![8192, 10368]⟩
abbrev S1024x10368 : Shape := ⟨2, ![1024, 10368]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S1024x10368, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 9, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S8192x10368 : Shape := ⟨2, ![8192, 10368]⟩
abbrev S_ : Shape := ⟨0, ![]⟩
abbrev S1024x10368 : Shape := ⟨2, ![1024, 10368]⟩
abbrev S10368x1024 : Shape := ⟨2, ![10368, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x10368, .bf16⟩
  | .hbm, ⟨2, _⟩ => ⟨S8192x1024, .f32⟩
  | .hbm, ⟨3, _⟩ => ⟨S_, .f32⟩
  | .hbm, ⟨4, _⟩ => ⟨S1024x10368, .f32⟩
  | .hbm, ⟨5, _⟩ => ⟨S8192x10368, .f32⟩
  | .hbm, ⟨6, _⟩ => ⟨S8192x10368, .f32⟩
  | .hbm, ⟨7, _⟩ => ⟨S10368x1024, .f32⟩
  | .hbm, ⟨8, _⟩ => ⟨S1024x10368, .f32⟩
  | .hbm, ⟨9, _⟩ => ⟨S1024x10368, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024 : Shape := ⟨1, ![1024]⟩
abbrev S1x128 : Shape := ⟨2, ![1, 128]⟩
abbrev S512x4096 : Shape := ⟨2, ![512, 4096]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩

abbrev nBuf : Space → Nat
  | .hbm => 12
  | .vmem => 17
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x128, .f32⟩
  | .hbm, ⟨10, _⟩ => ⟨S1x1024, .f32⟩
  | .hbm, ⟨11, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x128, .f32⟩
  | .local _ .vmem, ⟨14, _⟩ => ⟨S1x1024, .f32⟩
  | .local _ .vmem, ⟨15, _⟩ => ⟨S1x1024, .f32⟩
  | .local _ .vmem, ⟨16, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference8Ideal.lean ====
abbrev S8192x4096 : Shape := ⟨2, ![8192, 4096]⟩
abbrev S4096x1024 : Shape := ⟨2, ![4096, 1024]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 94
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S4096x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S8192, .f32⟩
  | .hbm, ⟨57, _⟩ => ⟨S_, .f32⟩
  | .hbm, ⟨58, _⟩ => ⟨S8192, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S8192x1024, .f32⟩
  | .hbm, ⟨75, _⟩ => ⟨S8192x1024, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S8192x1024, .bf16⟩
  | .hbm, ⟨92, _⟩ => ⟨S1x128, .f32⟩
  | .hbm, ⟨93, _⟩ => ⟨S1x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_cst_9 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_12 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_cst_16 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S8192x1024 : Shape := ⟨2, ![8192, 1024]⟩
abbrev S1024x10368 : Shape := ⟨2, ![1024, 10368]⟩
abbrev S8192x10240 : Shape := ⟨2, ![8192, 10240]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S8192x10240, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x1024 : Shape := ⟨2, ![8192, 1024]⟩
abbrev S1024x10368 : Shape := ⟨2, ![1024, 10368]⟩
abbrev S8192x10368 : Shape := ⟨2, ![8192, 10368]⟩
abbrev S8192x10240 : Shape := ⟨2, ![8192, 10240]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S8192x1024, .f32⟩
  | .hbm, ⟨3, _⟩ => ⟨S1024x10368, .f32⟩
  | .hbm, ⟨4, _⟩ => ⟨S8192x10368, .f32⟩
  | .hbm, ⟨5, _⟩ => ⟨S8192x10240, .f32⟩
  | .hbm, ⟨6, _⟩ => ⟨S8192x10240, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel15.lean ====
abbrev S8192x1024 : Shape := ⟨2, ![8192, 1024]⟩
abbrev S1024x1024 : Shape := ⟨2, ![1024, 1024]⟩
abbrev S2048x1024 : Shape := ⟨2, ![2048, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8192x2048 : Shape := ⟨2, ![8192, 2048]⟩
abbrev S2048x1024 : Shape := ⟨2, ![2048, 1024]⟩
abbrev S8192x10240 : Shape := ⟨2, ![8192, 10240]⟩
abbrev S8192x1024 : Shape := ⟨2, ![8192, 1024]⟩
abbrev S512x2048 : Shape := ⟨2, ![512, 2048]⟩
abbrev S512x1024 : Shape := ⟨2, ![512, 1024]⟩
abbrev S8x128 : Shape := ⟨2, ![8, 128]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x10240, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference16Ideal.lean ====
abbrev S8192x2048 : Shape := ⟨2, ![8192, 2048]⟩
abbrev S2048x1024 : Shape := ⟨2, ![2048, 1024]⟩
abbrev S8192x10240 : Shape := ⟨2, ![8192, 10240]⟩
abbrev S8192x1024 : Shape := ⟨2, ![8192, 1024]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x10240, .bf16⟩
  | .hbm, ⟨3, _⟩ => ⟨S8192x1024, .bf16⟩
  | .hbm, ⟨4, _⟩ => ⟨S8192x2048, .f32⟩
  | .hbm, ⟨5, _⟩ => ⟨S2048x1024, .f32⟩
  | .hbm, ⟨6, _⟩ => ⟨S8192x10240, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel17.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S8x128 : Shape := ⟨2, ![8, 128]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference17Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 36
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel18.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference18Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_cst_11 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== Kernel19.lean ====
abbrev S8192x10240 : Shape := ⟨2, ![8192, 10240]⟩
abbrev S1x1024 : Shape := ⟨2, ![1, 1024]⟩
abbrev S1x8x128x128 : Shape := ⟨4, ![1, 8, 128, 128]⟩
abbrev S1x8x128 : Shape := ⟨3, ![1, 8, 128]⟩
abbrev S8x128x128 : Shape := ⟨3, ![8, 128, 128]⟩
abbrev S8x128 : Shape := ⟨2, ![8, 128]⟩
abbrev S8x128x1 : Shape := ⟨3, ![8, 128, 1]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S128x1024 : Shape := ⟨2, ![128, 1024]⟩
abbrev S1x128x128 : Shape := ⟨3, ![1, 128, 128]⟩
abbrev S1x128x1 : Shape := ⟨3, ![1, 128, 1]⟩
abbrev S128x1 : Shape := ⟨2, ![128, 1]⟩

abbrev nBuf : Space → Nat
  | .hbm => 8
  | .vmem => 9
  | .smem => 0
  | _ => 0

abbrev bufTy : (tb : Table) → Fin (tcTables nBuf tb) → BufTy
  | .hbm, ⟨0, _⟩ => ⟨S8192x10240, .bf16⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S8x128x128, .f32⟩
  | .hbm, ⟨5, _⟩ => ⟨S8x128, .f32⟩
  | .hbm, ⟨6, _⟩ => ⟨S8x128x1, .f32⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S8x128x128, .f32⟩
  | .local _ .vmem, ⟨6, _⟩ => ⟨S8x128x1, .f32⟩
  | .local _ .vmem, ⟨7, _⟩ => ⟨S512x1024, .bf16⟩
  | .local _ .vmem, ⟨8, _⟩ => ⟨S512x1024, .bf16⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference19Ideal.lean ====
abbrev S8192x10240 : Shape := ⟨2, ![8192, 10240]⟩
abbrev S1x1024 : Shape := ⟨2, ![1, 1024]⟩
abbrev S1x8x128x128 : Shape := ⟨4, ![1, 8, 128, 128]⟩
abbrev S1x8x128 : Shape := ⟨3, ![1, 8, 128]⟩
abbrev S8192x1024 : Shape := ⟨2, ![8192, 1024]⟩
abbrev S1x8192x1024 : Shape := ⟨3, ![1, 8192, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x64x128x8x128 : Shape := ⟨5, ![1, 64, 128, 8, 128]⟩
abbrev S128x128 : Shape := ⟨2, ![128, 128]⟩
abbrev S1x128x128 : Shape := ⟨3, ![1, 128, 128]⟩
abbrev S8x1x64x128x128 : Shape := ⟨5, ![8, 1, 64, 128, 128]⟩
abbrev S128x8 : Shape := ⟨2, ![128, 8]⟩
abbrev S1x1x128x8x1 : Shape := ⟨5, ![1, 1, 128, 8, 1]⟩

abbrev nBuf : Space → Nat
  | .hbm => 89
  | .vmem => 0
  | .smem => 0
  | _ => 0

abbrev bufTy : (tb : Table) → Fin (tcTables nBuf tb) → BufTy
  | .hbm, ⟨0, _⟩ => ⟨S8192x10240, .bf16⟩
  | .hbm, ⟨1, _⟩ => ⟨S1x1024, .f32⟩
  | .hbm, ⟨2, _⟩ => ⟨S1x8x128x128, .f32⟩
  | .hbm, ⟨3, _⟩ => ⟨S1x8x128, .f32⟩
  | .hbm, ⟨4, _⟩ => ⟨S8192x10240, .f32⟩
  | .hbm, ⟨5, _⟩ => ⟨S8192x1024, .f32⟩
  | .hbm, ⟨6, _⟩ => ⟨S8192x1024, .f32⟩
  | .hbm, ⟨7, _⟩ => ⟨S1x8192x1024, .f32⟩
  | .hbm, ⟨8, _⟩ => ⟨S1x8192x1024, .f32⟩
  | .hbm, ⟨9, _⟩ => ⟨S1024, .f32⟩
  | .hbm, ⟨10, _⟩ => ⟨S8x128x128, .f32⟩
  | .hbm, ⟨11, _⟩ => ⟨S8x128, .f32⟩
  | .hbm, ⟨12, _⟩ => ⟨S1x8192x1024, .f32⟩
  | .hbm, ⟨13, _⟩ => ⟨S1x8192x1024, .f32⟩
  | .hbm, ⟨14, _⟩ => ⟨S_, .f32⟩
  | .hbm, ⟨15, _⟩ => ⟨S1x8192x1024, .f32⟩
  | .hbm, ⟨16, _⟩ => ⟨S1x8192x1024, .f32⟩
  | .hbm, ⟨17, _⟩ => ⟨S1x8192x1024, .f32⟩
  | .hbm, ⟨18, _⟩ => ⟨S_, .f32⟩
  | .hbm, ⟨19, _⟩ => ⟨S1x8192x1024, .f32⟩
  | .hbm, ⟨20, _⟩ => ⟨S1x8192x1024, .f32⟩
  | .hbm, ⟨21, _⟩ => ⟨S1x8192x1024, .f32⟩
  | .hbm, ⟨22, _⟩ => ⟨S_, .f32⟩
  | .hbm, ⟨23, _⟩ => ⟨S1x8192x1024, .f32⟩
  | .hbm, ⟨24, _⟩ => ⟨S1x8192x1024, .f32⟩
  | .hbm, ⟨25, _⟩ => ⟨S_, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S1x8192x1024, .f32⟩
  | .hbm, ⟨31, _⟩ => ⟨S_, .f32⟩
  | .hbm, ⟨32, _⟩ => ⟨S1x8192x1024, .f32⟩
  | .hbm, ⟨33, _⟩ => ⟨S1x8192x1024, .f32⟩
  | .hbm, ⟨34, _⟩ => ⟨S1x8192x1024, .f32⟩
  | .hbm, ⟨35, _⟩ => ⟨S_, .f32⟩
  | .hbm, ⟨36, _⟩ => ⟨S1x8192x1024, .f32⟩
  | .hbm, ⟨37, _⟩ => ⟨S1x8192x1024, .f32⟩
  | .hbm, ⟨38, _⟩ => ⟨S1x8192x1024, .f32⟩
  | .hbm, ⟨39, _⟩ => ⟨S_, .f32⟩
  | .hbm, ⟨40, _⟩ => ⟨S1x8192x1024, .f32⟩
  | .hbm, ⟨41, _⟩ => ⟨S1x8192x1024, .f32⟩
  | .hbm, ⟨42, _⟩ => ⟨S_, .f32⟩
  | .hbm, ⟨43, _⟩ => ⟨S1x8192x1024, .f32⟩
  | .hbm, ⟨44, _⟩ => ⟨S1x8192x1024, .f32⟩
  | .hbm, ⟨45, _⟩ => ⟨S1x8192x1024, .f32⟩
  | .hbm, ⟨46, _⟩ => ⟨S1x8192x1024, .f32⟩
  | .hbm, ⟨47, _⟩ => ⟨S_, .f32⟩
  | .hbm, ⟨48, _⟩ => ⟨S1x8192, .f32⟩
  | .hbm, ⟨49, _⟩ => ⟨S1x8192x1, .f32⟩
  | .hbm, ⟨50, _⟩ => ⟨S_, .f32⟩
  | .hbm, ⟨51, _⟩ => ⟨S1x8192x1, .f32⟩
  | .hbm, ⟨52, _⟩ => ⟨S1x8192x1, .f32⟩
  | .hbm, ⟨53, _⟩ => ⟨S_, .f32⟩
  | .hbm, ⟨54, _⟩ => ⟨S1x8192x1, .f32⟩
  | .hbm, ⟨55, _⟩ => ⟨S1x8192x1, .f32⟩
  | .hbm, ⟨56, _⟩ => ⟨S1x8192x1, .f32⟩
  | .hbm, ⟨57, _⟩ => ⟨S1x8192x1024, .f32⟩
  | .hbm, ⟨58, _⟩ => ⟨S1x8192x1024, .f32⟩
  | .hbm, ⟨59, _⟩ => ⟨S1x1x1024, .f32⟩
  | .hbm, ⟨60, _⟩ => ⟨S1x8192x1024, .f32⟩
  | .hbm, ⟨61, _⟩ => ⟨S1x8192x1024, .f32⟩
  | .hbm, ⟨62, _⟩ => ⟨S1x64x128x8x128, .f32⟩
  | .hbm, ⟨63, _⟩ => ⟨S_, .i1⟩
  | .hbm, ⟨64, _⟩ => ⟨S128x128, .i1⟩
  | .hbm, ⟨65, _⟩ => ⟨S128x128, .i32⟩
  | .hbm, ⟨66, _⟩ => ⟨S_, .i32⟩
  | .hbm, ⟨67, _⟩ => ⟨S128x128, .i32⟩
  | .hbm, ⟨68, _⟩ => ⟨S128x128, .i32⟩
  | .hbm, ⟨69, _⟩ => ⟨S128x128, .i32⟩
  | .hbm, ⟨70, _⟩ => ⟨S128x128, .i1⟩
  | .hbm, ⟨71, _⟩ => ⟨S_, .i1⟩
  | .hbm, ⟨72, _⟩ => ⟨S128x128, .i1⟩
  | .hbm, ⟨73, _⟩ => ⟨S128x128, .i1⟩
  | .hbm, ⟨74, _⟩ => ⟨S1x128x128, .i1⟩
  | .hbm, ⟨75, _⟩ => ⟨S_, .f32⟩
  | .hbm, ⟨76, _⟩ => ⟨S8x128x128, .f32⟩
  | .hbm, ⟨77, _⟩ => ⟨S8x128x128, .i1⟩
  | .hbm, ⟨78, _⟩ => ⟨S8x128x128, .f32⟩
  | .hbm, ⟨79, _⟩ => ⟨S8x1x64x128x128, .f32⟩
  | .hbm, ⟨80, _⟩ => ⟨S1x64x128x8x128, .f32⟩
  | .hbm, ⟨81, _⟩ => ⟨S128x8, .f32⟩
  | .hbm, ⟨82, _⟩ => ⟨S1x1x128x8x1, .f32⟩
  | .hbm, ⟨83, _⟩ => ⟨S1x64x128x8x128, .f32⟩
  | .hbm, ⟨84, _⟩ => ⟨S1x64x128x8x128, .f32⟩
  | .hbm, ⟨85, _⟩ => ⟨S1x8192x1024, .f32⟩
  | .hbm, ⟨86, _⟩ => ⟨S1x8192x1024, .f32⟩
  | .hbm, ⟨87, _⟩ => ⟨S8192x1024, .f32⟩
  | .hbm, ⟨88, _⟩ => ⟨S8192x1024, .bf16⟩
  | _, _ => ⟨S8192x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c : Ref sig .tc := ⟨.hbm, 63, rfl⟩
abbrev main_v48 : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_c_0 : Ref sig .tc := ⟨.hbm, 71, rfl⟩
abbrev main_call0_v5 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== Kernel20.lean ====
abbrev S8192x1024 : Shape := ⟨2, ![8192, 1024]⟩
abbrev S1024x10368 : Shape := ⟨2, ![1024, 10368]⟩
abbrev S1024x128 : Shape := ⟨2, ![1024, 128]⟩
abbrev S8192x128 : Shape := ⟨2, ![8192, 128]⟩
abbrev S1024x1024 : Shape := ⟨2, ![1024, 1024]⟩
abbrev S8x128 : Shape := ⟨2, ![8, 128]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S1024x128, .bf16⟩
  | .hbm, ⟨3, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S8192x1024 : Shape := ⟨2, ![8192, 1024]⟩
abbrev S1024x10368 : Shape := ⟨2, ![1024, 10368]⟩
abbrev S1024x128 : Shape := ⟨2, ![1024, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x10368, .bf16⟩
  | .hbm, ⟨2, _⟩ => ⟨S8192x1024, .f32⟩
  | .hbm, ⟨3, _⟩ => ⟨S1024x10368, .f32⟩
  | .hbm, ⟨4, _⟩ => ⟨S1024x128, .f32⟩
  | .hbm, ⟨5, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.SguBlock.lean ====
module

public import proofs.«01_k».proof.Proof.Gen.KernelIdeal.Value
public import Idealize.ShloMosaic.Lib.Pipeline.ValueKit
public import Idealize.ShloMosaic.Lib.Pointwise

/-! The block's values as compositions over chunk `n` of 128 rows and group `g` of 128 columns: the printed body writes
    each of the 32 pairs out, the definitions here name one pair's value once. -/

@[expose] public section

set_option maxRecDepth 16384

noncomputable section

namespace Cert.Sgu

open Cert.KernelIdeal Cert.KernelIdeal.Gen Idealize.ShloMosaic

variable {F : FTy → Type} [FloatOps F]

/-- Group `g`'s matrix lies in the stack of eight. -/
theorem mat_slices (g : Fin 8) : S8x128x128.Slices ![(g : ℕ), 0, 0] S1x128x128 := by revert g; decide

/-- Group `g`'s bias lies in the stack of eight. -/
theorem bias_slices (g : Fin 8) : S8x128x1.Slices ![(g : ℕ), 0, 0] S1x128x1 := by revert g; decide

/-- Chunk `n`'s rows lie in the block. -/
theorem rows_slices (n : Fin 4) : S512x1024.Slices ![128 * (n : ℕ), 0] S128x1024 := by revert n; decide

/-- Group `g`'s columns lie in the chunk. -/
theorem cols_slices (g : Fin 8) : S128x1024.Slices ![0, 128 * (g : ℕ)] S128x128 := by revert g; decide

/-- Group `g`'s 128 × 128 mixing matrix, its entries above the diagonal replaced by zero. -/
def mixW (ws : FVec F S8x128x128 .f32) (g : Fin 8) : FVec F S128x128 .f32 :=
  select k0_pay23 (shapeCast S128x128 (extractStridedSlice S1x128x128 ![(g : ℕ), 0, 0] ws (mat_slices g))
    shapeCasts_S1x128x128_S128x128) (broadcast S128x128 (Scalar.ofBits .f32 0x00000000#32))

/-- The 128 rows of chunk `n`. -/
def rowsOf (X : FVec F S512x1024 .f32) (n : Fin 4) : FVec F S128x1024 .f32 :=
  extractStridedSlice S128x1024 ![128 * (n : ℕ), 0] X (rows_slices n)

/-- The 128 columns of group `g`. -/
def colsOf (X : FVec F S128x1024 .f32) (g : Fin 8) : FVec F S128x128 .f32 :=
  extractStridedSlice S128x128 ![0, 128 * (g : ℕ)] X (cols_slices g)

/-- Chunk `n`, group `g` of a block. -/
def tileOf (X : FVec F S512x1024 .f32) (n : Fin 4) (g : Fin 8) : FVec F S128x128 .f32 := colsOf (rowsOf X n) g

/-- The mixed values of one tile: the causal matrix times the tile, plus the group's bias. -/
def mixTile (ws : FVec F S8x128x128 .f32) (bs : FVec F S8x128x1 .f32) (vn : FVec F S512x1024 .f32) (n : Fin 4) (g : Fin 8) :
    FVec F S128x128 .f32 :=
  addf (matmul dot_S128x128_S128x128_S128x128_1_0_0_1_n_n none (truncf .bf16 (mixW ws g) bitsLt_bf16_f32)
      (truncf .bf16 (tileOf vn n g) bitsLt_bf16_f32) (constant S128x128 .f32 0x00000000#32))
    (broadcastTo S128x128 (shapeCast S128x1 (extractStridedSlice S1x128x1 ![(g : ℕ), 0, 0] bs (bias_slices g))
      shapeCasts_S1x128x1_S128x1) broadcasts_S128x1_S128x128)

/-- The mixed values of one chunk: its eight groups side by side. -/
def mixChunk (ws : FVec F S8x128x128 .f32) (bs : FVec F S8x128x1 .f32) (vn : FVec F S512x1024 .f32) (n : Fin 4) :
    FVec F S128x1024 .f32 :=
  concatenate S128x1024 1 [⟨S128x128, mixTile ws bs vn n 0⟩, ⟨S128x128, mixTile ws bs vn n 1⟩, ⟨S128x128, mixTile ws bs vn n 2⟩, ⟨S128x128, mixTile ws bs vn n 3⟩, ⟨S128x128, mixTile ws bs vn n 4⟩, ⟨S128x128, mixTile ws bs vn n 5⟩, ⟨S128x128, mixTile ws bs vn n 6⟩, ⟨S128x128, mixTile ws bs vn n 7⟩]
    concatenates_S128x128_S128x128_S128x128_S128x128_S128x128_S128x128_S128x128_S128x128_S128x1024_d1

/-- The mixed values of the block: its four chunks one below another. -/
def mixBlock (ws : FVec F S8x128x128 .f32) (bs : FVec F S8x128x1 .f32) (vn : FVec F S512x1024 .f32) : FVec F S512x1024 .f32 :=
  concatenate S512x1024 0 [⟨S128x1024, mixChunk ws bs vn 0⟩, ⟨S128x1024, mixChunk ws bs vn 1⟩, ⟨S128x1024, mixChunk ws bs vn 2⟩, ⟨S128x1024, mixChunk ws bs vn 3⟩]
    concatenates_S128x1024_S128x1024_S128x1024_S128x1024_S512x1024_d0

/-- A group's bias gradient put at its place among the eight, zeros elsewhere. -/
def putBias (X : FVec F S1x128x1 .f32) : Fin 8 → FVec F S8x128x1 .f32
  | 0 => concatenate S8x128x1 0 [⟨S1x128x1, X⟩, ⟨S7x128x1, broadcast S7x128x1 (Scalar.ofBits .f32 0x00000000#32)⟩] concatenates_S1x128x1_S7x128x1_S8x128x1_d0
  | 1 => concatenate S8x128x1 0 [⟨S2x128x1, concatenate S2x128x1 0 [⟨S1x128x1, broadcast S1x128x1 (Scalar.ofBits .f32 0x00000000#32)⟩, ⟨S1x128x1, X⟩] concatenates_S1x128x1_S1x128x1_S2x128x1_d0⟩,
      ⟨S6x128x1, broadcast S6x128x1 (Scalar.ofBits .f32 0x00000000#32)⟩] concatenates_S2x128x1_S6x128x1_S8x128x1_d0
  | 2 => concatenate S8x128x1 0 [⟨S3x128x1, concatenate S3x128x1 0 [⟨S2x128x1, broadcast S2x128x1 (Scalar.ofBits .f32 0x00000000#32)⟩, ⟨S1x128x1, X⟩] concatenates_S2x128x1_S1x128x1_S3x128x1_d0⟩,
      ⟨S5x128x1, broadcast S5x128x1 (Scalar.ofBits .f32 0x00000000#32)⟩] concatenates_S3x128x1_S5x128x1_S8x128x1_d0
  | 3 => concatenate S8x128x1 0 [⟨S4x128x1, concatenate S4x128x1 0 [⟨S3x128x1, broadcast S3x128x1 (Scalar.ofBits .f32 0x00000000#32)⟩, ⟨S1x128x1, X⟩] concatenates_S3x128x1_S1x128x1_S4x128x1_d0⟩,
      ⟨S4x128x1, broadcast S4x128x1 (Scalar.ofBits .f32 0x00000000#32)⟩] concatenates_S4x128x1_S4x128x1_S8x128x1_d0
  | 4 => concatenate S8x128x1 0 [⟨S5x128x1, concatenate S5x128x1 0 [⟨S4x128x1, broadcast S4x128x1 (Scalar.ofBits .f32 0x00000000#32)⟩, ⟨S1x128x1, X⟩] concatenates_S4x128x1_S1x128x1_S5x128x1_d0⟩,
      ⟨S3x128x1, broadcast S3x128x1 (Scalar.ofBits .f32 0x00000000#32)⟩] concatenates_S5x128x1_S3x128x1_S8x128x1_d0
  | 5 => concatenate S8x128x1 0 [⟨S6x128x1, concatenate S6x128x1 0 [⟨S5x128x1, broadcast S5x128x1 (Scalar.ofBits .f32 0x00000000#32)⟩, ⟨S1x128x1, X⟩] concatenates_S5x128x1_S1x128x1_S6x128x1_d0⟩,
      ⟨S2x128x1, broadcast S2x128x1 (Scalar.ofBits .f32 0x00000000#32)⟩] concatenates_S6x128x1_S2x128x1_S8x128x1_d0
  | 6 => concatenate S8x128x1 0 [⟨S7x128x1, concatenate S7x128x1 0 [⟨S6x128x1, broadcast S6x128x1 (Scalar.ofBits .f32 0x00000000#32)⟩, ⟨S1x128x1, X⟩] concatenates_S6x128x1_S1x128x1_S7x128x1_d0⟩,
      ⟨S1x128x1, broadcast S1x128x1 (Scalar.ofBits .f32 0x00000000#32)⟩] concatenates_S7x128x1_S1x128x1_S8x128x1_d0
  | 7 => concatenate S8x128x1 0 [⟨S7x128x1, broadcast S7x128x1 (Scalar.ofBits .f32 0x00000000#32)⟩, ⟨S1x128x1, X⟩] concatenates_S7x128x1_S1x128x1_S8x128x1_d0

/-- A group's matrix gradient put at its place among the eight, zeros elsewhere. -/
def putMat (X : FVec F S1x128x128 .f32) : Fin 8 → FVec F S8x128x128 .f32
  | 0 => concatenate S8x128x128 0 [⟨S1x128x128, X⟩, ⟨S7x128x128, broadcast S7x128x128 (Scalar.ofBits .f32 0x00000000#32)⟩] concatenates_S1x128x128_S7x128x128_S8x128x128_d0
  | 1 => concatenate S8x128x128 0 [⟨S2x128x128, concatenate S2x128x128 0 [⟨S1x128x128, broadcast S1x128x128 (Scalar.ofBits .f32 0x00000000#32)⟩, ⟨S1x128x128, X⟩] concatenates_S1x128x128_S1x128x128_S2x128x128_d0⟩,
      ⟨S6x128x128, broadcast S6x128x128 (Scalar.ofBits .f32 0x00000000#32)⟩] concatenates_S2x128x128_S6x128x128_S8x128x128_d0
  | 2 => concatenate S8x128x128 0 [⟨S3x128x128, concatenate S3x128x128 0 [⟨S2x128x128, broadcast S2x128x128 (Scalar.ofBits .f32 0x00000000#32)⟩, ⟨S1x128x128, X⟩] concatenates_S2x128x128_S1x128x128_S3x128x128_d0⟩,
      ⟨S5x128x128, broadcast S5x128x128 (Scalar.ofBits .f32 0x00000000#32)⟩] concatenates_S3x128x128_S5x128x128_S8x128x128_d0
  | 3 => concatenate S8x128x128 0 [⟨S4x128x128, concatenate S4x128x128 0 [⟨S3x128x128, broadcast S3x128x128 (Scalar.ofBits .f32 0x00000000#32)⟩, ⟨S1x128x128, X⟩] concatenates_S3x128x128_S1x128x128_S4x128x128_d0⟩,
      ⟨S4x128x128, broadcast S4x128x128 (Scalar.ofBits .f32 0x00000000#32)⟩] concatenates_S4x128x128_S4x128x128_S8x128x128_d0
  | 4 => concatenate S8x128x128 0 [⟨S5x128x128, concatenate S5x128x128 0 [⟨S4x128x128, broadcast S4x128x128 (Scalar.ofBits .f32 0x00000000#32)⟩, ⟨S1x128x128, X⟩] concatenates_S4x128x128_S1x128x128_S5x128x128_d0⟩,
      ⟨S3x128x128, broadcast S3x128x128 (Scalar.ofBits .f32 0x00000000#32)⟩] concatenates_S5x128x128_S3x128x128_S8x128x128_d0
  | 5 => concatenate S8x128x128 0 [⟨S6x128x128, concatenate S6x128x128 0 [⟨S5x128x128, broadcast S5x128x128 (Scalar.ofBits .f32 0x00000000#32)⟩, ⟨S1x128x128, X⟩] concatenates_S5x128x128_S1x128x128_S6x128x128_d0⟩,
      ⟨S2x128x128, broadcast S2x128x128 (Scalar.ofBits .f32 0x00000000#32)⟩] concatenates_S6x128x128_S2x128x128_S8x128x128_d0
  | 6 => concatenate S8x128x128 0 [⟨S7x128x128, concatenate S7x128x128 0 [⟨S6x128x128, broadcast S6x128x128 (Scalar.ofBits .f32 0x00000000#32)⟩, ⟨S1x128x128, X⟩] concatenates_S6x128x128_S1x128x128_S7x128x128_d0⟩,
      ⟨S1x128x128, broadcast S1x128x128 (Scalar.ofBits .f32 0x00000000#32)⟩] concatenates_S7x128x128_S1x128x128_S8x128x128_d0
  | 7 => concatenate S8x128x128 0 [⟨S7x128x128, broadcast S7x128x128 (Scalar.ofBits .f32 0x00000000#32)⟩, ⟨S1x128x128, X⟩] concatenates_S7x128x128_S1x128x128_S8x128x128_d0

/-- A tile put at its group's columns, zeros elsewhere. -/
def putCols (X : FVec F S128x128 .f32) : Fin 8 → FVec F S128x1024 .f32
  | 0 => concatenate S128x1024 1 [⟨S128x128, X⟩, ⟨S128x896, broadcast S128x896 (Scalar.ofBits .f32 0x00000000#32)⟩] concatenates_S128x128_S128x896_S128x1024_d1
  | 1 => concatenate S128x1024 1 [⟨S128x256, concatenate S128x256 1 [⟨S128x128, broadcast S128x128 (Scalar.ofBits .f32 0x00000000#32)⟩, ⟨S128x128, X⟩] concatenates_S128x128_S128x128_S128x256_d1⟩,
      ⟨S128x768, broadcast S128x768 (Scalar.ofBits .f32 0x00000000#32)⟩] concatenates_S128x256_S128x768_S128x1024_d1
  | 2 => concatenate S128x1024 1 [⟨S128x384, concatenate S128x384 1 [⟨S128x256, broadcast S128x256 (Scalar.ofBits .f32 0x00000000#32)⟩, ⟨S128x128, X⟩] concatenates_S128x256_S128x128_S128x384_d1⟩,
      ⟨S128x640, broadcast S128x640 (Scalar.ofBits .f32 0x00000000#32)⟩] concatenates_S128x384_S128x640_S128x1024_d1
  | 3 => concatenate S128x1024 1 [⟨S128x512, concatenate S128x512 1 [⟨S128x384, broadcast S128x384 (Scalar.ofBits .f32 0x00000000#32)⟩, ⟨S128x128, X⟩] concatenates_S128x384_S128x128_S128x512_d1⟩,
      ⟨S128x512, broadcast S128x512 (Scalar.ofBits .f32 0x00000000#32)⟩] concatenates_S128x512_S128x512_S128x1024_d1
  | 4 => concatenate S128x1024 1 [⟨S128x640, concatenate S128x640 1 [⟨S128x512, broadcast S128x512 (Scalar.ofBits .f32 0x00000000#32)⟩, ⟨S128x128, X⟩] concatenates_S128x512_S128x128_S128x640_d1⟩,
      ⟨S128x384, broadcast S128x384 (Scalar.ofBits .f32 0x00000000#32)⟩] concatenates_S128x640_S128x384_S128x1024_d1
  | 5 => concatenate S128x1024 1 [⟨S128x768, concatenate S128x768 1 [⟨S128x640, broadcast S128x640 (Scalar.ofBits .f32 0x00000000#32)⟩, ⟨S128x128, X⟩] concatenates_S128x640_S128x128_S128x768_d1⟩,
      ⟨S128x256, broadcast S128x256 (Scalar.ofBits .f32 0x00000000#32)⟩] concatenates_S128x768_S128x256_S128x1024_d1
  | 6 => concatenate S128x1024 1 [⟨S128x896, concatenate S128x896 1 [⟨S128x768, broadcast S128x768 (Scalar.ofBits .f32 0x00000000#32)⟩, ⟨S128x128, X⟩] concatenates_S128x768_S128x128_S128x896_d1⟩,
      ⟨S128x128, broadcast S128x128 (Scalar.ofBits .f32 0x00000000#32)⟩] concatenates_S128x896_S128x128_S128x1024_d1
  | 7 => concatenate S128x1024 1 [⟨S128x896, broadcast S128x896 (Scalar.ofBits .f32 0x00000000#32)⟩, ⟨S128x128, X⟩] concatenates_S128x896_S128x128_S128x1024_d1

/-- A chunk put at its rows, zeros elsewhere. -/
def putRowsAt (X : FVec F S128x1024 .f32) : Fin 4 → FVec F S512x1024 .f32
  | 0 => concatenate S512x1024 0 [⟨S128x1024, X⟩, ⟨S384x1024, broadcast S384x1024 (Scalar.ofBits .f32 0x00000000#32)⟩] concatenates_S128x1024_S384x1024_S512x1024_d0
  | 1 => concatenate S512x1024 0 [⟨S256x1024, concatenate S256x1024 0 [⟨S128x1024, broadcast S128x1024 (Scalar.ofBits .f32 0x00000000#32)⟩, ⟨S128x1024, X⟩] concatenates_S128x1024_S128x1024_S256x1024_d0⟩,
      ⟨S256x1024, broadcast S256x1024 (Scalar.ofBits .f32 0x00000000#32)⟩] concatenates_S256x1024_S256x1024_S512x1024_d0
  | 2 => concatenate S512x1024 0 [⟨S384x1024, concatenate S384x1024 0 [⟨S256x1024, broadcast S256x1024 (Scalar.ofBits .f32 0x00000000#32)⟩, ⟨S128x1024, X⟩] concatenates_S256x1024_S128x1024_S384x1024_d0⟩,
      ⟨S128x1024, broadcast S128x1024 (Scalar.ofBits .f32 0x00000000#32)⟩] concatenates_S384x1024_S128x1024_S512x1024_d0
  | 3 => concatenate S512x1024 0 [⟨S384x1024, broadcast S384x1024 (Scalar.ofBits .f32 0x00000000#32)⟩, ⟨S128x1024, X⟩] concatenates_S384x1024_S128x1024_S512x1024_d0

/-- A tile's sum along its columns, as one group's bias gradient. -/
def biasTile (G : FVec F S128x128 .f32) : FVec F S1x128x1 .f32 :=
  shapeCast S1x128x1 (shapeCast S128x1 (multiReduction .add [1] S128 G 0x00000000#32 reduces_S128x128_S128 (.inl rfl) rfl)
    shapeCasts_S128_S128x1) shapeCasts_S128x1_S1x128x1

/-- One tile's share of its group's matrix gradient, the entries above the diagonal zero. -/
def matTile (G V : FVec F S128x128 .f32) : FVec F S1x128x128 .f32 :=
  shapeCast S1x128x128 (select k0_pay23
    (matmul dot_S128x128_S128x128_S128x128_1_1_0_0_n_n none (truncf .bf16 G bitsLt_bf16_f32) (truncf .bf16 V bitsLt_bf16_f32)
      (constant S128x128 .f32 0x00000000#32)) (broadcast S128x128 (Scalar.ofBits .f32 0x00000000#32)))
    shapeCasts_S128x128_S1x128x128

/-- One tile's gradient through the mixing: the transposed causal matrix times the tile. -/
def backTile (W G : FVec F S128x128 .f32) : FVec F S128x128 .f32 :=
  matmul dot_S128x128_S128x128_S128x128_0_0_1_1_n_n none (truncf .bf16 W bitsLt_bf16_f32) (truncf .bf16 G bitsLt_bf16_f32)
    (constant S128x128 .f32 0x00000000#32)

/-- Eight arrays added from the last group to the first. -/
def sum8 {s : Shape} (p : Fin 8 → FVec F s .f32) : FVec F s .f32 :=
  addf (addf (addf (addf (addf (addf (addf (p 7) (p 6)) (p 5)) (p 4)) (p 3)) (p 2)) (p 1)) (p 0)

/-- Eight arrays added to `a`, from the last group to the first. -/
def addOn8 {s : Shape} (a : FVec F s .f32) (p : Fin 8 → FVec F s .f32) : FVec F s .f32 :=
  addf (addf (addf (addf (addf (addf (addf (addf a (p 7)) (p 6)) (p 5)) (p 4)) (p 3)) (p 2)) (p 1)) (p 0)

/-- The 32 pairs' arrays added, from the last chunk to the first. -/
def sum32 {s : Shape} (p : Fin 4 → Fin 8 → FVec F s .f32) : FVec F s .f32 :=
  addOn8 (addOn8 (addOn8 (sum8 (p 3)) (p 2)) (p 1)) (p 0)

/-- The block's bias gradient, of the gradient `G` of the mixed values. -/
def biasGrad (G : FVec F S512x1024 .f32) : FVec F S8x128x1 .f32 :=
  sum32 fun n g => putBias (biasTile (tileOf G n g)) g

/-- The block's matrix gradient. -/
def matGrad (G vn : FVec F S512x1024 .f32) : FVec F S8x128x128 .f32 :=
  sum32 fun n g => putMat (matTile (tileOf G n g) (tileOf vn n g)) g

/-- One chunk's gradient of the normalised values. -/
def backChunk (ws : FVec F S8x128x128 .f32) (G : FVec F S512x1024 .f32) (n : Fin 4) : FVec F S128x1024 .f32 :=
  sum8 fun g => putCols (backTile (mixW ws g) (tileOf G n g)) g

/-- The block's gradient of the normalised values. -/
def backBlock (ws : FVec F S8x128x128 .f32) (G : FVec F S512x1024 .f32) : FVec F S512x1024 .f32 :=
  addf (addf (addf (putRowsAt (backChunk ws G 3) 3) (putRowsAt (backChunk ws G 2) 2)) (putRowsAt (backChunk ws G 1) 1))
    (putRowsAt (backChunk ws G 0) 0)

section
variable (x0 : Vec F S512x1024 .bf16) (x1 : Vec F S1024x1024 .bf16) (x2 x3 : Vec F S512x1024 .bf16) (x4 : Vec F S1x1024 .f32)
  (x5 : Vec F S8x128x128 .f32) (x6 : Vec F S8x128x1 .f32)

/-- The block's normalised and scaled gate inputs. -/
def vnBlk : FVec F S512x1024 .f32 := k0_pay22 (k0_pay4 x3) x4 (k0_pay12 x3)

/-- The block's gradient of the mixed values: the activated `u` times the gradient that enters. -/
def gBlk : FVec F S512x1024 .f32 := k0_pay124 (k0_pay2 x0 x1) (k0_pay11 x2)

/-- The block's gradient of the activated `u`: the gradient that enters times the mixed values. -/
def guBlk : FVec F S512x1024 .f32 := mulf (k0_pay2 x0 x1) (mixBlock (k0_pay5 x5) (k0_pay6 x6) (vnBlk x3 x4))

/-- The block's gradient of the normalised and scaled gate inputs. -/
def dvnBlk : FVec F S512x1024 .f32 := backBlock (k0_pay5 x5) (gBlk x0 x1 x2)

/-- The block's gradient of the norm's weight. -/
def dnwBlk : FVec F S1x1024 .f32 :=
  shapeCast S1x1024 (multiReduction .add [0] S1024 (mulf (k0_pay21 (k0_pay4 x3) (k0_pay12 x3)) (dvnBlk x0 x1 x2 x5)) 0x00000000#32
    reduces_S512x1024_S1024 (.inl rfl) rfl) shapeCasts_S1024_S1x1024

/-- The gradient before the norm's weight. -/
def dwBlk : FVec F S512x1024 .f32 := mulf (dvnBlk x0 x1 x2 x5) (broadcastTo S512x1024 x4 broadcasts_S1x1024_S512x1024)

/-- The gradient of each row's mean square, spread along the row. -/
def dmsBlk : FVec F S512x1024 .f32 :=
  broadcastTo S512x1024 (shapeCast S512x1 (multiReduction .add [1] S512 (divf (mulf (shapeCast S512x1 (multiReduction .add [1] S512
    (mulf (k0_pay17 (k0_pay4 x3) (k0_pay12 x3)) (dwBlk x0 x1 x2 x4 x5)) 0x00000000#32 reduces_S512x1024_S512 (.inl rfl) rfl)
    shapeCasts_S512_S512x1) (k0_pay20 (k0_pay4 x3) (k0_pay12 x3))) (broadcast S512x1 (Scalar.ofBits .f32 0x44800000#32)))
    0x00000000#32 reduces_S512x1_S512 (.inl rfl) rfl) shapeCasts_S512_S512x1) broadcasts_S512x1_S512x1024

/-- The gradient of the activated `v`. -/
def dgvBlk : FVec F S512x1024 .f32 :=
  addf (addf (mulf (dwBlk x0 x1 x2 x4 x5) (broadcastTo S512x1024 (k0_pay19 (k0_pay4 x3) (k0_pay12 x3)) broadcasts_S512x1_S512x1024))
    (mulf (k0_pay17 (k0_pay4 x3) (k0_pay12 x3)) (dmsBlk x0 x1 x2 x3 x4 x5)))
    (mulf (dmsBlk x0 x1 x2 x3 x4 x5) (k0_pay17 (k0_pay4 x3) (k0_pay12 x3)))

/-- The gradient through the activation: of the input `x`, the gradient `d` of its activated value, and the three factors the
    body computed of `x` (`3x²`, `1 − tanh²` and half of `1 + tanh`). -/
def geluGrad (x d sq th hf : FVec F S512x1024 .f32) : FVec F S512x1024 .f32 :=
  addf (addf (mulf d hf) (mulf (broadcast S512x1024 (Scalar.ofBits .f32 0x3F4C422A#32))
      (mulf (mulf (broadcast S512x1024 (Scalar.ofBits .f32 0x3F000000#32)) (mulf x d)) th)))
    (mulf (mulf (broadcast S512x1024 (Scalar.ofBits .f32 0x3D372713#32)) (mulf (broadcast S512x1024 (Scalar.ofBits .f32 0x3F4C422A#32))
      (mulf (mulf (broadcast S512x1024 (Scalar.ofBits .f32 0x3F000000#32)) (mulf x d)) th))) sq)

/-- The block of gradients of `u` and `v` that the body stores. -/
def duvBlk : FVec F S512x2048 .bf16 :=
  truncf .bf16 (concatenate S512x2048 1
    [⟨S512x1024, geluGrad (k0_pay3 x2) (guBlk x0 x1 x3 x4 x5 x6) (k0_pay7 x2) (k0_pay9 x2) (k0_pay10 x2)⟩,
     ⟨S512x1024, geluGrad (k0_pay4 x3) (dgvBlk x0 x1 x2 x3 x4 x5) (k0_pay13 (k0_pay4 x3)) (k0_pay15 (k0_pay4 x3) (k0_pay12 x3))
       (k0_pay16 (k0_pay4 x3) (k0_pay12 x3))⟩] concatenates_S512x1024_S512x1024_S512x2048_d1) bitsLt_bf16_f32

end

end Cert.Sgu
-- ==== Proof.SguBody.lean ====
module

public import proofs.«01_k».proof.Proof.SguBlock

/-! What a grid point leaves in each output's staging buffer, as the block functions of SguBlock.lean. -/

@[expose] public section

set_option maxRecDepth 100000
set_option maxHeartbeats 4000000

noncomputable section

namespace Cert.Sgu

open Cert.KernelIdeal Cert.KernelIdeal.Gen Idealize.ShloMosaic Idealize.ShloMosaic.TcCoe Idealize.SL.Sem

variable {F : FTy → Type} [FloatOps F] (m : (ℓ : Loc nD τ sig) → Buf (Elt F) ℓ)

/-- At a run's first point the norm weight's gradient's buffer holds zero plus this block's norm weight's gradient. -/
theorem weight_reset (c : Dev nD) (t : Fin cfg0.N) (h0 : t.val % 16 = 0) :
    (outsAt0 m c t.val t.isLt).2.1 = k0_pay250 (dnwBlk (iblk m c 0 t) (iblk m c 1 t) (iblk m c 2 t) (iblk m c 3 t) (iblk m c 5 t)) k0_pay247 := by
  rw [outsAt0_A m c t h0]
  frame_out
  rfl

/-- At a later point the norm weight's gradient's buffer holds what the point before left, plus this block's norm weight's gradient. -/
theorem weight_step (c : Dev nD) (t : Fin cfg0.N) (h0 : ¬t.val % 16 = 0) :
    (outsAt0 m c t.val t.isLt).2.1
      = k0_pay250 (dnwBlk (iblk m c 0 t) (iblk m c 1 t) (iblk m c 2 t) (iblk m c 3 t) (iblk m c 5 t)) (outsAt0 m c (t.val - 1) (Nat.lt_of_le_of_lt (Nat.sub_le _ _) t.isLt)).2.1 := by
  rw [outsAt0_B m c t h0]
  frame_out
  rfl

/-- At a run's first point the matrix gradient's buffer holds zero plus this block's matrix gradient. -/
theorem mat_reset (c : Dev nD) (t : Fin cfg0.N) (h0 : t.val % 16 = 0) :
    (outsAt0 m c t.val t.isLt).2.2.1 = k0_pay251 (matGrad (gBlk (iblk m c 0 t) (iblk m c 1 t) (iblk m c 2 t)) (vnBlk (iblk m c 3 t) (iblk m c 4 t))) k0_pay248 := by
  rw [outsAt0_A m c t h0]
  frame_out
  rfl

/-- At a later point the matrix gradient's buffer holds what the point before left, plus this block's matrix gradient. -/
theorem mat_step (c : Dev nD) (t : Fin cfg0.N) (h0 : ¬t.val % 16 = 0) :
    (outsAt0 m c t.val t.isLt).2.2.1
      = k0_pay251 (matGrad (gBlk (iblk m c 0 t) (iblk m c 1 t) (iblk m c 2 t)) (vnBlk (iblk m c 3 t) (iblk m c 4 t))) (outsAt0 m c (t.val - 1) (Nat.lt_of_le_of_lt (Nat.sub_le _ _) t.isLt)).2.2.1 := by
  rw [outsAt0_B m c t h0]
  frame_out
  rfl

/-- At a run's first point the bias gradient's buffer holds zero plus this block's bias gradient. -/
theorem bias_reset (c : Dev nD) (t : Fin cfg0.N) (h0 : t.val % 16 = 0) :
    (outsAt0 m c t.val t.isLt).2.2.2 = k0_pay1 (biasGrad (gBlk (iblk m c 0 t) (iblk m c 1 t) (iblk m c 2 t))) k0_pay249 := by
  rw [outsAt0_A m c t h0]
  frame_out
  rfl

/-- At a later point the bias gradient's buffer holds what the point before left, plus this block's bias gradient. -/
theorem bias_step (c : Dev nD) (t : Fin cfg0.N) (h0 : ¬t.val % 16 = 0) :
    (outsAt0 m c t.val t.isLt).2.2.2
      = k0_pay1 (biasGrad (gBlk (iblk m c 0 t) (iblk m c 1 t) (iblk m c 2 t))) (outsAt0 m c (t.val - 1) (Nat.lt_of_le_of_lt (Nat.sub_le _ _) t.isLt)).2.2.2 := by
  rw [outsAt0_B m c t h0]
  frame_out
  rfl

/-- At every point the buffer of the gradients of `u` and `v` holds this block's. -/
theorem duv_point (c : Dev nD) (t : Fin cfg0.N) :
    (outsAt0 m c t.val t.isLt).1 = duvBlk (iblk m c 0 t) (iblk m c 1 t) (iblk m c 2 t) (iblk m c 3 t) (iblk m c 4 t) (iblk m c 5 t) (iblk m c 6 t) := by
  by_cases h0 : t.val % 16 = 0
  · rw [outsAt0_A m c t h0]
    frame_out
    rfl
  · rw [outsAt0_B m c t h0]
    frame_out
    rfl

end Cert.Sgu
-- ==== Proof.SguSpec.lean ====
module

public import Idealize.ShloMosaic.Lib.Pointwise

/-! The gradient of the spatial gating unit over extended reals, one chunk of 128 rows at a time. -/

@[expose] public section

noncomputable section

namespace Cert.Sgu

open Idealize.ShloMosaic

/-- The hyperbolic tangent inside the activation. -/
def th (x : EReal) : EReal :=
  Ideal.tanh (Ideal.ofBits .f32 0x3F4C422A#32 * (x + Ideal.ofBits .f32 0x3D372713#32 * (x * (x * x))))

/-- Half of one plus that tangent: the activation's factor. -/
def hf (x : EReal) : EReal := Ideal.ofBits .f32 0x3F000000#32 * (1 + th x)

/-- The activation. -/
def gl (x : EReal) : EReal := x * hf x

/-- One minus the tangent's square, as a product. -/
def dn (x : EReal) : EReal := (1 + th x) * (1 - th x)

/-- Three times the square. -/
def sq (x : EReal) : EReal := Ideal.ofBits .f32 0x40400000#32 * (x * x)

/-- The gradient of the tangent's argument before its polynomial's own factor. -/
def gin (x d : EReal) : EReal := Ideal.ofBits .f32 0x3F4C422A#32 * (Ideal.ofBits .f32 0x3F000000#32 * (x * d) * dn x)

/-- The activation's gradient at `x`, of the gradient `d` of its value. -/
def gg (x d : EReal) : EReal := d * hf x + gin x d + Ideal.ofBits .f32 0x3D372713#32 * gin x d * sq x

/-- A row's mean square, plus the small constant. -/
def ms (v : Fin 1024 → EReal) : EReal :=
  Ideal.div (∑ c, gl (v c) * gl (v c)) (Ideal.ofBits .f32 0x44800000#32) + Ideal.ofBits .f32 0x358637BD#32

/-- The reciprocal of the row's root mean square. -/
def rs (v : Fin 1024 → EReal) : EReal := Ideal.rsqrt (ms v)

/-- The normalised row. -/
def xh (v : Fin 1024 → EReal) (c : Fin 1024) : EReal := gl (v c) * rs v

/-- The group that column `c` belongs to. -/
def grp (c : Fin 1024) : Fin 8 := ⟨c / 128, by omega⟩

/-- Column `d` of group `g`. -/
def col (g : Fin 8) (d : Fin 128) : Fin 1024 := ⟨128 * g + d, by omega⟩

section
variable (w : Fin 1024 → Fin 1024 → EReal) (nw : Fin 1024 → EReal) (ws : Fin 8 → Fin 128 → Fin 128 → EReal)
  (bs : Fin 8 → Fin 128 → EReal) (P U V : Fin 128 → Fin 1024 → EReal)

/-- The normalised and scaled row. -/
def vn (v : Fin 1024 → EReal) (c : Fin 1024) : EReal := xh v c * nw c

/-- The mixing matrices, zero above the diagonal. -/
def cw (g : Fin 8) (i j : Fin 128) : EReal := if (j : ℕ) ≤ i then ws g i j else 0

/-- The mixed values. -/
def mix (i : Fin 128) (c : Fin 1024) : EReal := (∑ k, cw ws (grp c) i k * vn nw (V k) c) + bs (grp c) i

/-- The gradient of the unit's output row, from the gradient of the projection's output. -/
def dy (p : Fin 1024 → EReal) (c : Fin 1024) : EReal := ∑ k, p k * w c k

/-- The gradient of the mixed values. -/
def gm (p u : Fin 1024 → EReal) (c : Fin 1024) : EReal := gl (u c) * dy w p c

/-- The gradient of `u`. -/
def du (i : Fin 128) (c : Fin 1024) : EReal := gg (U i c) (dy w (P i) c * mix nw ws bs V i c)

/-- The gradient of the normalised and scaled values. -/
def dvn (i : Fin 128) (c : Fin 1024) : EReal := ∑ k, cw ws (grp c) k i * gm w (P k) (U k) c

/-- The chunk row's share of the norm weight's gradient. -/
def dnw (i : Fin 128) (c : Fin 1024) : EReal := xh (V i) c * dvn w ws P U i c

/-- The gradient before the norm's weight. -/
def dw (i : Fin 128) (c : Fin 1024) : EReal := dvn w ws P U i c * nw c

/-- The gradient of the row's mean square, over the row's length. -/
def dms (i : Fin 128) : EReal :=
  Ideal.div ((∑ c, gl (V i c) * dw w nw ws P U i c) * (Ideal.ofBits .f32 0xBF000000#32 * Ideal.div (rs (V i)) (ms (V i))))
    (Ideal.ofBits .f32 0x44800000#32)

/-- The gradient of the activated `v`. -/
def dgv (i : Fin 128) (c : Fin 1024) : EReal :=
  dw w nw ws P U i c * rs (V i) + gl (V i c) * dms w nw ws P U V i + dms w nw ws P U V i * gl (V i c)

/-- The gradient of `v`. -/
def dv (i : Fin 128) (c : Fin 1024) : EReal := gg (V i c) (dgv w nw ws P U V i c)

/-- The chunk's share of the bias gradient. -/
def db (g : Fin 8) (i : Fin 128) : EReal := ∑ d, gm w (P i) (U i) (col g d)

/-- The chunk's share of the matrix gradient. -/
def dmat (g : Fin 8) (i j : Fin 128) : EReal :=
  if (j : ℕ) ≤ i then ∑ d, gm w (P i) (U i) (col g d) * vn nw (V j) (col g d) else 0

end

/-- Row `i` of chunk `M` of the whole array. -/
def arow (M : Fin 64) (i : Fin 128) : Fin 8192 := ⟨128 * M + i, by omega⟩

end Cert.Sgu
-- ==== Proof.SguIndex.lean ====
module

public import proofs.«01_k».proof.Proof.SguBlock
public import proofs.«01_k».proof.Proof.SguSpec
public import Idealize.ShloMosaic.Lib.WordCmp

/-! The block functions of SguBlock.lean, read at an index over extended reals. -/

@[expose] public section

set_option maxRecDepth 16384

noncomputable section

namespace Cert.Sgu

open Cert.KernelIdeal Cert.KernelIdeal.Gen Idealize.ShloMosaic

variable (x : Vec Ideal S512x1024 .bf16) (j : S512x1024.Idx)

theorem pay3_at : k0_pay3 x j = x j := by pointwise [k0_pay3]
theorem pay7_at : k0_pay7 x j = sq (x j) := by
  pointwise [k0_pay7, pay3_at, sq]
theorem pay8_at : k0_pay8 x j = th (x j) := by
  pointwise [k0_pay8, pay3_at, th]
theorem pay9_at : k0_pay9 x j = dn (x j) := by
  pointwise [k0_pay9, pay8_at, dn]
theorem pay10_at : k0_pay10 x j = hf (x j) := by
  pointwise [k0_pay10, pay8_at, hf]
theorem pay11_at : k0_pay11 x j = gl (x j) := by
  pointwise [k0_pay11, pay3_at, pay10_at, gl]
theorem pay4_at : k0_pay4 x j = x j := by pointwise [k0_pay4]
theorem pay12_at : k0_pay12 x j = x j * x j := by pointwise [k0_pay12, pay4_at]
theorem pay13_at : k0_pay13 (k0_pay4 x) j = sq (x j) := by
  pointwise [k0_pay13, pay4_at, sq]
theorem pay14_at : k0_pay14 (k0_pay4 x) (k0_pay12 x) j = th (x j) := by
  pointwise [k0_pay14, pay4_at, pay12_at, th]
theorem pay15_at : k0_pay15 (k0_pay4 x) (k0_pay12 x) j = dn (x j) := by
  pointwise [k0_pay15, pay14_at, dn]
theorem pay16_at : k0_pay16 (k0_pay4 x) (k0_pay12 x) j = hf (x j) := by
  pointwise [k0_pay16, pay14_at, hf]
theorem pay17_at : k0_pay17 (k0_pay4 x) (k0_pay12 x) j = gl (x j) := by
  pointwise [k0_pay17, pay4_at, pay16_at, gl]

/-- Row `r` of a block. -/
def rowAt (X : FVec Ideal S512x1024 .bf16) (r : Fin 512) (c : Fin 1024) : EReal := X (ix2 r c)

theorem pay18_at (r : Fin 512) (z : Fin 1) : k0_pay18 (k0_pay4 x) (k0_pay12 x) (ix2 r z) = ms (rowAt x r) := by
  pointwise [k0_pay18, pay17_at, ms, rowAt]
theorem pay19_at (r : Fin 512) (z : Fin 1) : k0_pay19 (k0_pay4 x) (k0_pay12 x) (ix2 r z) = rs (rowAt x r) := by
  pointwise [k0_pay19, pay18_at, rs]
theorem pay20_at (r : Fin 512) (z : Fin 1) : k0_pay20 (k0_pay4 x) (k0_pay12 x) (ix2 r z)
    = Ideal.ofBits .f32 0xBF000000#32 * Ideal.div (rs (rowAt x r)) (ms (rowAt x r)) := by
  pointwise [k0_pay20, pay18_at, pay19_at]
theorem pay21_at (r : Fin 512) (c : Fin 1024) : k0_pay21 (k0_pay4 x) (k0_pay12 x) (ix2 r c) = xh (rowAt x r) c := by
  pointwise [k0_pay21, pay17_at, pay19_at, xh, rowAt]
theorem vnBlk_at (x4 : Vec Ideal S1x1024 .f32) (r : Fin 512) (c : Fin 1024) :
    vnBlk x x4 (ix2 r c) = vn (fun c => x4 (ix2 0 c)) (rowAt x r) c := by
  pointwise [vnBlk, k0_pay22, pay21_at, vn]
theorem pay2_at (x0 : Vec Ideal S512x1024 .bf16) (x1 : Vec Ideal S1024x1024 .bf16) (r : Fin 512) (c : Fin 1024) :
    k0_pay2 x0 x1 (ix2 r c) = dy (fun i k => x1 (ix2 i k)) (rowAt x0 r) c := by
  pointwise [k0_pay2, dy, rowAt]
theorem gBlk_at (x0 : Vec Ideal S512x1024 .bf16) (x1 : Vec Ideal S1024x1024 .bf16) (r : Fin 512) (c : Fin 1024) :
    gBlk x0 x1 x (ix2 r c) = gm (fun i k => x1 (ix2 i k)) (rowAt x0 r) (rowAt x r) c := by
  pointwise [gBlk, k0_pay124, pay2_at, pay11_at, gm, rowAt]
/-- A selection by the comparison of two small words is a choice by the comparison of their numbers. -/
theorem select_sge (i k : Fin 128) (a b : EReal) :
    Scalar.select (IntOp.cmpi CmpIPredicate.sge (BitVec.ofNat 32 ↑i) (BitVec.ofNat 32 ↑k)) a b = if (k : ℕ) ≤ i then a else b := by
  rw [WordCmp.cmpi_sge_ofNat (by omega) (by omega)]
  by_cases h : (k : ℕ) ≤ i <;> simp [h, Scalar.select]

theorem mixW_at (ws : FVec Ideal S8x128x128 .f32) (g : Fin 8) (i k : Fin 128) :
    mixW ws g (ix2 i k) = cw (fun g i k => ws (ix3 g i k)) g i k := by
  pointwise [mixW, k0_pay23, cw]
  exact select_sge _ _ _ _

/-- Row `i` of chunk `n` of a block. -/
def brow (n : Fin 4) (i : Fin 128) : Fin 512 := ⟨128 * n + i, by omega⟩

theorem tileOf_at (X : FVec Ideal S512x1024 .f32) (n : Fin 4) (g : Fin 8) (i k : Fin 128) :
    tileOf X n g (ix2 i k) = X (ix2 (brow n i) (col g k)) := by
  pointwise [tileOf, colsOf, rowsOf, col, brow]

theorem mixTile_at (ws : FVec Ideal S8x128x128 .f32) (bs : FVec Ideal S8x128x1 .f32) (vn : FVec Ideal S512x1024 .f32) (n : Fin 4) (g : Fin 8)
    (i k : Fin 128) : mixTile ws bs vn n g (ix2 i k)
      = (∑ l, cw (fun g i k => ws (ix3 g i k)) g i l * vn (ix2 (brow n l) (col g k))) + bs (ix3 g i 0) := by
  pointwise [mixTile, mixW_at, tileOf_at]
theorem biasTile_at (G : FVec Ideal S128x128 .f32) (z y : Fin 1) (i : Fin 128) :
    biasTile G (ix3 z i y) = ∑ d, G (ix2 i d) := by
  pointwise [biasTile]
theorem matTile_at (G V : FVec Ideal S128x128 .f32) (z : Fin 1) (i k : Fin 128) :
    matTile G V (ix3 z i k) = if (k : ℕ) ≤ i then ∑ d, G (ix2 i d) * V (ix2 k d) else 0 := by
  pointwise [matTile, k0_pay23]
  exact select_sge _ _ _ _
theorem backTile_at (W G : FVec Ideal S128x128 .f32) (i k : Fin 128) :
    backTile W G (ix2 i k) = ∑ l, W (ix2 l i) * G (ix2 l k) := by
  pointwise [backTile]
set_option maxHeartbeats 2000000 in
theorem mixChunk_at (ws : FVec Ideal S8x128x128 .f32) (bs : FVec Ideal S8x128x1 .f32) (vn : FVec Ideal S512x1024 .f32) (n : Fin 4) (g : Fin 8)
    (i k : Fin 128) : mixChunk ws bs vn n (ix2 i (col g k)) = mixTile ws bs vn n g (ix2 i k) := by
  fin_cases g <;> pointwise [mixChunk, col] <;> split_ifs <;> first
    | (exfalso; omega)
    | exact congrArg (fun q => mixTile ws bs vn n _ (ix2 i q)) (Fin.ext (by simp only; omega))
theorem putBias_at (X : FVec Ideal S1x128x1 .f32) (g a : Fin 8) (i : Fin 128) (z : Fin 1) :
    putBias X g (ix3 a i z) = if a = g then X (ix3 0 i 0) else 0 := by
  fin_cases g <;> fin_cases a <;> pointwise [putBias]
theorem putMat_at (X : FVec Ideal S1x128x128 .f32) (g a : Fin 8) (i k : Fin 128) :
    putMat X g (ix3 a i k) = if a = g then X (ix3 0 i k) else 0 := by
  fin_cases g <;> fin_cases a <;> pointwise [putMat]
theorem putCols_at (X : FVec Ideal S128x128 .f32) (g h : Fin 8) (i k : Fin 128) :
    putCols X g (ix2 i (col h k)) = if h = g then X (ix2 i k) else 0 := by
  fin_cases g <;> fin_cases h <;> pointwise [putCols, col] <;> split_ifs <;> first | (exfalso; omega) | rfl
theorem putRowsAt_at (X : FVec Ideal S128x1024 .f32) (n l : Fin 4) (i : Fin 128) (c : Fin 1024) :
    putRowsAt X n (ix2 (brow l i) c) = if l = n then X (ix2 i c) else 0 := by
  fin_cases n <;> fin_cases l <;> pointwise [putRowsAt, brow] <;> split_ifs <;> first | (exfalso; omega) | rfl

/-- A sum over rows in `A` runs of `B` is the sum of the runs' sums. -/
theorem sum_split {A B N : ℕ} (h : N = A * B) (f : Fin N → EReal) (e : Fin A → Fin B → Fin N)
    (he : ∀ a b, (e a b).val = B * a + b) : ∑ r, f r = ∑ a, ∑ b, f (e a b) := by
  subst h
  rw [← Fintype.sum_prod_type']
  symm
  apply Fintype.sum_equiv finProdFinEquiv
  rintro ⟨a, b⟩
  congr 1
  ext
  simp [he, finProdFinEquiv, add_comm]

/-- Of eight terms, one of which is not zero, the sum is that one. -/
theorem sum8_put {s : Shape} (p : Fin 8 → FVec Ideal s .f32) (j : s.Idx) (g : Fin 8) (x : Fin 8 → EReal)
    (h : ∀ a, p a j = if g = a then x a else 0) : sum8 p j = x g := by
  pointwise [sum8, h]
  fin_cases g <;> simp

/-- Of the 32 pairs' terms, one per chunk of which is not zero, the sum is the sum of those over the chunks. -/
theorem sum32_put {s : Shape} (p : Fin 4 → Fin 8 → FVec Ideal s .f32) (j : s.Idx) (g : Fin 8) (x : Fin 4 → Fin 8 → EReal)
    (h : ∀ n a, p n a j = if g = a then x n a else 0) : sum32 p j = ∑ n, x n g := by
  pointwise [sum32, addOn8, sum8, h]
  rw [Fin.sum_univ_four]
  fin_cases g <;> simp [add_comm, add_left_comm]

theorem biasGrad_at (G : FVec Ideal S512x1024 .f32) (g : Fin 8) (i : Fin 128) (z : Fin 1) :
    biasGrad G (ix3 g i z) = ∑ n, ∑ d, G (ix2 (brow n i) (col g d)) := by
  rw [biasGrad, sum32_put _ _ g (fun n g => ∑ d, G (ix2 (brow n i) (col g d)))]
  intro n a
  rw [putBias_at, biasTile_at]
  simp only [tileOf_at]

theorem matGrad_at (G V : FVec Ideal S512x1024 .f32) (g : Fin 8) (i k : Fin 128) :
    matGrad G V (ix3 g i k)
      = ∑ n, if (k : ℕ) ≤ i then ∑ d, G (ix2 (brow n i) (col g d)) * V (ix2 (brow n k) (col g d)) else 0 := by
  rw [matGrad, sum32_put _ _ g (fun n g => if (k : ℕ) ≤ i then ∑ d, G (ix2 (brow n i) (col g d)) * V (ix2 (brow n k) (col g d)) else 0)]
  intro n a
  rw [putMat_at, matTile_at]
  simp only [tileOf_at]

/-- Every column is one of a group's. -/
theorem col_grp (c : Fin 1024) : col (grp c) ⟨c % 128, by omega⟩ = c := by
  apply Fin.ext; simp only [col, grp]; omega

theorem grp_col (g : Fin 8) (d : Fin 128) : grp (col g d) = g := by
  apply Fin.ext; simp only [col, grp]; omega

theorem backChunk_at (ws : FVec Ideal S8x128x128 .f32) (G : FVec Ideal S512x1024 .f32) (n : Fin 4) (i : Fin 128) (c : Fin 1024) :
    backChunk ws G n (ix2 i c) = ∑ k, cw (fun g i k => ws (ix3 g i k)) (grp c) k i * G (ix2 (brow n k) c) := by
  obtain ⟨g, d, rfl⟩ : ∃ g d, c = col g d := ⟨_, _, (col_grp c).symm⟩
  rw [backChunk, sum8_put _ _ g (fun g => backTile (mixW ws g) (tileOf G n g) (ix2 i d))]
  · rw [backTile_at, grp_col]
    simp only [mixW_at, tileOf_at]
  · intro a
    rw [putCols_at]

theorem backBlock_at (ws : FVec Ideal S8x128x128 .f32) (G : FVec Ideal S512x1024 .f32) (n : Fin 4) (i : Fin 128) (c : Fin 1024) :
    backBlock ws G (ix2 (brow n i) c) = ∑ k, cw (fun g i k => ws (ix3 g i k)) (grp c) k i * G (ix2 (brow n k) c) := by
  rw [← backChunk_at]
  pointwise [backBlock, putRowsAt_at]
  fin_cases n <;> simp

theorem mixBlock_chunk (ws : FVec Ideal S8x128x128 .f32) (bs : FVec Ideal S8x128x1 .f32) (vn : FVec Ideal S512x1024 .f32) (n : Fin 4)
    (i : Fin 128) (c : Fin 1024) : mixBlock ws bs vn (ix2 (brow n i) c) = mixChunk ws bs vn n (ix2 i c) := by
  fin_cases n <;> pointwise [mixBlock, brow] <;> split_ifs <;> first
    | (exfalso; omega)
    | exact congrArg (fun q => mixChunk ws bs vn _ (ix2 q c)) (Fin.ext (by simp only; omega))

theorem mixBlock_at (ws : FVec Ideal S8x128x128 .f32) (bs : FVec Ideal S8x128x1 .f32) (vn : FVec Ideal S512x1024 .f32) (n : Fin 4)
    (i : Fin 128) (c : Fin 1024) : mixBlock ws bs vn (ix2 (brow n i) c)
      = (∑ k, cw (fun g i k => ws (ix3 g i k)) (grp c) i k * vn (ix2 (brow n k) c)) + bs (ix3 (grp c) i 0) := by
  obtain ⟨g, d, rfl⟩ : ∃ g d, c = col g d := ⟨_, _, (col_grp c).symm⟩
  rw [mixBlock_chunk, mixChunk_at, mixTile_at, grp_col]

section
variable (x0 : Vec Ideal S512x1024 .bf16) (x1 : Vec Ideal S1024x1024 .bf16) (x2 x3 : Vec Ideal S512x1024 .bf16) (x4 : Vec Ideal S1x1024 .f32)
  (x5 : Vec Ideal S8x128x128 .f32) (x6 : Vec Ideal S8x128x1 .f32) (n : Fin 4) (i : Fin 128) (c : Fin 1024)

/-- Chunk `n` of a block. -/
def chunk (X : FVec Ideal S512x1024 .bf16) (n : Fin 4) (i : Fin 128) (c : Fin 1024) : EReal := X (ix2 (brow n i) c)
/-- A matrix by its two coordinates. -/
abbrev mat2 (X : FVec Ideal S1024x1024 .bf16) (a b : Fin 1024) : EReal := X (ix2 a b)
/-- A row vector by its coordinate. -/
abbrev vec1 (X : FVec Ideal S1x1024 .f32) (c : Fin 1024) : EReal := X (ix2 0 c)
/-- The eight matrices by their coordinates. -/
abbrev mat3 (X : FVec Ideal S8x128x128 .f32) (g : Fin 8) (i k : Fin 128) : EReal := X (ix3 g i k)
/-- The eight biases by their coordinates. -/
abbrev vec2 (X : FVec Ideal S8x128x1 .f32) (g : Fin 8) (i : Fin 128) : EReal := X (ix3 g i 0)

theorem pay5_eq : k0_pay5 x5 = x5 := by
  funext j; idx_vars j; pointwise [k0_pay5]
theorem pay6_eq : k0_pay6 x6 = x6 := by
  funext j; idx_vars j; pointwise [k0_pay6]

theorem guBlk_at : guBlk x0 x1 x3 x4 x5 x6 (ix2 (brow n i) c)
    = dy (mat2 x1) (chunk x0 n i) c * mix (vec1 x4) (mat3 x5) (vec2 x6) (chunk x3 n) i c := by
  pointwise [guBlk, pay5_eq, pay6_eq, mixBlock_at, pay2_at, vnBlk_at, mix, rowAt, chunk]
  rfl
theorem dvnBlk_at : dvnBlk x0 x1 x2 x5 (ix2 (brow n i) c) = dvn (mat2 x1) (mat3 x5) (chunk x0 n) (chunk x2 n) i c := by
  pointwise [dvnBlk, pay5_eq, backBlock_at, gBlk_at, dvn, rowAt, chunk]
  rfl
theorem dwBlk_at : dwBlk x0 x1 x2 x4 x5 (ix2 (brow n i) c)
    = dw (mat2 x1) (vec1 x4) (mat3 x5) (chunk x0 n) (chunk x2 n) i c := by
  pointwise [dwBlk, dvnBlk_at, dw]
theorem dmsBlk_at : dmsBlk x0 x1 x2 x3 x4 x5 (ix2 (brow n i) c)
    = dms (mat2 x1) (vec1 x4) (mat3 x5) (chunk x0 n) (chunk x2 n) (chunk x3 n) i := by
  pointwise [dmsBlk, dwBlk_at, pay17_at, pay20_at, dms, rowAt, chunk]
  rw [Fin.sum_univ_one]
  rfl
theorem dgvBlk_at : dgvBlk x0 x1 x2 x3 x4 x5 (ix2 (brow n i) c)
    = dgv (mat2 x1) (vec1 x4) (mat3 x5) (chunk x0 n) (chunk x2 n) (chunk x3 n) i c := by
  pointwise [dgvBlk, dwBlk_at, dmsBlk_at, pay17_at, pay19_at, dgv, rowAt, chunk]
  rfl
theorem geluGrad_at (x d sq th hf : FVec Ideal S512x1024 .f32) (j : S512x1024.Idx) (y : EReal) (hx : x j = y) (hs : sq j = Sgu.sq y)
    (ht : th j = dn y) (hh : hf j = Sgu.hf y) : geluGrad x d sq th hf j = gg y (d j) := by
  pointwise [geluGrad, hx, hs, ht, hh, gg, gin]

/-- The block's first 1024 columns are `u`'s gradients. -/
theorem duvBlk_left (c' : Fin 2048) (h : c'.val = c.val) : duvBlk x0 x1 x2 x3 x4 x5 x6 (ix2 (brow n i) c')
    = du (mat2 x1) (vec1 x4) (mat3 x5) (vec2 x6) (chunk x0 n) (chunk x2 n) (chunk x3 n) i c := by
  rw [show c' = ⟨c, by omega⟩ from Fin.ext h]
  pointwise [duvBlk]
  rw [geluGrad_at (y := chunk x2 n i c), guBlk_at, du]
  all_goals pointwise [pay3_at, pay7_at, pay9_at, pay10_at, chunk]

/-- The block's last 1024 columns are `v`'s gradients. -/
theorem duvBlk_right (c' : Fin 2048) (h : c'.val = 1024 + c.val) : duvBlk x0 x1 x2 x3 x4 x5 x6 (ix2 (brow n i) c')
    = dv (mat2 x1) (vec1 x4) (mat3 x5) (chunk x0 n) (chunk x2 n) (chunk x3 n) i c := by
  rw [show c' = ⟨1024 + c, by omega⟩ from Fin.ext h]
  pointwise [duvBlk]
  rw [geluGrad_at (y := chunk x3 n i c), dgvBlk_at, dv]
  all_goals pointwise [pay4_at, pay13_at, pay15_at, pay16_at, chunk]

/-- The block's norm weight's gradient is its four chunks' rows' summed. -/
theorem dnwBlk_at (z : Fin 1) : dnwBlk x0 x1 x2 x3 x5 (ix2 z c)
    = ∑ n : Fin 4, ∑ i, dnw (mat2 x1) (mat3 x5) (chunk x0 n) (chunk x2 n) (chunk x3 n) i c := by
  pointwise [dnwBlk]
  rw [sum_split (A := 4) (B := 128) rfl _ brow fun _ _ => rfl]
  pointwise [dvnBlk_at, pay21_at, dnw, rowAt, chunk]
  rfl
end

end Cert.Sgu
-- ==== Proof.SguArrays.lean ====
module

public import proofs.«01_k».proof.Proof.SguBody
public import proofs.«01_k».proof.Proof.SguIndex

/-! The result arrays of the spatial gating unit's gradient after the kernel's run, read at an index. -/

@[expose] public section

set_option maxRecDepth 16384

noncomputable section

namespace Cert.Sgu

open Cert.KernelIdeal Cert.KernelIdeal.Gen Idealize.ShloMosaic Idealize.ShloMosaic.TcCoe Idealize.SL.Sem

variable (m : (ℓ : Loc nD τ sig) → Buf (Elt Ideal) ℓ) (c : Dev nD)

/-- The projection's weight. -/
def aw (a b : Fin 1024) : EReal := m ((c : Thread nD τ).loc main_arg1) (ix2 a b)
/-- The norm's weight. -/
def anw (k : Fin 1024) : EReal := m ((c : Thread nD τ).loc main_arg3) (ix2 0 k)
/-- The mixing matrices. -/
def aws (g : Fin 8) (i k : Fin 128) : EReal := m ((c : Thread nD τ).loc main_arg4) (ix4 0 g i k)
/-- The mixing biases. -/
def abs (g : Fin 8) (i : Fin 128) : EReal := m ((c : Thread nD τ).loc main_arg5) (ix3 0 g i)
/-- Chunk `M` of the gradient that enters. -/
def aP (M : Fin 64) (i : Fin 128) (k : Fin 1024) : EReal := m ((c : Thread nD τ).loc main_arg0) (ix2 (arow M i) k)
/-- Chunk `M` of `u`. -/
def aU (M : Fin 64) (i : Fin 128) (k : Fin 1024) : EReal := m ((c : Thread nD τ).loc main_arg2) (ix2 (arow M i) ⟨k, by omega⟩)
/-- Chunk `M` of `v`. -/
def aV (M : Fin 64) (i : Fin 128) (k : Fin 1024) : EReal := m ((c : Thread nD τ).loc main_arg2) (ix2 (arow M i) ⟨1024 + k, by omega⟩)

/-- Chunk `n` of point `t`'s block, among the array's 64 chunks. -/
def pch (t : Fin cfg0.N) (n : Fin 4) : Fin 64 := ⟨4 * t.val + n, by have := Nat.lt_of_lt_of_eq t.isLt N_0; omega⟩

theorem idx0 : ∀ t : Fin grid0.N, win0_0.index t = ![t.val, 0] ∧ win0_1.index t = ![0, 0] ∧ win0_2.index t = ![t.val, 0]
    ∧ win0_3.index t = ![t.val, 1] ∧ win0_4.index t = ![0, 0] ∧ win0_5.index t = ![0, 0, 0] ∧ win0_6.index t = ![0, 0, 0]
    ∧ win0_7.index t = ![t.val, 0] := by decide +kernel

theorem blk_P (t : Fin cfg0.N) (n : Fin 4) : chunk (iblk m c 0 t) n = aP m c (pch t n) := by
  funext i k
  unfold chunk aP
  blk_ext [iblk, V, brow, arow, pch, idx0 t]
theorem blk_w (t : Fin cfg0.N) : mat2 (iblk m c 1 t) = aw m c := by
  funext i k
  unfold mat2 aw
  blk_ext [iblk, V, idx0 t]
theorem blk_U (t : Fin cfg0.N) (n : Fin 4) : chunk (iblk m c 2 t) n = aU m c (pch t n) := by
  funext i k
  unfold chunk aU
  blk_ext [iblk, V, brow, arow, pch, idx0 t]
theorem blk_V (t : Fin cfg0.N) (n : Fin 4) : chunk (iblk m c 3 t) n = aV m c (pch t n) := by
  funext i k
  unfold chunk aV
  blk_ext [iblk, V, brow, arow, pch, idx0 t]
theorem blk_nw (t : Fin cfg0.N) : vec1 (iblk m c 4 t) = anw m c := by
  funext k
  unfold vec1 anw
  blk_ext [iblk, V, idx0 t]
theorem blk_ws (t : Fin cfg0.N) : mat3 (iblk m c 5 t) = aws m c := by
  funext g i k
  unfold mat3 aws
  blk_simp [iblk, idx0 t]
  entry_read
  pointwise
  first | done | blk_ext [idx0 t]
theorem blk_bs (t : Fin cfg0.N) : vec2 (iblk m c 6 t) = abs m c := by
  funext g i
  unfold vec2 abs
  blk_simp [iblk, idx0 t]
  entry_read
  pointwise
  first | done | blk_ext [idx0 t]

/-- A row of a block lies in one of its chunks. -/
theorem brow_split (r : Fin 512) : r = brow ⟨r / 128, by omega⟩ ⟨r % 128, by omega⟩ := Fin.ext (by simp only [brow]; omega)

/-- The two gradients side by side: what the first 2048 columns of the first result hold. -/
def duv (r : Fin 8192) (k : ℕ) : EReal :=
  if h1 : k < 1024 then du (aw m c) (anw m c) (aws m c) (abs m c) (aP m c ⟨r / 128, by omega⟩) (aU m c ⟨r / 128, by omega⟩)
      (aV m c ⟨r / 128, by omega⟩) ⟨r % 128, by omega⟩ ⟨k, h1⟩
    else if h2 : k < 2048 then dv (aw m c) (anw m c) (aws m c) (aP m c ⟨r / 128, by omega⟩) (aU m c ⟨r / 128, by omega⟩)
      (aV m c ⟨r / 128, by omega⟩) ⟨r % 128, by omega⟩ ⟨k - 1024, by omega⟩
    else 0

/-- What a point stores is its rows' two gradients. -/
theorem duvBlk_row (t : Fin cfg0.N) (r : Fin 512) (k : Fin 2048) (h : 512 * t.val + r.val < 8192) :
    duvBlk (iblk m c 0 t) (iblk m c 1 t) (iblk m c 2 t) (iblk m c 3 t) (iblk m c 4 t) (iblk m c 5 t) (iblk m c 6 t) (ix2 r k)
      = duv m c ⟨512 * t.val + r.val, h⟩ k := by
  obtain ⟨n, i, rfl⟩ : ∃ n i, r = brow n i := ⟨_, _, brow_split r⟩
  have e1 : (⟨(512 * t.val + (brow n i).val) / 128, by omega⟩ : Fin 64) = pch t n := Fin.ext (by simp only [brow, pch]; omega)
  have e2 : (⟨(512 * t.val + (brow n i).val) % 128, by omega⟩ : Fin 128) = i := Fin.ext (by simp only [brow]; omega)
  unfold duv
  simp only [e1, e2]
  split
  · next hk => rw [duvBlk_left _ _ _ _ _ _ _ n i ⟨k, hk⟩ k rfl, blk_P, blk_w, blk_U, blk_V, blk_nw, blk_ws, blk_bs]
  · next hk =>
    rw [dif_pos k.isLt, duvBlk_right _ _ _ _ _ _ _ n i ⟨k - 1024, by omega⟩ k (by simp only; omega), blk_P, blk_w, blk_U, blk_V, blk_nw, blk_ws]

/-- The first result: the two gradients in the first 2048 columns, the rest as it was. -/
theorem final_duv : (dats m 0 c).arrAt 7 cfg0.N = fun i => if (i 1 : ℕ) < 2048 then duv m c (i 0) (i 1)
    else m ((c : Thread nD τ).loc main_arg6) i := by
  have e6 : (dats m 0 c).A 7 = m ((c : Thread nD τ).loc main_arg6) := by
    rw [A_eq]
    show V m c main_v3_0 = _
    entry_read
    rfl
  rw [← e6]
  refine (dats m 0 c).arrAt_eq_of_coversWhere 7 (fun i : S8192x10368.Idx => duv m c (i 0) (i 1))
    (fun β => β (1 : Fin 2) < 1) (by decide +kernel) (fun t hf y => ?_) (fun j => by blk_simp [Pipeline.Window.cell_apply]; omega)
  have ht := Nat.lt_of_lt_of_eq t.isLt N_0
  blk_simp [idx0 t]
  rw [after0_7, duv_point]
  have hy0 : (y 0 : ℕ) < 512 := Nat.lt_of_lt_of_le (y 0).isLt ((cfg0.win 7).xsize_le (cfg0.grid.coords t) 0)
  have hy1 : (y 1 : ℕ) < 2048 := Nat.lt_of_lt_of_le (y 1).isLt ((cfg0.win 7).xsize_le (cfg0.grid.coords t) 1)
  refine Eq.trans ?_ ((duvBlk_row m c t ⟨y 0, hy0⟩ ⟨y 1, hy1⟩ (by simp only; omega)).trans ?_)
  · congr 1
    funext a
    fin_cases a <;> rfl
  · congr 1
    apply Fin.ext
    blk_simp [idx0 t]
    simp only
    omega

theorem pay250_at (x a : FVec Ideal S1x1024 .f32) (z : Fin 1) (k : Fin 1024) :
    k0_pay250 x a (ix2 z k) = a (ix2 z k) + x (ix2 z k) := by pointwise [k0_pay250]
theorem pay251_at (x a : FVec Ideal S8x128x128 .f32) (g : Fin 8) (i k : Fin 128) :
    k0_pay251 x a (ix3 g i k) = a (ix3 g i k) + x (ix3 g i k) := by pointwise [k0_pay251]
theorem pay1_at (x a : FVec Ideal S8x128x1 .f32) (g : Fin 8) (i : Fin 128) (z : Fin 1) :
    k0_pay1 x a (ix3 g i z) = a (ix3 g i z) + x (ix3 g i z) := by pointwise [k0_pay1]
theorem pay247_at (z : Fin 1) (k : Fin 1024) : k0_pay247 (F := Ideal) (ix2 z k) = 0 := by pointwise [k0_pay247]
theorem pay248_at (g : Fin 8) (i k : Fin 128) : k0_pay248 (F := Ideal) (ix3 g i k) = 0 := by pointwise [k0_pay248]
theorem pay249_at (g : Fin 8) (i : Fin 128) (z : Fin 1) : k0_pay249 (F := Ideal) (ix3 g i z) = 0 := by pointwise [k0_pay249]

/-- A sum over points and their chunks is a sum over all chunks. -/
theorem sum_chunks (f : Fin 64 → EReal) : ∑ t : Fin cfg0.N, ∑ n, f (pch t n) = ∑ M, f M :=
  (sum_split (A := cfg0.N) (B := 4) (by rw [show cfg0.N = 16 from N_0]) f pch fun _ _ => rfl).symm

/-- The norm weight's gradient. -/
theorem final_dnw : (dats m 0 c).arrAt 8 cfg0.N = fun i => ∑ M, ∑ r,
    dnw (aw m c) (aws m c) (aP m c M) (aU m c M) (aV m c M) r (i 1) := by
  refine (dats m 0 c).arrAt_eq_of_after_last 8 t0_15 (by decide +kernel) _ fun j => ?_
  blk_simp
  rw [after0_8]
  idx_vars j
  refine (Pipeline.eq_sum_fin_of_reset_step_apply_last (fun n h => (outsAt0 m c n h).2.1) 16 (fun _ => (0 : EReal))
    (fun t i => dnwBlk (iblk m c 0 t) (iblk m c 1 t) (iblk m c 2 t) (iblk m c 3 t) (iblk m c 5 t) i) (fun t h i => ?_) (fun t h i => ?_)
    (by decide) t0_15 rfl _).trans ?_
  · rw [weight_reset m c t h]
    idx_vars i
    rw [pay250_at, pay247_at]
  · rw [weight_step m c t h]
    idx_vars i
    rw [pay250_at]
  · rw [zero_add, ← sum_chunks]
    refine Finset.sum_congr rfl fun t _ => ?_
    rw [dnwBlk_at, blk_w, blk_ws]
    simp only [blk_P, blk_U, blk_V]

/-- The matrix gradient. -/
theorem final_dmat : (dats m 0 c).arrAt 9 cfg0.N = fun i => ∑ M, dmat (aw m c) (anw m c) (aP m c M) (aU m c M) (aV m c M) (i 0) (i 1) (i 2) := by
  refine (dats m 0 c).arrAt_eq_of_after_last 9 t0_15 (by decide +kernel) _ fun j => ?_
  blk_simp
  rw [after0_9]
  idx_vars j
  refine (Pipeline.eq_sum_fin_of_reset_step_apply_last (fun n h => (outsAt0 m c n h).2.2.1) 16 (fun _ => (0 : EReal))
    (fun t j => matGrad (gBlk (iblk m c 0 t) (iblk m c 1 t) (iblk m c 2 t)) (vnBlk (iblk m c 3 t) (iblk m c 4 t)) j) (fun t h i => ?_)
    (fun t h i => ?_) (by decide) t0_15 rfl _).trans ?_
  · rw [mat_reset m c t h]
    idx_vars i
    rw [pay251_at, pay248_at]
  · rw [mat_step m c t h]
    idx_vars i
    rw [pay251_at]
  · rw [zero_add, ← sum_chunks]
    refine Finset.sum_congr rfl fun t _ => ?_
    rw [matGrad_at]
    refine Finset.sum_congr rfl fun n _ => ?_
    simp only [gBlk_at, vnBlk_at, dmat, ← blk_P, ← blk_U, ← blk_V, ← blk_w m c t, ← blk_nw m c t]
    rfl

/-- The bias gradient. -/
theorem final_db : (dats m 0 c).arrAt 10 cfg0.N = fun i => ∑ M, db (aw m c) (aP m c M) (aU m c M) (i 0) (i 1) := by
  refine (dats m 0 c).arrAt_eq_of_after_last 10 t0_15 (by decide +kernel) _ fun j => ?_
  blk_simp
  rw [after0_10]
  idx_vars j
  refine (Pipeline.eq_sum_fin_of_reset_step_apply_last (fun n h => (outsAt0 m c n h).2.2.2) 16 (fun _ => (0 : EReal))
    (fun t j => biasGrad (gBlk (iblk m c 0 t) (iblk m c 1 t) (iblk m c 2 t)) j) (fun t h i => ?_)
    (fun t h i => ?_) (by decide) t0_15 rfl _).trans ?_
  · rw [bias_reset m c t h]
    idx_vars i
    rw [pay1_at, pay249_at]
  · rw [bias_step m c t h]
    idx_vars i
    rw [pay1_at]
  · rw [zero_add, ← sum_chunks]
    refine Finset.sum_congr rfl fun t _ => ?_
    rw [biasGrad_at]
    refine Finset.sum_congr rfl fun n _ => ?_
    simp only [gBlk_at, db, ← blk_P, ← blk_U, ← blk_w m c t]
    rfl

end Cert.Sgu
-- ==== Proof.MixBwd.lean ====
module

public import proofs.«01_k».proof.Proof.Gen.Kernel2Ideal.Value
public import proofs.«01_k».proof.Proof.Gen.Reference2Ideal.Run
public import proofs.«01_k».proof.Defs
public import Idealize.ShloMosaic.Lib.Pointwise
public import Idealize.ShloMosaic.Lib.Pipeline.ValueKit
public import Idealize.ShloMosaic.Lib.Tactic.CleanTypes
public import Idealize.ShloMosaic.Lib.Quiescent

/-! The gradient at the output projection's input, carried through the two sigmoid gates: the kernel's three arrays and
the reference's, at an index. -/

@[expose] public section

set_option maxRecDepth 16384

noncomputable section

namespace Cert.MixBwd

section
open Idealize.ShloMosaic

/-- The gradient at the mixture: a row of the gradient that enters against a row of the weight. -/
def dmix (d w : Fin 1024 → EReal) : EReal := ∑ l, d l * w l
/-- The gradient at a branch. -/
def dbranch (d w : Fin 1024 → EReal) (g : EReal) : EReal := Ideal.logistic g * dmix d w
/-- The gradient at a branch's gate. -/
def dgate (d w : Fin 1024 → EReal) (g p : EReal) : EReal :=
  dmix d w * p * (Ideal.logistic g * (1 - Ideal.logistic g))

/-- The first gate's column, among the projection's columns. -/
def gcol (k : Fin 1024) : Fin 10240 := ⟨8192 + k, by omega⟩
/-- The second gate's column. -/
def hcol (k : Fin 1024) : Fin 10240 := ⟨9216 + k, by omega⟩
/-- A column of the projection, within its gate. -/
def mcol (k : ℕ) : Fin 1024 := ⟨k % 1024, Nat.mod_lt _ (by decide)⟩

/-- The two gates' gradients side by side, by the projection's column. -/
def dgates (d : Fin 8192 → Fin 1024 → EReal) (w : Fin 1024 → Fin 1024 → EReal) (p : Fin 8192 → Fin 10240 → EReal)
    (a b : Fin 8192 → Fin 1024 → EReal) (r : Fin 8192) (k : ℕ) : EReal :=
  if k < 9216 then dgate (d r) (w (mcol k)) (p r (gcol (mcol k))) (a r (mcol k))
  else dgate (d r) (w (mcol k)) (p r (hcol (mcol k))) (b r (mcol k))
end

section
open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- The gradient that enters. -/
def ad (r : Fin 8192) (l : Fin 1024) : EReal := m ((c : Thread nD τ).loc main_arg0) (ix2 r l)
/-- The output projection's weight. -/
def aw (k l : Fin 1024) : EReal := m ((c : Thread nD τ).loc main_arg1) (ix2 k l)
/-- The projection the gates lie in. -/
def ap (r : Fin 8192) (k : Fin 10240) : EReal := m ((c : Thread nD τ).loc main_arg2) (ix2 r k)
/-- The first branch. -/
def aa (r : Fin 8192) (k : Fin 1024) : EReal := m ((c : Thread nD τ).loc main_arg3) (ix2 r k)
/-- The second branch. -/
def ab (r : Fin 8192) (k : Fin 1024) : EReal := m ((c : Thread nD τ).loc main_arg4) (ix2 r k)

theorem idx0 : ∀ t : Fin grid0.N, win0_0.index t = ![t.val, 0] ∧ win0_1.index t = ![0, 0] ∧ win0_2.index t = ![t.val, 8]
    ∧ win0_3.index t = ![t.val, 9] ∧ win0_4.index t = ![t.val, 0] ∧ win0_5.index t = ![t.val, 0] ∧ win0_6.index t = ![t.val, 4]
    ∧ win0_7.index t = ![t.val, 0] ∧ win0_8.index t = ![t.val, 0] := by decide +kernel

section
variable (x0 : Vec Ideal S512x1024 .bf16) (x1 : Vec Ideal S1024x1024 .bf16) (x2 x3 x4 x5 : Vec Ideal S512x1024 .bf16)
  (r : Fin 512) (k : Fin 1024)

theorem pay5_at : k0_pay5 x0 x1 x2 (ix2 r k) = dbranch (fun l => x0 (ix2 r l)) (fun l => x1 (ix2 k l)) (x2 (ix2 r k)) := by
  pointwise [k0_pay5, k0_pay1, k0_pay2, dbranch, dmix]
theorem pay6_at : k0_pay6 x0 x1 x3 (ix2 r k) = dbranch (fun l => x0 (ix2 r l)) (fun l => x1 (ix2 k l)) (x3 (ix2 r k)) := by
  pointwise [k0_pay6, k0_pay1, k0_pay3, dbranch, dmix]
theorem pay4_left : k0_pay4 x0 x1 x2 x3 x4 x5 (ix2 r ⟨k.val, by omega⟩)
    = dgate (fun l => x0 (ix2 r l)) (fun l => x1 (ix2 k l)) (x2 (ix2 r k)) (x4 (ix2 r k)) := by
  pointwise [k0_pay4, k0_pay1, k0_pay2, k0_pay3, dgate, dmix]
theorem pay4_right : k0_pay4 x0 x1 x2 x3 x4 x5 (ix2 r ⟨1024 + k.val, by omega⟩)
    = dgate (fun l => x0 (ix2 r l)) (fun l => x1 (ix2 k l)) (x3 (ix2 r k)) (x5 (ix2 r k)) := by
  pointwise [k0_pay4, k0_pay1, k0_pay2, k0_pay3, dgate, dmix]
end

theorem point6 (t : Fin cfg0.N) : (outsAt0 m c t).1
    = k0_pay4 (iblk m c 0 t) (iblk m c 1 t) (iblk m c 2 t) (iblk m c 3 t) (iblk m c 4 t) (iblk m c 5 t) := by
  unfold outsAt0
  frame_out
theorem point7 (t : Fin cfg0.N) : (outsAt0 m c t).2.1 = k0_pay5 (iblk m c 0 t) (iblk m c 1 t) (iblk m c 2 t) := by
  unfold outsAt0
  frame_out
theorem point8 (t : Fin cfg0.N) : (outsAt0 m c t).2.2 = k0_pay6 (iblk m c 0 t) (iblk m c 1 t) (iblk m c 3 t) := by
  unfold outsAt0
  frame_out

/-- The first branch's gradient. -/
theorem final7 : (dats m 0 c).arrAt 7 cfg0.N
    = fun i => dbranch (ad m c (i 0)) (aw m c (i 1)) (ap m c (i 0) (gcol (i 1))) := by
  refine (dats m 0 c).arrAt_eq_of_covers 7 _ (by decide +kernel) (fun t hf y => ?_)
  have ht := Nat.lt_of_lt_of_eq t.isLt N_0
  blk_simp [idx0 t]
  rw [after0_7, point7]
  idx_vars y
  refine (pay5_at _ _ _ y0 y1).trans ?_
  unfold ad aw ap
  congr 1
  · funext l
    blk_ext [iblk, V, idx0 t]
  · funext l
    blk_ext [iblk, V, idx0 t]
  · blk_ext [iblk, V, gcol, idx0 t]

/-- The second branch's gradient. -/
theorem final8 : (dats m 0 c).arrAt 8 cfg0.N
    = fun i => dbranch (ad m c (i 0)) (aw m c (i 1)) (ap m c (i 0) (hcol (i 1))) := by
  refine (dats m 0 c).arrAt_eq_of_covers 8 _ (by decide +kernel) (fun t hf y => ?_)
  have ht := Nat.lt_of_lt_of_eq t.isLt N_0
  blk_simp [idx0 t]
  rw [after0_8, point8]
  idx_vars y
  refine (pay6_at _ _ _ y0 y1).trans ?_
  unfold ad aw ap
  congr 1
  · funext l
    blk_ext [iblk, V, idx0 t]
  · funext l
    blk_ext [iblk, V, idx0 t]
  · blk_ext [iblk, V, hcol, idx0 t]

/-- What a point stores of the gates' gradients is its rows'. -/
theorem gates_row (t : Fin cfg0.N) (r : Fin 512) (q : Fin 2048) (h : 512 * t.val + r.val < 8192) :
    k0_pay4 (iblk m c 0 t) (iblk m c 1 t) (iblk m c 2 t) (iblk m c 3 t) (iblk m c 4 t) (iblk m c 5 t) (ix2 r q)
      = dgates (ad m c) (aw m c) (ap m c) (aa m c) (ab m c) ⟨512 * t.val + r.val, h⟩ (4 * 2048 + q.val) := by
  obtain ⟨q, hq2⟩ := q
  simp only
  by_cases hq : q < 1024
  · have ek : mcol (4 * 2048 + q) = ⟨q, hq⟩ := Fin.ext (by simp only [mcol]; omega)
    refine (pay4_left _ _ _ _ _ _ r ⟨q, hq⟩).trans ?_
    rw [dgates, if_pos (by omega), ek]
    unfold ad aw ap aa
    congr 1
    · funext l
      blk_ext [iblk, V, idx0 t]
    · funext l
      blk_ext [iblk, V, idx0 t]
    · blk_ext [iblk, V, gcol, idx0 t]
    · blk_ext [iblk, V, idx0 t]
  · obtain ⟨k, rfl⟩ : ∃ k, q = 1024 + k := ⟨q - 1024, by omega⟩
    have ek : mcol (4 * 2048 + (1024 + k)) = ⟨k, by omega⟩ := Fin.ext (by simp only [mcol]; omega)
    refine (pay4_right _ _ _ _ _ _ r ⟨k, by omega⟩).trans ?_
    rw [dgates, if_neg (by omega), ek]
    unfold ad aw ap ab
    congr 1
    · funext l
      blk_ext [iblk, V, idx0 t]
    · funext l
      blk_ext [iblk, V, idx0 t]
    · blk_ext [iblk, V, hcol, idx0 t]
    · blk_ext [iblk, V, idx0 t]

set_option maxHeartbeats 1000000 in
/-- The gates' gradients in the columns 8192 to 10239 of the aliased array; the others stay. -/
theorem final6 : (dats m 0 c).arrAt 6 cfg0.N = fun i => if (i 1 : ℕ) / 2048 = 4 then
    dgates (ad m c) (aw m c) (ap m c) (aa m c) (ab m c) (i 0) (i 1) else m ((c : Thread nD τ).loc main_arg5) i := by
  have e5 : (dats m 0 c).A 6 = m ((c : Thread nD τ).loc main_arg5) := by
    rw [A_eq]
    show V m c main_v0_0 = _
    entry_read
    rfl
  rw [← e5]
  refine (dats m 0 c).arrAt_eq_of_coversWhere 6
    (fun i : S8192x10368.Idx => dgates (ad m c) (aw m c) (ap m c) (aa m c) (ab m c) (i 0) (i 1))
    (fun β => β (1 : Fin 2) = 4) (by decide +kernel) (fun t hf y => ?_) (fun j => by blk_simp [Pipeline.Window.cell_apply])
  have ht := Nat.lt_of_lt_of_eq t.isLt N_0
  have e := (after0_6 m c t).trans (point6 m c t)
  have hy0 : (y 0 : ℕ) < 512 := Nat.lt_of_lt_of_le (y 0).isLt ((cfg0.win 6).xsize_le (cfg0.grid.coords t) 0)
  have hy1 : (y 1 : ℕ) < 2048 := Nat.lt_of_lt_of_le (y 1).isLt ((cfg0.win 6).xsize_le (cfg0.grid.coords t) 1)
  blk_simp [idx0 t]
  refine (congrFun e _).trans (Eq.trans ?_ ((gates_row m c t ⟨y 0, hy0⟩ ⟨y 1, hy1⟩ (by simp only; omega)).trans ?_))
  · congr 1
    funext a
    fin_cases a <;> rfl
  · refine congrArg (fun r => dgates (ad m c) (aw m c) (ap m c) (aa m c) (ab m c) r (4 * 2048 + (y 1 : ℕ))) (Fin.ext ?_)
    blk_simp [idx0 t]
    simp only
    omega
end

section
open Cert.Reference2Ideal Cert.Reference2Ideal.Value Idealize.ShloMosaic Idealize.ShloMosaic.TcCoe Idealize.SL.Sem Idealize.ShloMosaic.StableHlo

variable (m : (ℓ : Loc nD τ sig) → Buf (Elt Ideal) ℓ) (c : Dev nD)

/-- The gradient that enters. -/
def rd (r : Fin 8192) (l : Fin 1024) : EReal := m ((c : Thread nD τ).loc main_arg0) (ix2 r l)
/-- The output projection's weight. -/
def rwt (k l : Fin 1024) : EReal := m ((c : Thread nD τ).loc main_arg1) (ix2 k l)
/-- The projection the gates lie in. -/
def rp (r : Fin 8192) (k : Fin 10240) : EReal := m ((c : Thread nD τ).loc main_arg2) (ix2 r k)
/-- The first branch. -/
def ra (r : Fin 8192) (k : Fin 1024) : EReal := m ((c : Thread nD τ).loc main_arg3) (ix2 r k)
/-- The second branch. -/
def rb (r : Fin 8192) (k : Fin 1024) : EReal := m ((c : Thread nD τ).loc main_arg4) (ix2 r k)

/-- The reference's arrays. -/
theorem ref_values (ρ : Dev nD → PrngReg) :
    θ_run defs (onTc (τ := τ) (main (F := Ideal))) ⟨m, fun _ => 0, ρ⟩ fun r => ∀ c : Dev nD,
      (r.2.mem ((c.tc : Thread nD τ).loc main_v40) = fun i => if (i 1 : ℕ) / 2048 = 4 then
          dgates (rd m c) (rwt m c) (rp m c) (ra m c) (rb m c) (i 0) (i 1) else m ((c.tc : Thread nD τ).loc main_arg5) i)
      ∧ (r.2.mem ((c.tc : Thread nD τ).loc main_v41)
          = fun i => dbranch (rd m c (i 0)) (rwt m c (i 1)) (rp m c (i 0) (gcol (i 1))))
      ∧ (r.2.mem ((c.tc : Thread nD τ).loc main_v42)
          = fun i => dbranch (rd m c (i 0)) (rwt m c (i 1)) (rp m c (i 0) (hcol (i 1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun _ h c => ?_) (Value.run m ρ)
  obtain ⟨h0, h1, h2, hr⟩ := h c
  refine ⟨h0.trans ?_, h1.trans ?_, h2.trans ?_, hr⟩
  · clear h h0 h1 h2 hr
    funext i
    clean_types
    idx_vars i
    pointwise
    by_cases k1 : (i1 : ℕ) < 8192
    · refine (dif_pos k1).trans (Eq.trans ?_ (if_neg (show ¬(i1 : ℕ) / 2048 = 4 by omega)).symm)
      rfl
    · refine (dif_neg k1).trans ?_
      by_cases k2 : (i1 : ℕ) < 9216
      · refine (dif_pos (show (i1 : ℕ) - 8192 < 1024 by omega)).trans ?_
        refine Eq.trans ?_ (if_pos (show (i1 : ℕ) / 2048 = 4 by omega)).symm
        refine Eq.trans ?_ (if_pos k2).symm
        exact congrArg (fun k => dgate (rd m c i0) (rwt m c k) (rp m c i0 (gcol k)) (ra m c i0 k))
          (Fin.ext (by change (i1 : ℕ) - 8192 = i1 % 1024; omega) : (⟨(i1 : ℕ) - 8192, by omega⟩ : Fin 1024) = mcol i1)
      · refine (dif_neg (show ¬(i1 : ℕ) - 8192 < 1024 by omega)).trans ?_
        by_cases k3 : (i1 : ℕ) < 10240
        · refine (dif_pos (show (i1 : ℕ) - 8192 - 1024 < 1024 by omega)).trans ?_
          refine Eq.trans ?_ (if_pos (show (i1 : ℕ) / 2048 = 4 by omega)).symm
          refine Eq.trans ?_ (if_neg k2).symm
          exact congrArg (fun k => dgate (rd m c i0) (rwt m c k) (rp m c i0 (hcol k)) (rb m c i0 k))
            (Fin.ext (by change (i1 : ℕ) - 8192 - 1024 = i1 % 1024; omega) : (⟨(i1 : ℕ) - 8192 - 1024, by omega⟩ : Fin 1024) = mcol i1)
        · refine (dif_neg (show ¬(i1 : ℕ) - 8192 - 1024 < 1024 by omega)).trans ?_
          refine Eq.trans ?_ (if_neg (show ¬(i1 : ℕ) / 2048 = 4 by omega)).symm
          exact congrArg (fun q => m ((c.tc : Thread nD τ).loc main_arg5) (ix2 i0 q))
            (Fin.ext (by change 10240 + ((i1 : ℕ) - 8192 - 1024 - 1024) = i1; omega))
  · clear h h0 h1 h2 hr
    funext i
    clean_types
    idx_vars i
    pointwise [dbranch, dmix, rd, rwt, rp, gcol]
    rfl
  · clear h h0 h1 h2 hr
    funext i
    clean_types
    idx_vars i
    pointwise [dbranch, dmix, rd, rwt, rp, hcol]
    rfl
end

open Idealize.ShloMosaic Idealize.SL.Sem

/-- The reference runs, its arguments end unchanged, and it has no semaphores. -/
theorem ref_frame : Cert.quiescent_Reference2Ideal := fun m g _ =>
  (θ_run _ _ _).mono (fun r h => ⟨fun c => (h c).2.2.2, sem_eq_zero_of_no_sems rfl r.2⟩) (ref_values m g)

/-- The kernel's results and the reference's are the same arrays at every input. -/
theorem algebraic : Cert.algebraic_Kernel2Ideal_Reference2Ideal := by
  intro m g m' g' _ hargs
  refine ⟨fun c => (Cert.Kernel2Ideal.Gen.dats m 0 c).arrAt 6 Cert.Kernel2Ideal.cfg0.N,
    fun c => (Cert.Kernel2Ideal.Gen.dats m 0 c).arrAt 7 Cert.Kernel2Ideal.cfg0.N,
    fun c => (Cert.Kernel2Ideal.Gen.dats m 0 c).arrAt 8 Cert.Kernel2Ideal.cfg0.N, Cert.Kernel2Ideal.Value.run_blocks m g,
    (θ_run _ _ _).mono (fun r h c => ?_) (ref_values m' g')⟩
  obtain ⟨h0, h1, h2, hr⟩ := h c
  obtain ⟨a0, a1, a2, a3, a4, a5⟩ := hargs c
  have e0 : rd m' c = ad m c := funext fun i => funext fun k => congrFun a0 _
  have e1 : rwt m' c = aw m c := funext fun i => funext fun k => congrFun a1 _
  have e2 : rp m' c = ap m c := funext fun i => funext fun k => congrFun a2 _
  have e3 : ra m' c = aa m c := funext fun i => funext fun k => congrFun a3 _
  have e4 : rb m' c = ab m c := funext fun i => funext fun k => congrFun a4 _
  refine ⟨h0.trans (Eq.trans ?_ (final6 m c).symm), h1.trans (Eq.trans ?_ (final7 m c).symm),
    h2.trans (Eq.trans ?_ (final8 m c).symm), hr⟩
  · simp only [e0, e1, e2, e3, e4]
    funext i
    exact if_congr Iff.rfl rfl (congrFun a5 i)
  · simp only [e0, e1, e2]
    rfl
  · simp only [e0, e1, e2]
    rfl

end Cert.MixBwd
-- ==== Proof.SguRef.lean ====
module

public import proofs.«01_k».proof.Proof.Gen.ReferenceIdeal.Run
public import proofs.«01_k».proof.Proof.SguSpec
public import Idealize.ShloMosaic.Lib.Pointwise
public import Idealize.ShloMosaic.Lib.WordCmp
public import Idealize.ShloMosaic.Lib.Tactic.CleanTypes

/-! The reference's arrays read at an index, as the functions of SguSpec.lean of each chunk of 128 rows. -/

@[expose] public section

set_option maxRecDepth 16384

noncomputable section

namespace Cert.SguRef

open Cert.ReferenceIdeal Cert.ReferenceIdeal.Value Cert.Sgu Idealize.ShloMosaic Idealize.ShloMosaic.TcCoe Idealize.SL.Sem
  Idealize.ShloMosaic.StableHlo

variable (V0 : Valuation τ sig (Elt Ideal))

/-- The projection's weight. -/
def aw (a b : Fin 1024) : EReal := V0 (Proc.devRef .tc main_arg1) (ix2 a b)
/-- The norm's weight. -/
def anw (k : Fin 1024) : EReal := V0 (Proc.devRef .tc main_arg3) (ix2 0 k)
/-- The mixing matrices. -/
def aws (g : Fin 8) (i k : Fin 128) : EReal := V0 (Proc.devRef .tc main_arg4) (ix4 0 g i k)
/-- The mixing biases. -/
def abs (g : Fin 8) (i : Fin 128) : EReal := V0 (Proc.devRef .tc main_arg5) (ix3 0 g i)
/-- Chunk `M` of the gradient that enters. -/
def aP (M : Fin 64) (i : Fin 128) (k : Fin 1024) : EReal := V0 (Proc.devRef .tc main_arg0) (ix2 (arow M i) k)
/-- Chunk `M` of `u`. -/
def aU (M : Fin 64) (i : Fin 128) (k : Fin 1024) : EReal := V0 (Proc.devRef .tc main_arg2) (ix2 (arow M i) ⟨k, by omega⟩)
/-- Chunk `M` of `v`. -/
def aV (M : Fin 64) (i : Fin 128) (k : Fin 1024) : EReal := V0 (Proc.devRef .tc main_arg2) (ix2 (arow M i) ⟨1024 + k, by omega⟩)

/-- The row of a chunk and its place in the chunk. -/
theorem arow_mk (M : Fin 64) (i : Fin 128) (h : (M : ℕ) * 128 + i < 8192) : (⟨M * 128 + i, h⟩ : Fin 8192) = arow M i :=
  Fin.ext (by simp only [arow]; omega)
theorem col_mk (g : Fin 8) (d : Fin 128) (h : (g : ℕ) * 128 + d < 1024) : (⟨g * 128 + d, h⟩ : Fin 1024) = col g d :=
  Fin.ext (by simp only [col]; omega)
theorem arow_div (M : Fin 64) (i : Fin 128) (h : (arow M i : ℕ) / 128 < 64) : (⟨(arow M i : ℕ) / 128, h⟩ : Fin 64) = M :=
  Fin.ext (by simp only [arow]; omega)
theorem arow_mod (M : Fin 64) (i : Fin 128) (h : (arow M i : ℕ) % 128 < 128) : (⟨(arow M i : ℕ) % 128, h⟩ : Fin 128) = i :=
  Fin.ext (by simp only [arow]; omega)
theorem col_div (g : Fin 8) (d : Fin 128) (h : (col g d : ℕ) / 128 < 8) : (⟨(col g d : ℕ) / 128, h⟩ : Fin 8) = g :=
  Fin.ext (by simp only [col]; omega)
theorem col_mod (g : Fin 8) (d : Fin 128) (h : (col g d : ℕ) % 128 < 128) : (⟨(col g d : ℕ) % 128, h⟩ : Fin 128) = d :=
  Fin.ext (by simp only [col]; omega)
theorem grp_col (g : Fin 8) (d : Fin 128) : grp (col g d) = g := Fin.ext (by simp only [grp, col]; omega)
theorem col_grp (k : Fin 1024) : ∃ g d, k = col g d :=
  ⟨⟨k / 128, by omega⟩, ⟨k % 128, by omega⟩, Fin.ext (by simp only [col]; omega)⟩

/-- A sum over two axes of size one, the first and the last of three, has one term. -/
theorem reduce_02 (h : S1x8192x1.ReducesTo [0, 2] S8192) (v : S1x8192x1.Idx → EReal) (a : EReal) (r : Fin 8192) :
    Ideal.hostReduceAdd h v a (ix1 r) = a + v (ix3 0 r 0) := by
  refine congrArg (a + ·) ((Finset.sum_filter_eq_sum_of_fiber (fun i => h.drop i = ix1 r) (fun _ : Unit => (ix3 0 r 0 : S1x8192x1.Idx))
    (fun _ _ _ => rfl) (fun i => ⟨fun e => ⟨(), ?_⟩, ?_⟩) v).trans (by simp))
  · idx_vars i
    have e0 := congrArg Fin.val (congrFun e 0)
    rw [Subsingleton.elim i0 0, Subsingleton.elim i2 0, show i1 = r from Fin.ext e0]
  · rintro ⟨_, rfl⟩
    funext b; fin_cases b; rfl
/-- A sum over the two leading axes of size one has one term. -/
theorem reduce_01 (h : S1x1x1024.ReducesTo [0, 1] S1024) (v : S1x1x1024.Idx → EReal) (a : EReal) (k : Fin 1024) :
    Ideal.hostReduceAdd h v a (ix1 k) = a + v (ix3 0 0 k) := by
  refine congrArg (a + ·) ((Finset.sum_filter_eq_sum_of_fiber (fun i => h.drop i = ix1 k) (fun _ : Unit => (ix3 0 0 k : S1x1x1024.Idx))
    (fun _ _ _ => rfl) (fun i => ⟨fun e => ⟨(), ?_⟩, ?_⟩) v).trans (by simp))
  · idx_vars i
    have e0 := congrArg Fin.val (congrFun e 0)
    rw [Subsingleton.elim i0 0, Subsingleton.elim i1 0, show i2 = k from Fin.ext e0]
  · rintro ⟨_, rfl⟩
    funext b; fin_cases b; rfl
/-- A sum over three axes of size one has one term. -/
theorem reduce_014 (h : S1x1x128x8x1.ReducesTo [0, 1, 4] S128x8) (v : S1x1x128x8x1.Idx → EReal) (a : EReal) (i : Fin 128) (g : Fin 8) :
    Ideal.hostReduceAdd h v a (ix2 i g) = a + v (ix5 0 0 i g 0) := by
  refine congrArg (a + ·) ((Finset.sum_filter_eq_sum_of_fiber (fun j => h.drop j = ix2 i g) (fun _ : Unit => (ix5 0 0 i g 0 : S1x1x128x8x1.Idx))
    (fun _ _ _ => rfl) (fun j => ⟨fun e => ⟨(), ?_⟩, ?_⟩) v).trans (by simp))
  · idx_vars j
    have e0 := congrArg Fin.val (congrFun e 0)
    have e1 := congrArg Fin.val (congrFun e 1)
    rw [Subsingleton.elim j0 0, Subsingleton.elim j1 0, Subsingleton.elim j4 0, show j2 = i from Fin.ext e0, show j3 = g from Fin.ext e1]
  · rintro ⟨_, rfl⟩
    funext b; fin_cases b <;> rfl
/-- A sum over the chunks and the columns of a group. -/
theorem reduce_14 (h : S1x64x128x8x128.ReducesTo [1, 4] S1x128x8) (v : S1x64x128x8x128.Idx → EReal) (a : EReal) (z : Fin 1) (i : Fin 128)
    (g : Fin 8) : Ideal.hostReduceAdd h v a (ix3 z i g) = a + ∑ M, ∑ d, v (ix5 z M i g d) := by
  refine congrArg (a + ·) ((Finset.sum_filter_eq_sum_of_fiber (fun j => h.drop j = ix3 z i g)
    (fun k : Fin 64 × Fin 128 => (ix5 z k.1 i g k.2 : S1x64x128x8x128.Idx))
    (fun _ _ e => Prod.ext (congrFun e 1) (congrFun e 4)) (fun j => ⟨fun e => ⟨(j 1, j 4), ?_⟩, ?_⟩) v).trans (Fintype.sum_prod_type _))
  · idx_vars j
    have e0 := congrArg Fin.val (congrFun e 1)
    have e1 := congrArg Fin.val (congrFun e 2)
    rw [Subsingleton.elim j0 z, show j2 = i from Fin.ext e0, show j3 = g from Fin.ext e1]
  · rintro ⟨_, rfl⟩
    funext b; fin_cases b <;> rfl

/-- A sum over the rows is a sum over the chunks and the rows of a chunk. -/
theorem sum_arow (f : Fin 8192 → EReal) : ∑ r, f r = ∑ M, ∑ i, f (arow M i) := by
  rw [← Fintype.sum_prod_type']
  refine (Fintype.sum_equiv (finProdFinEquiv (m := 64) (n := 128)) _ _ fun x => ?_).symm
  exact congrArg f (Fin.ext (by simp only [arow, finProdFinEquiv_apply_val]; omega))

/-- The dimension record of the product that gives the gradient of the mixing matrices. -/
abbrev dMat := dot_S8x1x64x128x128_S1x64x128x8x128_S8x128x128_123_014_4_2_0_3
/-- An index of that product's contracted axes: the batch, a chunk, a column of the group. -/
def contrIdx (M : Fin 64) (d : Fin 128) : dMat.contr.Idx := fun p =>
  match p with
  | ⟨0, _⟩ => (⟨0, Nat.one_pos⟩ : Fin 1)
  | ⟨1, _⟩ => M
  | ⟨2, _⟩ => d
  | ⟨_ + 3, h⟩ => absurd h (Nat.not_lt.mpr (Nat.le_add_left 3 _))
/-- The contracted indices are the pairs of a chunk and a column. -/
def contrEquiv : Fin 64 × Fin 128 ≃ dMat.contr.Idx where
  toFun k := contrIdx k.1 k.2
  invFun k := (k ⟨1, by decide⟩, k ⟨2, by decide⟩)
  left_inv _ := rfl
  right_inv k := by
    funext p
    match p with
    | ⟨0, _⟩ => exact Subsingleton.elim (α := Fin 1) _ _
    | ⟨1, _⟩ => rfl
    | ⟨2, _⟩ => rfl
    | ⟨_ + 3, h⟩ => exact absurd h (Nat.not_lt.mpr (Nat.le_add_left 3 _))
/-- That product at an index. -/
theorem dMat_at (x : S8x1x64x128x128.Idx → EReal) (y : S1x64x128x8x128.Idx → EReal) (a : S8x128x128.Idx → EReal) (g : Fin 8)
    (i j : Fin 128) : Ideal.matmul dMat x y a (ix3 g i j)
      = a (ix3 g i j) + ∑ M : Fin 64, ∑ d : Fin 128, x (ix5 g 0 M d i) * y (ix5 0 M j g d) := by
  refine congrArg (a _ + ·) ((Fintype.sum_equiv contrEquiv (fun k => x (ix5 g 0 k.1 k.2 i) * y (ix5 0 k.1 j g k.2)) _
    fun k => ?_).symm.trans (Fintype.sum_prod_type _))
  rw [show dMat.lhsIdx (ix3 g i j) (contrEquiv k) = ix5 g 0 k.1 k.2 i by funext b; fin_cases b <;> rfl,
    show dMat.rhsIdx (ix3 g i j) (contrEquiv k) = ix5 0 k.1 j g k.2 by funext b; fin_cases b <;> rfl]

variable (z : Fin 1) (M : Fin 64) (i : Fin 128) (k : Fin 1024) (g : Fin 8) (d : Fin 128)

theorem v4_at : res_main_v4 V0 (ix3 z (arow M i) k) = aU V0 M i k := by
  unfold res_main_v4 res_main_v0; clean_types; pointwise [aU]
theorem v5_at : res_main_v5 V0 (ix3 z (arow M i) k) = aV V0 M i k := by
  unfold res_main_v5 res_main_v0; clean_types; pointwise [aV]
theorem v19_at : res_main_v19 V0 (ix3 z (arow M i) k) = th (aU V0 M i k) := by
  unfold res_main_v19; clean_types; pointwise [v4_at, th]
  rw [mul_comm (_ * _) (aU V0 M i k)]
theorem v28_at : res_main_v28 V0 (ix3 z (arow M i) k) = hf (aU V0 M i k) := by
  unfold res_main_v28; clean_types; pointwise [v19_at, hf]
theorem v29_at : res_main_v29 V0 (ix3 z (arow M i) k) = gl (aU V0 M i k) := by
  unfold res_main_v29; clean_types; pointwise [v4_at, v28_at, gl]
theorem v40_at : res_main_v40 V0 (ix3 z (arow M i) k) = th (aV V0 M i k) := by
  unfold res_main_v40; clean_types; pointwise [v5_at, th]
  rw [mul_comm (_ * _) (aV V0 M i k)]
theorem v49_at : res_main_v49 V0 (ix3 z (arow M i) k) = hf (aV V0 M i k) := by
  unfold res_main_v49; clean_types; pointwise [v40_at, hf]
theorem v50_at : res_main_v50 V0 (ix3 z (arow M i) k) = gl (aV V0 M i k) := by
  unfold res_main_v50; clean_types; pointwise [v5_at, v49_at, gl]
theorem v59_at (y : Fin 1) : res_main_v59 V0 (ix3 z (arow M i) y) = ms (aV V0 M i) := by
  unfold res_main_v59; clean_types; pointwise [v50_at, ms]
theorem v60_at (y : Fin 1) : res_main_v60 V0 (ix3 z (arow M i) y) = rs (aV V0 M i) := by
  unfold res_main_v60; clean_types; pointwise [v59_at, rs]
theorem v65_at : res_main_v65 V0 (ix3 z (arow M i) k) = xh (aV V0 M i) k := by
  unfold res_main_v65; clean_types; pointwise [v50_at, v60_at, xh]
theorem v66_at (y : Fin 1) : res_main_v66 V0 (ix3 z y k) = anw V0 k := by
  unfold res_main_v66; clean_types; pointwise [anw]
theorem v69_at : res_main_v69 V0 (ix5 z M i g d) = vn (anw V0) (aV V0 M i) (col g d) := by
  unfold res_main_v69; clean_types
  pointwise
  rw [arow_mk, col_mk, v65_at, v66_at, vn]
theorem select_mask (a b : Fin 128) (u v : EReal) :
    Scalar.select (Scalar.select (IntOp.cmpi CmpIPredicate.sge (IntOp.addi (BitVec.ofNat 32 ↑a) 0#32) (BitVec.ofNat 32 ↑b)) 1#1 0#1) u v
      = if (b : ℕ) ≤ a then u else v := by
  rw [show IntOp.addi (BitVec.ofNat 32 (a : ℕ)) 0#32 = BitVec.ofNat 32 a by simp [IntOp.addi], WordCmp.cmpi_sge_ofNat (by omega) (by omega)]
  by_cases h : (b : ℕ) ≤ a <;> simp [h, Scalar.select]
theorem v74_at (j : Fin 128) : res_main_v74_0 V0 (ix3 g i j) = cw (aws V0) g i j := by
  unfold res_main_v74_0 res_main_v74_1; clean_types; pointwise [cw, aws]
  exact select_mask i j _ _
theorem v86_at : res_main_v86 V0 (ix3 z (arow M i) k) = dy (aw V0) (aP V0 M i) k := by
  unfold res_main_v86 res_main_v3; clean_types; pointwise [dy, aw, aP]
theorem v89_at : res_main_v89 V0 (ix5 z M i g d) = gm (aw V0) (aP V0 M i) (aU V0 M i) (col g d) := by
  unfold res_main_v89; clean_types
  pointwise
  rw [arow_mk, col_mk, v29_at, v86_at, gm]
theorem v94_at : res_main_v94 V0 (ix5 g z M d i) = gm (aw V0) (aP V0 M i) (aU V0 M i) (col g d) := by
  unfold res_main_v94; clean_types
  pointwise [v89_at]
theorem v81_at : res_main_v81 V0 (ix3 z (arow M i) k) = mix (anw V0) (aws V0) (abs V0) (aV V0 M) i k := by
  obtain ⟨g, d, rfl⟩ := col_grp k
  unfold res_main_v81; clean_types
  pointwise [v69_at, v74_at, mix]
  simp only [arow_div, arow_mod, col_div, col_mod, grp_col, abs]
  exact congrArg (· + _) (Finset.sum_congr rfl fun x _ => mul_comm _ _)
theorem v99_at : res_main_v99 V0 (ix3 z (arow M i) k) = dvn (aw V0) (aws V0) (aP V0 M) (aU V0 M) i k := by
  obtain ⟨g, d, rfl⟩ := col_grp k
  unfold res_main_v99; clean_types
  pointwise [v94_at, v74_at, dvn]
  simp only [arow_div, arow_mod, col_div, col_mod, grp_col]
  exact Finset.sum_congr rfl fun x _ => mul_comm _ _
theorem v88_at : res_main_v88 V0 (ix3 z (arow M i) k)
    = dy (aw V0) (aP V0 M i) k * mix (anw V0) (aws V0) (abs V0) (aV V0 M) i k := by
  unfold res_main_v88; clean_types; pointwise [v86_at, v81_at]
theorem v104_at : res_main_v104 V0 (ix3 z (arow M i) k) = dw (aw V0) (anw V0) (aws V0) (aP V0 M) (aU V0 M) i k := by
  unfold res_main_v104; clean_types; pointwise [v99_at, v66_at, dw]
theorem v137_at : res_main_v137 V0 (ix3 z (arow M i) k)
    = gin (aU V0 M i k) (dy (aw V0) (aP V0 M i) k * mix (anw V0) (aws V0) (abs V0) (aV V0 M) i k) := by
  unfold res_main_v137; clean_types; pointwise [v4_at, v88_at, v19_at, gin, dn]
/-- The constant two doubles. -/
theorem mul_two_mul (t x : EReal) : t * (Ideal.ofBits .f32 0x40000000#32 * x) = x * t + t * x := by
  have e : Ideal.ofBits .f32 0x40000000#32 = (1 : EReal) + 1 := by
    rw [show (1 : EReal) + 1 = ((2 : ℝ) : EReal) by norm_cast]
    simp [Ideal.ofBits, Ideal.ieee, -EReal.coe_mul]; norm_num
  rw [mul_left_comm, e, EReal.right_distrib_of_nonneg zero_le_one zero_le_one, one_mul, mul_comm x t]
theorem v118_at : res_main_v118 V0 (ix3 z (arow M i) k)
    = dgv (aw V0) (anw V0) (aws V0) (aP V0 M) (aU V0 M) (aV V0 M) i k := by
  unfold res_main_v118; clean_types; pointwise [v104_at, v60_at, v50_at, v59_at, dgv, dms, reduce_02]
  rw [mul_two_mul, add_assoc]
theorem v125_at : res_main_v125 V0 (ix3 z (arow M i) k)
    = gin (aV V0 M i k) (dgv (aw V0) (anw V0) (aws V0) (aP V0 M) (aU V0 M) (aV V0 M) i k) := by
  unfold res_main_v125; clean_types; pointwise [v5_at, v118_at, v40_at, gin, dn]

/-- The gradient of `u` and `v` at a row and a column. -/
def duv (r : Fin 8192) (k : ℕ) : EReal :=
  if h1 : k < 1024 then
    du (aw V0) (anw V0) (aws V0) (abs V0) (aP V0 ⟨r / 128, by omega⟩) (aU V0 ⟨r / 128, by omega⟩) (aV V0 ⟨r / 128, by omega⟩)
      ⟨r % 128, by omega⟩ ⟨k, h1⟩
  else if h2 : k < 2048 then
    dv (aw V0) (anw V0) (aws V0) (aP V0 ⟨r / 128, by omega⟩) (aU V0 ⟨r / 128, by omega⟩) (aV V0 ⟨r / 128, by omega⟩)
      ⟨r % 128, by omega⟩ ⟨k - 1024, by omega⟩
  else 0

/-- Every run of the reference ends with the four gradients at every index and the arguments as they were. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v151)
          = fun i => if (i 1 : ℕ) < 2048 then duv (launchContents m c) (i 0) (i 1) else m ((c.tc : Thread nD τ).loc main_arg6) i)
      ∧ (r.2.mem ((c.tc : Thread nD τ).loc main_v145)
          = fun i => ∑ M, ∑ r, dnw (aw (launchContents m c)) (aws (launchContents m c)) (aP (launchContents m c) M)
              (aU (launchContents m c) M) (aV (launchContents m c) M) r (i 1))
      ∧ (r.2.mem ((c.tc : Thread nD τ).loc main_v152)
          = fun i => ∑ M, dmat (aw (launchContents m c)) (anw (launchContents m c)) (aP (launchContents m c) M)
              (aU (launchContents m c) M) (aV (launchContents m c) M) (i 0) (i 1) (i 2))
      ∧ (r.2.mem ((c.tc : Thread nD τ).loc main_v154)
          = fun i => ∑ M, db (aw (launchContents m c)) (aP (launchContents m c) M) (aU (launchContents m c) M) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run _ _ _).mono (fun _ h c => ?_) (Value.run m ρ)
  obtain ⟨h0, h1, h2, h3, hr⟩ := h c
  refine ⟨h0.trans ?_, h1.trans ?_, h2.trans ?_, h3.trans ?_, hr⟩
  · rw [show m ((c.tc : Thread nD τ).loc main_arg6) = launchContents m c (Proc.devRef .tc main_arg6) from rfl]
    clear h h0 h1 h2 h3 hr
    generalize launchContents m c = V0
    clean_types
    funext i
    idx_vars i
    obtain ⟨M, r, rfl⟩ : ∃ M r, i0 = arow M r :=
      ⟨⟨i0 / 128, by omega⟩, ⟨i0 % 128, by omega⟩, Fin.ext (by simp only [arow]; omega)⟩
    pointwise [v88_at, v28_at, v137_at, v4_at, v118_at, v49_at, v125_at, v5_at, duv, arow_div, arow_mod, du, dv, gg, Sgu.sq]
    simp only [Finset.univ_unique, Finset.sum_singleton]
    by_cases k1 : (i1 : ℕ) < 1024
    · refine (dif_pos k1).trans ?_
      refine Eq.trans ?_ (if_pos (show (i1 : ℕ) < 2048 by omega)).symm
      refine Eq.trans ?_ (dif_pos k1).symm
      rfl
    · refine (dif_neg k1).trans ?_
      by_cases k2 : (i1 : ℕ) < 2048
      · refine (dif_pos (show (i1 : ℕ) - 1024 < 1024 by omega)).trans ?_
        refine Eq.trans ?_ (if_pos k2).symm
        refine Eq.trans ?_ (dif_neg k1).symm
        refine Eq.trans ?_ (dif_pos k2).symm
        rfl
      · refine (dif_neg (show ¬ (i1 : ℕ) - 1024 < 1024 by omega)).trans ?_
        refine Eq.trans ?_ (if_neg k2).symm
        exact congrArg (fun q => V0 (Proc.devRef .tc main_arg6) (ix2 (arow M r) q))
          (Fin.ext (by change 2048 + ((i1 : ℕ) - 1024 - 1024) = i1; omega))
  · clear h h0 h1 h2 h3 hr
    generalize launchContents m c = V0
    clean_types
    funext i
    idx_vars i
    pointwise [reduce_01]
    rw [sum_arow]
    simp only [v65_at, v99_at, dnw]
  · clear h h0 h1 h2 h3 hr
    generalize launchContents m c = V0
    unfold res_main_v74_1
    clean_types
    funext i
    idx_vars i
    pointwise [v94_at, v69_at, dmat, select_mask, dMat_at]
    split_ifs
    · rfl
    · simp
  · clear h h0 h1 h2 h3 hr
    generalize launchContents m c = V0
    clean_types
    funext i
    idx_vars i
    pointwise [reduce_014, reduce_14, v89_at, db]
end Cert.SguRef
-- ==== Proof.RowSum.lean ====
module

public import proofs.«01_k».proof.Proof.SguIndex
public import Idealize.ShloMosaic.Lib.Pipeline.ValueKit

/-! Sums over 8192 rows that a kernel takes in four runs of 2048, or run by run over a grid. -/

@[expose] public section

noncomputable section

namespace Cert.RowSum

open Cert.Sgu Idealize.ShloMosaic

/-- A sum kept over four points of a grid, its first point storing a part and each later one adding its own, ends as the sum over all rows
    when point `k` of the four adds the rows of run `k`. -/
theorem fold_rows {N : ℕ} (acc out p : ∀ n, n < N → EReal) (n : ℕ) (h : n < N) (h3 : n % 4 = 3) (f : Fin 8192 → EReal)
    (hA : ∀ k hk, k % 4 = 0 → acc k hk = p k hk)
    (hB : ∀ k hk, 1 ≤ k % 4 ∧ k % 4 ≤ 2 → acc k hk = acc (k - 1) (by omega) + p k hk)
    (hC : ∀ k hk, k % 4 = 3 → out k hk = acc (k - 1) (by omega) + p k hk)
    (hp : ∀ k hk, k / 4 = n / 4 → p k hk = ∑ l : Fin 2048, f ⟨2048 * (k % 4) + l, by omega⟩) : out n h = ∑ r, f r := by
  rw [sum_split (A := 4) (B := 2048) rfl f (fun a b => ⟨2048 * a + b, by omega⟩) fun _ _ => rfl, Fin.sum_univ_four,
    hC n h h3, hB (n - 1) _ (by omega), hB (n - 1 - 1) _ (by omega), hA (n - 1 - 1 - 1) _ (by omega),
    hp n _ rfl, hp (n - 1) _ (by omega), hp (n - 1 - 1) _ (by omega), hp (n - 1 - 1 - 1) _ (by omega)]
  simp only [show (n - 1 - 1 - 1) % 4 = 0 by omega, show (n - 1 - 1) % 4 = 1 by omega, show (n - 1) % 4 = 2 by omega, h3]
  rfl

/-- A sum kept over the points of a grid, each adding its run of rows, ends as the sum over all rows. -/
theorem fold_runs {N : ℕ} (M B : ℕ) (hN : N = M) (hB : M * B = 8192) (acc : ∀ n, n < N → EReal) (f : Fin 8192 → EReal)
    (row : Fin N → Fin B → Fin 8192) (hrow : ∀ t r, (row t r).val = B * t.val + r.val)
    (h0 : ∀ t : Fin N, t.val % M = 0 → acc t.val t.isLt = ∑ r, f (row t r))
    (hs : ∀ t : Fin N, ¬t.val % M = 0 → acc t.val t.isLt = acc (t.val - 1) (Nat.lt_of_le_of_lt (Nat.sub_le _ _) t.isLt) + ∑ r, f (row t r))
    (t : Fin N) (ht : t.val + 1 = N) : acc t.val t.isLt = ∑ r, f r := by
  rw [sum_split (A := N) (B := B) (by rw [hN]; exact hB.symm) f row hrow]
  refine (Pipeline.eq_sum_fin_of_reset_step_apply_last (fun n h (_ : Unit) => acc n h) M (fun _ => (0 : EReal))
    (fun t _ => ∑ r, f (row t r)) (fun t h _ => ?_) (fun t h _ => hs t h) (le_of_eq hN) t ht ()).trans (zero_add _)
  exact (h0 t h).trans (zero_add _).symm

/-- A sum kept over the sixteen points of a grid, each adding its 512 rows, ends as the sum over all rows. -/
theorem fold_tiles {N : ℕ} (hN : N = 16) (acc : ∀ n, n < N → EReal) (f : Fin 8192 → EReal) (row : Fin N → Fin 512 → Fin 8192)
    (hrow : ∀ t r, (row t r).val = 512 * t.val + r.val)
    (h0 : ∀ t : Fin N, t.val % 16 = 0 → acc t.val t.isLt = ∑ r, f (row t r))
    (hs : ∀ t : Fin N, ¬t.val % 16 = 0 → acc t.val t.isLt = acc (t.val - 1) (Nat.lt_of_le_of_lt (Nat.sub_le _ _) t.isLt) + ∑ r, f (row t r))
    (t : Fin N) (ht : t.val + 1 = N) : acc t.val t.isLt = ∑ r, f r :=
  fold_runs 16 512 hN rfl acc f row hrow h0 hs t ht

end Cert.RowSum
-- ==== Proof.Ff1Dgrad.lean ====
module

public import proofs.«01_k».proof.Proof.Gen.Kernel3Ideal.Value
public import proofs.«01_k».proof.Proof.Gen.Reference3Ideal.Run
public import proofs.«01_k».proof.Defs
public import proofs.«01_k».proof.Proof.SguRef
public import proofs.«01_k».proof.Proof.RowSum
public import Idealize.ShloMosaic.Lib.Pointwise
public import Idealize.ShloMosaic.Lib.Pipeline.ValueKit
public import Idealize.ShloMosaic.Lib.Tactic.CleanTypes
public import Idealize.ShloMosaic.Lib.Quiescent

/-! The gradient of the gated residual, its norm and the modulation that feeds the feed-forward: the kernel's five
arrays and the reference's, at an index. -/

@[expose] public section

set_option maxRecDepth 16384

noncomputable section

namespace Cert.Ff1Dgrad

section
open Idealize.ShloMosaic

variable (d : Fin 4096 → EReal) (w : Fin 1024 → Fin 4096 → EReal) (x o d1 g sc : Fin 1024 → EReal)

/-- The gradient at the modulated row: the row that enters against the weight. -/
def dh (k : Fin 1024) : EReal := ∑ l, d l * w k l
/-- The gated residual. -/
def res (k : Fin 1024) : EReal := x k + g k * o k
/-- Its mean square, with the norm's small constant. -/
def ms : EReal := Ideal.div (∑ k, res x o g k * res x o g k) (Ideal.ofBits .f32 0x44800000#32) + Ideal.ofBits .f32 0x358637BD#32
/-- The reciprocal of its root mean square. -/
def rs : EReal := Ideal.rsqrt (ms x o g)
/-- The gradient at the normalised row. -/
def dn (k : Fin 1024) : EReal := dh d w k * (1 + sc k)
/-- The gradient at each square of the row. -/
def dms : EReal := Ideal.div ((∑ k, res x o g k * dn d w sc k)
  * (Ideal.ofBits .f32 0xBF000000#32 * Ideal.div (rs x o g) (ms x o g))) (Ideal.ofBits .f32 0x44800000#32)
/-- The gradient at the residual stream. -/
def dx (k : Fin 1024) : EReal := d1 k + dn d w sc k * rs x o g + res x o g k * dms d w x o g sc + dms d w x o g sc * res x o g k
/-- The gradient at the branch. -/
def dbr (k : Fin 1024) : EReal := g k * dx d w x o d1 g sc k
/-- A row's part of the gate's gradient. -/
def dg (k : Fin 1024) : EReal := dx d w x o d1 g sc k * o k
/-- A row's part of the scale's gradient. -/
def dsc (k : Fin 1024) : EReal := res x o g k * rs x o g * dh d w k
end

section
open Cert.Kernel3Ideal Cert.Kernel3Ideal.Gen Idealize.ShloMosaic Idealize.ShloMosaic.TcCoe Idealize.SL.Sem

/-- A row of a block. -/
def row {R C : ℕ} (x : (⟨2, ![R, C]⟩ : Shape).Idx → EReal) (r : Fin R) (k : Fin C) : EReal := x (ix2 r k)

section
variable (x0 : Vec Ideal S512x4096 .bf16) (x1 : Vec Ideal S1024x4096 .bf16) (x2 x3 x4 : Vec Ideal S512x1024 .f32)
  (x5 x6 : Vec Ideal S1x1024 .f32) (r : Fin 512) (k : Fin 1024)

theorem pay2_at : k0_pay2 x0 x1 (ix2 r k) = dh (row x0 r) (row x1) k := by pointwise [k0_pay2, dh, row]
theorem pay3_at : k0_pay3 x2 x3 x5 (ix2 r k) = res (row x2 r) (row x3 r) (row x5 0) k := by pointwise [k0_pay3, res, row]
theorem pay4_at : k0_pay4 x2 x3 x5 (ix2 r 0) = ms (row x2 r) (row x3 r) (row x5 0) := by pointwise [k0_pay4, pay3_at, ms]
theorem pay5_at : k0_pay5 x2 x3 x5 (ix2 r 0) = rs (row x2 r) (row x3 r) (row x5 0) := by pointwise [k0_pay5, pay4_at, rs]
theorem pay9_at : k0_pay9 x0 x1 x6 (ix2 r k) = dn (row x0 r) (row x1) (row x6 0) k := by pointwise [k0_pay9, pay2_at, dn, row]

/-- What a point stores of the residual stream's gradient. -/
def dxBlk : Vec Ideal S512x1024 .f32 := k0_pay11 x4 (k0_pay3 x2 x3 x5) (k0_pay5 x2 x3 x5) (k0_pay6 x2 x3 x5) (k0_pay9 x0 x1 x6)
  (k0_pay10 x0 x1 x2 x3 x5 x6)

theorem dxBlk_at : dxBlk x0 x1 x2 x3 x4 x5 x6 (ix2 r k)
    = dx (row x0 r) (row x1) (row x2 r) (row x3 r) (row x4 r) (row x5 0) (row x6 0) k := by
  pointwise [dxBlk, k0_pay11, k0_pay10, k0_pay6, pay3_at, pay4_at, pay5_at, pay9_at, dx, dms, row]
  simp only [Fin.sum_univ_one, pay4_at, pay5_at]

/-- What a point stores of the branch's gradient. -/
def dbrBlk : Vec Ideal S512x1024 .bf16 := k0_pay13 x4 x5 (k0_pay3 x2 x3 x5) (k0_pay5 x2 x3 x5) (k0_pay6 x2 x3 x5)
  (k0_pay9 x0 x1 x6) (k0_pay10 x0 x1 x2 x3 x5 x6)
/-- A point's step of the gate's gradient. -/
def dgStep (a : Vec Ideal S1x1024 .f32) : Vec Ideal S1x1024 .f32 := k0_pay17 x3 x4 (k0_pay3 x2 x3 x5) (k0_pay5 x2 x3 x5)
  (k0_pay6 x2 x3 x5) (k0_pay9 x0 x1 x6) (k0_pay10 x0 x1 x2 x3 x5 x6) a

theorem dbrBlk_at : dbrBlk x0 x1 x2 x3 x4 x5 x6 (ix2 r k)
    = dbr (row x0 r) (row x1) (row x2 r) (row x3 r) (row x4 r) (row x5 0) (row x6 0) k := by
  unfold dbr
  rw [← dxBlk_at]
  pointwise [dbrBlk, k0_pay13, k0_pay12, dxBlk, row]

variable (a : Vec Ideal S1x1024 .f32)

theorem dgStep_at (z : Fin 1) : dgStep x0 x1 x2 x3 x4 x5 x6 a (ix2 z k)
    = a (ix2 z k) + ∑ r, dg (row x0 r) (row x1) (row x2 r) (row x3 r) (row x4 r) (row x5 0) (row x6 0) k := by
  simp only [dg, ← dxBlk_at]
  pointwise [dgStep, k0_pay17, k0_pay12, dxBlk, row]
theorem dscStep_at (z : Fin 1) : k0_pay18 (k0_pay8 x0 x1 x2 x3 x5) a (ix2 z k)
    = a (ix2 z k) + ∑ r, dsc (row x0 r) (row x1) (row x2 r) (row x3 r) (row x5 0) k := by
  pointwise [k0_pay18, k0_pay8, pay2_at, pay3_at, pay5_at, dsc]
theorem dshStep_at (z : Fin 1) : k0_pay1 (k0_pay7 x0 x1) (k0_pay19 a) (ix2 z k)
    = a (ix2 z k) + ∑ r, dh (row x0 r) (row x1) k := by
  pointwise [k0_pay1, k0_pay19, k0_pay7, pay2_at]
theorem zero14_at (z : Fin 1) : k0_pay14 (F := Ideal) (ix2 z k) = 0 := by pointwise [k0_pay14]
theorem zero15_at (z : Fin 1) : k0_pay15 (F := Ideal) (ix2 z k) = 0 := by pointwise [k0_pay15]
theorem zero16_at (z : Fin 1) : k0_pay16 (F := Ideal) (ix2 z k) = 0 := by pointwise [k0_pay16]
end

variable (m : (ℓ : Loc nD τ sig) → Buf (Elt Ideal) ℓ) (c : Dev nD)

/-- The gradient that enters from the feed-forward. -/
def ad (r : Fin 8192) (l : Fin 4096) : EReal := m ((c : Thread nD τ).loc main_arg0) (ix2 r l)
/-- The feed-forward's first weight. -/
def aw (k : Fin 1024) (l : Fin 4096) : EReal := m ((c : Thread nD τ).loc main_arg1) (ix2 k l)
/-- The residual stream. -/
def ax (r : Fin 8192) (k : Fin 1024) : EReal := m ((c : Thread nD τ).loc main_arg2) (ix2 r k)
/-- The branch. -/
def ao (r : Fin 8192) (k : Fin 1024) : EReal := m ((c : Thread nD τ).loc main_arg3) (ix2 r k)
/-- The gradient that enters along the residual stream. -/
def ad1 (r : Fin 8192) (k : Fin 1024) : EReal := m ((c : Thread nD τ).loc main_arg4) (ix2 r k)
/-- The gate. -/
def ag (k : Fin 1024) : EReal := m ((c : Thread nD τ).loc main_arg5) (ix2 0 k)
/-- The scale. -/
def asc (k : Fin 1024) : EReal := m ((c : Thread nD τ).loc main_arg6) (ix2 0 k)

/-- Row `r` of point `t`'s blocks, among the array's rows. -/
def arow (t : Fin cfg0.N) (r : Fin 512) : Fin 8192 := ⟨512 * t.val + r, by have := Nat.lt_of_lt_of_eq t.isLt N_0; omega⟩

theorem idx0 : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_8.index t = ![t.val, 0] ∧ win0_9.index t = ![t.val, 0] := by decide +kernel

section
variable (t : Fin cfg0.N) (r : Fin 512)

theorem blk0 : row (iblk m c 0 t) r = ad m c (arow t r) := by
  funext k
  unfold row ad
  blk_ext [iblk, V, arow, idx0 t]
theorem blk1 : row (iblk m c 1 t) = aw m c := by
  funext j k
  unfold row aw
  blk_ext [iblk, V, idx0 t]
theorem blk2 : row (iblk m c 2 t) r = ax m c (arow t r) := by
  funext k
  unfold row ax
  blk_ext [iblk, V, arow, idx0 t]
theorem blk3 : row (iblk m c 3 t) r = ao m c (arow t r) := by
  funext k
  unfold row ao
  blk_ext [iblk, V, arow, idx0 t]
theorem blk4 : row (iblk m c 4 t) r = ad1 m c (arow t r) := by
  funext k
  unfold row ad1
  blk_ext [iblk, V, arow, idx0 t]
theorem blk5 : row (iblk m c 5 t) 0 = ag m c := by
  funext k
  unfold row ag
  blk_ext [iblk, V, idx0 t]
theorem blk6 : row (iblk m c 6 t) 0 = asc m c := by
  funext k
  unfold row asc
  blk_ext [iblk, V, idx0 t]

theorem point_dx : (outsAt0 m c t.val t.isLt).1
    = dxBlk (iblk m c 0 t) (iblk m c 1 t) (iblk m c 2 t) (iblk m c 3 t) (iblk m c 4 t) (iblk m c 5 t) (iblk m c 6 t) := by
  unfold dxBlk
  by_cases h : t.val % 16 = 0
  · rw [outsAt0_A m c t h]
    frame_out
  · rw [outsAt0_B m c t h]
    frame_out
theorem point_dbr : (outsAt0 m c t.val t.isLt).2.1
    = dbrBlk (iblk m c 0 t) (iblk m c 1 t) (iblk m c 2 t) (iblk m c 3 t) (iblk m c 4 t) (iblk m c 5 t) (iblk m c 6 t) := by
  unfold dbrBlk
  by_cases h : t.val % 16 = 0
  · rw [outsAt0_A m c t h]
    frame_out
  · rw [outsAt0_B m c t h]
    frame_out

theorem dg_reset (h : t.val % 16 = 0) : (outsAt0 m c t.val t.isLt).2.2.1
    = dgStep (iblk m c 0 t) (iblk m c 1 t) (iblk m c 2 t) (iblk m c 3 t) (iblk m c 4 t) (iblk m c 5 t) (iblk m c 6 t) (k0_pay14 (F := Ideal)) := by
  rw [outsAt0_A m c t h]
  unfold dgStep
  frame_out
theorem dg_step (h : ¬t.val % 16 = 0) : (outsAt0 m c t.val t.isLt).2.2.1
    = dgStep (iblk m c 0 t) (iblk m c 1 t) (iblk m c 2 t) (iblk m c 3 t) (iblk m c 4 t) (iblk m c 5 t) (iblk m c 6 t)
      (outsAt0 m c (t.val - 1) (Nat.lt_of_le_of_lt (Nat.sub_le _ _) t.isLt)).2.2.1 := by
  rw [outsAt0_B m c t h]
  unfold dgStep
  frame_out
theorem dsc_reset (h : t.val % 16 = 0) : (outsAt0 m c t.val t.isLt).2.2.2.1
    = k0_pay18 (k0_pay8 (iblk m c 0 t) (iblk m c 1 t) (iblk m c 2 t) (iblk m c 3 t) (iblk m c 5 t)) (k0_pay15 (F := Ideal)) := by
  rw [outsAt0_A m c t h]
  frame_out
theorem dsc_step (h : ¬t.val % 16 = 0) : (outsAt0 m c t.val t.isLt).2.2.2.1
    = k0_pay18 (k0_pay8 (iblk m c 0 t) (iblk m c 1 t) (iblk m c 2 t) (iblk m c 3 t) (iblk m c 5 t))
      (outsAt0 m c (t.val - 1) (Nat.lt_of_le_of_lt (Nat.sub_le _ _) t.isLt)).2.2.2.1 := by
  rw [outsAt0_B m c t h]
  frame_out
theorem dsh_reset (h : t.val % 16 = 0) : (outsAt0 m c t.val t.isLt).2.2.2.2
    = k0_pay1 (k0_pay7 (iblk m c 0 t) (iblk m c 1 t)) (k0_pay19 (k0_pay16 (F := Ideal))) := by
  rw [outsAt0_A m c t h]
  frame_out
theorem dsh_step (h : ¬t.val % 16 = 0) : (outsAt0 m c t.val t.isLt).2.2.2.2
    = k0_pay1 (k0_pay7 (iblk m c 0 t) (iblk m c 1 t))
      (k0_pay19 (outsAt0 m c (t.val - 1) (Nat.lt_of_le_of_lt (Nat.sub_le _ _) t.isLt)).2.2.2.2) := by
  rw [outsAt0_B m c t h]
  frame_out
end

/-- The residual stream's gradient. -/
theorem final_dx : (dats m 0 c).arrAt 8 cfg0.N
    = fun i => dx (ad m c (i 0)) (aw m c) (ax m c (i 0)) (ao m c (i 0)) (ad1 m c (i 0)) (ag m c) (asc m c) (i 1) := by
  refine (dats m 0 c).arrAt_eq_of_covers 8 _ (by decide +kernel) (fun t hf y => ?_)
  blk_simp [idx0 t]
  rw [after0_8, point_dx]
  idx_vars y
  have e0 : (((View.whole main_v0_0).slice (win0_8.rect t)).emb (ix2 y0 y1) 0 : Fin 8192) = arow t y0 := Fin.ext (by
    blk_simp [idx0 t]
    simp only [arow]
    omega)
  have e1 : (((View.whole main_v0_0).slice (win0_8.rect t)).emb (ix2 y0 y1) 1 : Fin 1024) = y1 := Fin.ext (by blk_simp [idx0 t])
  rw [dxBlk_at, blk0, blk1, blk2, blk3, blk4, blk5, blk6]
  exact congrArg₂ (fun r k => dx (ad m c r) (aw m c) (ax m c r) (ao m c r) (ad1 m c r) (ag m c) (asc m c) k) e0.symm e1.symm

/-- The branch's gradient. -/
theorem final_dbr : (dats m 0 c).arrAt 9 cfg0.N
    = fun i => dbr (ad m c (i 0)) (aw m c) (ax m c (i 0)) (ao m c (i 0)) (ad1 m c (i 0)) (ag m c) (asc m c) (i 1) := by
  refine (dats m 0 c).arrAt_eq_of_covers 9 _ (by decide +kernel) (fun t hf y => ?_)
  blk_simp [idx0 t]
  rw [after0_9, point_dbr]
  idx_vars y
  have e0 : (((View.whole main_v0_1).slice (win0_9.rect t)).emb (ix2 y0 y1) 0 : Fin 8192) = arow t y0 := Fin.ext (by
    blk_simp [idx0 t]
    simp only [arow]
    omega)
  have e1 : (((View.whole main_v0_1).slice (win0_9.rect t)).emb (ix2 y0 y1) 1 : Fin 1024) = y1 := Fin.ext (by blk_simp [idx0 t])
  rw [dbrBlk_at, blk0, blk1, blk2, blk3, blk4, blk5, blk6]
  exact congrArg₂ (fun r k => dbr (ad m c r) (aw m c) (ax m c r) (ao m c r) (ad1 m c r) (ag m c) (asc m c) k) e0.symm e1.symm

/-- The gate's gradient. -/
theorem final_dg : (dats m 0 c).arrAt 10 cfg0.N
    = fun i => ∑ r, dg (ad m c r) (aw m c) (ax m c r) (ao m c r) (ad1 m c r) (ag m c) (asc m c) (i 1) := by
  refine (dats m 0 c).arrAt_eq_of_after_last 10 t0_15 (by decide +kernel) _ fun j => ?_
  blk_simp
  rw [after0_10]
  idx_vars j
  refine RowSum.fold_tiles N_0 (fun n h => (outsAt0 m c n h).2.2.1 (ix2 j0 j1))
    (fun r => dg (ad m c r) (aw m c) (ax m c r) (ao m c r) (ad1 m c r) (ag m c) (asc m c) j1) arow (fun _ _ => rfl)
    (fun t h => ?_) (fun t h => ?_) t0_15 rfl
  · rw [dg_reset m c t h, dgStep_at, zero14_at, zero_add]
    simp only [blk0, blk1, blk2, blk3, blk4, blk5, blk6]
  · rw [dg_step m c t h, dgStep_at]
    simp only [blk0, blk1, blk2, blk3, blk4, blk5, blk6]

/-- The scale's gradient. -/
theorem final_dsc : (dats m 0 c).arrAt 11 cfg0.N
    = fun i => ∑ r, dsc (ad m c r) (aw m c) (ax m c r) (ao m c r) (ag m c) (i 1) := by
  refine (dats m 0 c).arrAt_eq_of_after_last 11 t0_15 (by decide +kernel) _ fun j => ?_
  blk_simp
  rw [after0_11]
  idx_vars j
  refine RowSum.fold_tiles N_0 (fun n h => (outsAt0 m c n h).2.2.2.1 (ix2 j0 j1))
    (fun r => dsc (ad m c r) (aw m c) (ax m c r) (ao m c r) (ag m c) j1) arow (fun _ _ => rfl)
    (fun t h => ?_) (fun t h => ?_) t0_15 rfl
  · rw [dsc_reset m c t h, dscStep_at, zero15_at, zero_add]
    simp only [blk0, blk1, blk2, blk3, blk5]
  · rw [dsc_step m c t h, dscStep_at]
    simp only [blk0, blk1, blk2, blk3, blk5]

/-- The shift's gradient. -/
theorem final_dsh : (dats m 0 c).arrAt 12 cfg0.N = fun i => ∑ r, dh (ad m c r) (aw m c) (i 1) := by
  refine (dats m 0 c).arrAt_eq_of_after_last 12 t0_15 (by decide +kernel) _ fun j => ?_
  blk_simp
  rw [after0_12]
  idx_vars j
  refine RowSum.fold_tiles N_0 (fun n h => (outsAt0 m c n h).2.2.2.2 (ix2 j0 j1))
    (fun r => dh (ad m c r) (aw m c) j1) arow (fun _ _ => rfl) (fun t h => ?_) (fun t h => ?_) t0_15 rfl
  · rw [dsh_reset m c t h, dshStep_at, zero16_at, zero_add]
    simp only [blk0, blk1]
  · rw [dsh_step m c t h, dshStep_at]
    simp only [blk0, blk1]
end

section
open Cert.SguRef Cert.Reference3Ideal Cert.Reference3Ideal.Value Idealize.ShloMosaic Idealize.ShloMosaic.TcCoe Idealize.SL.Sem Idealize.ShloMosaic.StableHlo

variable (m : (ℓ : Loc nD τ sig) → Buf (Elt Ideal) ℓ) (c : Dev nD)

/-- The gradient that enters from the feed-forward. -/
def rd (r : Fin 8192) (l : Fin 4096) : EReal := m ((c : Thread nD τ).loc main_arg0) (ix2 r l)
/-- The feed-forward's first weight. -/
def rwt (k : Fin 1024) (l : Fin 4096) : EReal := m ((c : Thread nD τ).loc main_arg1) (ix2 k l)
/-- The residual stream. -/
def rx (r : Fin 8192) (k : Fin 1024) : EReal := m ((c : Thread nD τ).loc main_arg2) (ix2 r k)
/-- The branch. -/
def ro (r : Fin 8192) (k : Fin 1024) : EReal := m ((c : Thread nD τ).loc main_arg3) (ix2 r k)
/-- The gradient that enters along the residual stream. -/
def rd1 (r : Fin 8192) (k : Fin 1024) : EReal := m ((c : Thread nD τ).loc main_arg4) (ix2 r k)
/-- The gate. -/
def rg (k : Fin 1024) : EReal := m ((c : Thread nD τ).loc main_arg5) (ix2 0 k)
/-- The scale. -/
def rsc (k : Fin 1024) : EReal := m ((c : Thread nD τ).loc main_arg6) (ix2 0 k)

/-- The residual stream's gradient. -/
theorem v51_at (r : Fin 8192) (k : Fin 1024) : res_main_v51 m c (ix2 r k)
    = dx (rd m c r) (rwt m c) (rx m c r) (ro m c r) (rd1 m c r) (rg m c) (rsc m c) k := by
  unfold res_main_v51
  clean_types
  pointwise [dx, dms, dn, rs, ms, res, dh, rd, rwt, rx, ro, rd1, rg, rsc]
  simp only [Fin.sum_univ_one]
  rw [mul_two_mul]
  exact (add_assoc _ _ _).symm
theorem v58_at (r : Fin 8192) (k : Fin 1024) : res_main_v58 m c (ix2 r k) = dbr (rd m c r) (rwt m c) (rx m c r) (ro m c r) (rd1 m c r) (rg m c) (rsc m c) k := by
  unfold dbr
  rw [← v51_at]
  unfold res_main_v58 res_main_v51
  clean_types
  pointwise [rg]
theorem v57_at (z : Fin 1) (k : Fin 1024) : res_main_v57 m c (ix2 z k) = ∑ r, dg (rd m c r) (rwt m c) (rx m c r) (ro m c r) (rd1 m c r) (rg m c) (rsc m c) k := by
  simp only [dg, ← v51_at]
  unfold res_main_v57 res_main_v51
  clean_types
  pointwise [ro]

/-- The reference's arrays. -/
theorem ref_values (ρ : Dev nD → PrngReg) :
    θ_run defs (onTc (τ := τ) (main (F := Ideal))) ⟨m, fun _ => 0, ρ⟩ fun r => ∀ c : Dev nD,
      (r.2.mem ((c.tc : Thread nD τ).loc main_v51) = fun i => dx (rd m c (i 0)) (rwt m c) (rx m c (i 0)) (ro m c (i 0)) (rd1 m c (i 0)) (rg m c) (rsc m c) (i 1))
      ∧ (r.2.mem ((c.tc : Thread nD τ).loc main_v58) = fun i => dbr (rd m c (i 0)) (rwt m c) (rx m c (i 0)) (ro m c (i 0)) (rd1 m c (i 0)) (rg m c) (rsc m c) (i 1))
      ∧ (r.2.mem ((c.tc : Thread nD τ).loc main_v57) = fun i => ∑ r, dg (rd m c r) (rwt m c) (rx m c r) (ro m c r) (rd1 m c r) (rg m c) (rsc m c) (i 1))
      ∧ (r.2.mem ((c.tc : Thread nD τ).loc main_v34)
          = fun i => ∑ r, dsc (rd m c r) (rwt m c) (rx m c r) (ro m c r) (rg m c) (i 1))
      ∧ (r.2.mem ((c.tc : Thread nD τ).loc main_v31) = fun i => ∑ r, dh (rd m c r) (rwt m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun _ h c => ?_) (Value.run m ρ)
  obtain ⟨h0, h1, h2, h3, h4, hr⟩ := h c
  refine ⟨h0.trans ?_, h1.trans ?_, h2.trans ?_, h3.trans ?_, h4.trans ?_, hr⟩
  · funext i
    idx_vars i
    exact v51_at m c i0 i1
  · funext i
    idx_vars i
    exact v58_at m c i0 i1
  · funext i
    idx_vars i
    exact v57_at m c i0 i1
  · clear h h0 h1 h2 h3 h4 hr
    funext i
    clean_types
    idx_vars i
    pointwise [dsc, rs, ms, res, dh, rd, rwt, rx, ro, rg]
  · clear h h0 h1 h2 h3 h4 hr
    funext i
    clean_types
    idx_vars i
    pointwise [dh, rd, rwt]
end

open Idealize.ShloMosaic Idealize.SL.Sem

/-- The reference runs, its arguments end unchanged, and it has no semaphores. -/
theorem ref_frame : Cert.quiescent_Reference3Ideal := fun m g _ =>
  (θ_run _ _ _).mono (fun r h => ⟨fun c => (h c).2.2.2.2.2, sem_eq_zero_of_no_sems rfl r.2⟩) (ref_values m g)

/-- The kernel's results and the reference's are the same arrays at every input. -/
theorem algebraic : Cert.algebraic_Kernel3Ideal_Reference3Ideal := by
  intro m g m' g' _ hargs
  refine ⟨fun c => (Cert.Kernel3Ideal.Gen.dats m 0 c).arrAt 8 Cert.Kernel3Ideal.cfg0.N,
    fun c => (Cert.Kernel3Ideal.Gen.dats m 0 c).arrAt 9 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N,
    fun c => (Cert.Kernel3Ideal.Gen.dats m 0 c).arrAt 12 Cert.Kernel3Ideal.cfg0.N, Cert.Kernel3Ideal.Value.run_blocks m g,
    (θ_run _ _ _).mono (fun r h c => ?_) (ref_values m' g')⟩
  obtain ⟨h0, h1, h2, h3, h4, hr⟩ := h c
  obtain ⟨a0, a1, a2, a3, a4, a5, a6, a7⟩ := hargs c
  have e0 : rd m' c = ad m c := funext fun i => funext fun k => congrFun a0 _
  have e1 : rwt m' c = aw m c := funext fun i => funext fun k => congrFun a1 _
  have e2 : rx m' c = ax m c := funext fun i => funext fun k => congrFun a2 _
  have e3 : ro m' c = ao m c := funext fun i => funext fun k => congrFun a3 _
  have e4 : rd1 m' c = ad1 m c := funext fun i => funext fun k => congrFun a4 _
  have e5 : rg m' c = ag m c := funext fun k => congrFun a5 _
  have e6 : rsc m' c = asc m c := funext fun k => congrFun a6 _
  simp only [e0, e1, e2, e3, e4, e5, e6] at h0 h1 h2 h3 h4
  exact ⟨h0.trans (final_dx m c).symm, h1.trans (final_dbr m c).symm, h2.trans (final_dg m c).symm,
    h3.trans (final_dsc m c).symm, h4.trans (final_dsh m c).symm, hr⟩

end Cert.Ff1Dgrad
-- ==== Proof.Ff2Dgrad.lean ====
module

public import proofs.«01_k».proof.Proof.Gen.Kernel4Ideal.Value
public import proofs.«01_k».proof.Proof.Gen.Reference4Ideal.Run
public import proofs.«01_k».proof.Defs
public import Idealize.ShloMosaic.Lib.Pointwise
public import Idealize.ShloMosaic.Lib.Pipeline.ValueKit
public import Idealize.ShloMosaic.Lib.Tactic.CleanTypes
public import Idealize.ShloMosaic.Lib.Quiescent

/-! The gradient at the feed-forward's hidden layer: the kernel's array and the reference's, at an index. -/

@[expose] public section

set_option maxRecDepth 16384

noncomputable section

namespace Cert.Ff2Dgrad

section
open Idealize.ShloMosaic

/-- The gradient at one entry: the row of the gradient that enters against the weight's row, times the squared rectifier's derivative. -/
def grad (d w : Fin 1024 → EReal) (f : EReal) : EReal := (∑ l, d l * w l) * (Ideal.ofBits .f32 0x40000000#32 * max f 0)

/-- Where the rectifier is closed its derivative is zero already. -/
theorem select_pos (d w : Fin 1024 → EReal) (f : EReal) :
    (if 0 < f then (∑ l, d l * w l) * (Ideal.ofBits .f32 0x40000000#32 * max f 0) else 0) = grad d w f := by
  by_cases h : 0 < f
  · exact if_pos h
  · rw [if_neg h, grad, max_eq_right (not_lt.mp h), mul_zero, mul_zero]
end

section
open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The gradient that enters. -/
def ad (r : Fin 8192) (l : Fin 1024) : EReal := m ((c : Thread nD τ).loc main_arg0) (ix2 r l)
/-- The second weight. -/
def aw (k : Fin 4096) (l : Fin 1024) : EReal := m ((c : Thread nD τ).loc main_arg1) (ix2 k l)
/-- What the first product gave. -/
def af (r : Fin 8192) (k : Fin 4096) : EReal := m ((c : Thread nD τ).loc main_arg2) (ix2 r k)

theorem idx0 : ∀ t : Fin grid0.N, win0_0.index t = ![t.val / 4, 0] ∧ win0_1.index t = ![t.val % 4, 0]
    ∧ win0_2.index t = ![t.val / 4, t.val % 4] ∧ win0_3.index t = ![t.val / 4, t.val % 4] := by decide +kernel

theorem pay_at (x : Vec Ideal S2048x1024 .bf16) (w : Vec Ideal S1024x1024 .bf16) (f : Vec Ideal S2048x1024 .bf16) (r : Fin 2048) (k : Fin 1024) :
    k0_pay1 x w f (ix2 r k) = grad (fun l => x (ix2 r l)) (fun l => w (ix2 k l)) (f (ix2 r k)) := by
  pointwise [k0_pay1, grad]

theorem point (t : Fin cfg0.N) : outsAt0 m c t = k0_pay1 (iblk m c 0 t) (iblk m c 1 t) (iblk m c 2 t) := by
  unfold outsAt0
  frame_out

/-- The kernel's array. -/
theorem final : (dats m 0 c).arrAt 3 cfg0.N = fun i => grad (ad m c (i 0)) (aw m c (i 1)) (af m c (i 0) (i 1)) := by
  refine (dats m 0 c).arrAt_eq_of_covers 3 _ (by decide +kernel) (fun t hf y => ?_)
  have ht := Nat.lt_of_lt_of_eq t.isLt N_0
  blk_simp [idx0 t]
  rw [after0_3, point]
  idx_vars y
  refine (pay_at _ _ _ y0 y1).trans ?_
  unfold ad aw af
  congr 1
  · funext l
    blk_ext [iblk, V, idx0 t]
  · funext l
    blk_ext [iblk, V, idx0 t]
  · blk_ext [iblk, V, idx0 t]
end

section
open Cert.Reference4Ideal Cert.Reference4Ideal.Value Idealize.ShloMosaic Idealize.ShloMosaic.TcCoe Idealize.SL.Sem Idealize.ShloMosaic.StableHlo

variable (m : (ℓ : Loc nD τ sig) → Buf (Elt Ideal) ℓ) (c : Dev nD)

/-- The gradient that enters. -/
def rd (r : Fin 8192) (l : Fin 1024) : EReal := m ((c : Thread nD τ).loc main_arg0) (ix2 r l)
/-- The second weight. -/
def rwt (k : Fin 4096) (l : Fin 1024) : EReal := m ((c : Thread nD τ).loc main_arg1) (ix2 k l)
/-- What the first product gave. -/
def rf (r : Fin 8192) (k : Fin 4096) : EReal := m ((c : Thread nD τ).loc main_arg2) (ix2 r k)

/-- The reference's array. -/
theorem ref_values (ρ : Dev nD → PrngReg) :
    θ_run defs (onTc (τ := τ) (main (F := Ideal))) ⟨m, fun _ => 0, ρ⟩ fun r => ∀ c : Dev nD,
      r.2.mem ((c.tc : Thread nD τ).loc main_v15) = (fun i => grad (rd m c (i 0)) (rwt m c (i 1)) (rf m c (i 0) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun _ h c => ?_) (Value.run m ρ)
  obtain ⟨h0, hr⟩ := h c
  refine ⟨h0.trans ?_, hr⟩
  clear h h0 hr
  funext i
  clean_types
  idx_vars i
  pointwise
  exact select_pos (rd m c i0) (rwt m c i1) (rf m c i0 i1)
end

open Idealize.ShloMosaic Idealize.SL.Sem

/-- The reference runs, its arguments end unchanged, and it has no semaphores. -/
theorem ref_frame : Cert.quiescent_Reference4Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel4Ideal_Reference4Ideal := by
  intro m g m' g' _ hargs
  refine ⟨fun c => (Cert.Kernel4Ideal.Gen.dats m 0 c).arrAt 3 Cert.Kernel4Ideal.cfg0.N, Cert.Kernel4Ideal.Value.run_blocks m g,
    (θ_run _ _ _).mono (fun r h c => ?_) (ref_values m' g')⟩
  obtain ⟨h0, hr⟩ := h c
  obtain ⟨a0, a1, a2⟩ := hargs c
  have e0 : rd m' c = ad m c := funext fun i => funext fun k => congrFun a0 _
  have e1 : rwt m' c = aw m c := funext fun i => funext fun k => congrFun a1 _
  have e2 : rf m' c = af m c := funext fun i => funext fun k => congrFun a2 _
  refine ⟨h0.trans (Eq.trans ?_ (final m c).symm), hr⟩
  simp only [e0, e1, e2]
  rfl

end Cert.Ff2Dgrad
-- ==== Proof.Ff2Wgrad.lean ====
module

public import proofs.«01_k».proof.Proof.Gen.Kernel5Ideal.Value
public import proofs.«01_k».proof.Proof.Gen.Reference5Ideal.Run
public import proofs.«01_k».proof.Proof.RowSum
public import proofs.«01_k».proof.Defs
public import Idealize.ShloMosaic.Lib.Pointwise
public import Idealize.ShloMosaic.Lib.Tactic.CleanTypes
public import Idealize.ShloMosaic.Lib.Quiescent

/-! The gradient of the feed-forward's second weight: the kernel's array and the reference's, at an index. -/

@[expose] public section

set_option maxRecDepth 16384

noncomputable section

namespace Cert.Ff2Wgrad

/-- The squared rectifier. -/
def relu2 (x : EReal) : EReal := max x 0 * max x 0

section
open Cert.Kernel5Ideal Cert.Kernel5Ideal.Gen Idealize.ShloMosaic Idealize.ShloMosaic.TcCoe Idealize.SL.Sem

variable (m : (ℓ : Loc nD τ sig) → Buf (Elt Ideal) ℓ) (c : Dev nD)

/-- The activation of the layer, the squared rectifier of what the first product gave. -/
def ax (r : Fin 8192) (k : Fin 4096) : EReal :=
  relu2 (m ((c : Thread nD τ).loc main_arg0) (ix2 r k))
/-- The gradient that enters. -/
def ad (r : Fin 8192) (k : Fin 1024) : EReal := m ((c : Thread nD τ).loc main_arg1) (ix2 r k)

theorem idx0 : ∀ t : Fin grid0.N, win0_0.index t = ![t.val % 4, t.val / 4] ∧ win0_1.index t = ![t.val % 4, 0]
    ∧ win0_2.index t = ![t.val / 4, 0] := by decide +kernel

theorem prod_at (x : Vec Ideal S2048x1024 .bf16) (y : Vec Ideal S2048x1024 .bf16) (i k : Fin 1024) :
    k0_pay1 x y (ix2 i k) = ∑ l, relu2 (x (ix2 l i)) * y (ix2 l k) := by pointwise [k0_pay1, relu2]
theorem first_at (x y : Vec Ideal S2048x1024 .bf16) (i k : Fin 1024) :
    k0_pay2 x y (ix2 i k) = k0_pay1 x y (ix2 i k) := by pointwise [k0_pay2]
theorem step_at (x y : Vec Ideal S2048x1024 .bf16) (a : Vec Ideal S1024x1024 .f32) (i k : Fin 1024) :
    k0_pay3 x y a (ix2 i k) = a (ix2 i k) + k0_pay1 x y (ix2 i k) := by pointwise [k0_pay3]
theorem last_at (x y : Vec Ideal S2048x1024 .bf16) (a : Vec Ideal S1024x1024 .f32) (i k : Fin 1024) :
    k0_pay4 x y a (ix2 i k) = a (ix2 i k) + k0_pay1 x y (ix2 i k) := by pointwise [k0_pay4]

/-- A run's first point stores its product. -/
theorem acc_first (t : Fin cfg0.N) (h : t.val % 4 = 0) :
    (outsAt0 m c t.val t.isLt).2 = k0_pay2 (iblk m c 0 t) (iblk m c 1 t) := by
  rw [outsAt0_A m c t h (by omega) (by omega)]
  frame_out
/-- The next two add theirs. -/
theorem acc_step (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  frame_out
  exact congrArg (k0_pay3 _ _) (Memref.IsWhole.read_unread _ _)
/-- The last gives the sum out. -/
theorem out_last (t : Fin cfg0.N) (h : t.val % 4 = 3) :
    (outsAt0 m c t.val t.isLt).1
      = k0_pay4 (iblk m c 0 t) (iblk m c 1 t) (outsAt0 m c (t.val - 1) (Nat.lt_of_le_of_lt (Nat.sub_le _ _) t.isLt)).2 := by
  rw [outsAt0_C m c t (by omega) (by omega) h]
  frame_out
  exact congrArg (k0_pay4 _ _) (Memref.IsWhole.read_unread _ _)

theorem part_at (t : Fin cfg0.N) (i k : Fin 1024) (q : Fin 4) (h : t.val / 4 = q) : k0_pay1 (iblk m c 0 t) (iblk m c 1 t) (ix2 i k)
    = ∑ l : Fin 2048, ax m c ⟨2048 * (t.val % 4) + l, by omega⟩ ⟨1024 * q + i, by omega⟩ * ad m c ⟨2048 * (t.val % 4) + l, by omega⟩ k := by
  rw [prod_at]
  refine Finset.sum_congr rfl fun l _ => congrArg₂ (· * ·) ?_ ?_
  · unfold ax
    refine congrArg relu2 ?_
    blk_ext [iblk, V, idx0 t]
  · unfold ad
    blk_ext [iblk, V, idx0 t]

/-- The kernel's array: the product over all rows. -/
theorem final : (dats m 0 c).arrAt 2 cfg0.N = fun i => ∑ r, ax m c r (i 0) * ad m c r (i 1) := by
  refine (dats m 0 c).arrAt_eq_of_covers 2 _ (by decide +kernel) (fun t hf y => ?_)
  have ht := Nat.lt_of_lt_of_eq t.isLt N_0
  have h3 := (flush0_2 t).mp hf
  blk_simp [idx0 t]
  rw [after0_2]
  idx_vars y
  refine (RowSum.fold_rows (fun n h => (outsAt0 m c n h).2 (ix2 y0 y1)) (fun n h => (outsAt0 m c n h).1 (ix2 y0 y1))
    (fun n h => k0_pay1 (iblk m c 0 ⟨n, h⟩) (iblk m c 1 ⟨n, h⟩) (ix2 y0 y1)) t.val t.isLt h3
    (fun r => ax m c r ⟨1024 * (t.val / 4) + y0, by omega⟩ * ad m c r y1)
    (fun k hk h => ?_) (fun k hk h => ?_) (fun k hk h => ?_) (fun k hk h => ?_)).trans ?_
  · exact (congrFun (acc_first m c ⟨k, hk⟩ h) _).trans (first_at _ _ _ _)
  · exact (congrFun (acc_step m c ⟨k, hk⟩ h) _).trans (step_at _ _ _ _ _)
  · exact (congrFun (out_last m c ⟨k, hk⟩ h) _).trans (last_at _ _ _ _ _)
  · exact part_at m c ⟨k, hk⟩ y0 y1 ⟨t.val / 4, by omega⟩ h
  · refine Finset.sum_congr rfl fun r _ => congrArg₂ (· * ·) ?_ ?_
    · congr 1
      apply Fin.ext
      blk_simp [idx0 t]
      simp only
      omega
    · congr 1
      apply Fin.ext
      blk_simp [idx0 t]
end

section
open Cert.Reference5Ideal Cert.Reference5Ideal.Value Idealize.ShloMosaic Idealize.ShloMosaic.TcCoe Idealize.SL.Sem Idealize.ShloMosaic.StableHlo

variable (m : (ℓ : Loc nD τ sig) → Buf (Elt Ideal) ℓ) (c : Dev nD)

/-- The activation of the layer, the squared rectifier of what the first product gave. -/
def rx (r : Fin 8192) (k : Fin 4096) : EReal :=
  relu2 (m ((c : Thread nD τ).loc main_arg0) (ix2 r k))
/-- The gradient that enters. -/
def rd (r : Fin 8192) (k : Fin 1024) : EReal := m ((c : Thread nD τ).loc main_arg1) (ix2 r k)

/-- The reference's array: the product over all rows. -/
theorem ref_values (ρ : Dev nD → PrngReg) :
    θ_run defs (onTc (τ := τ) (main (F := Ideal))) ⟨m, fun _ => 0, ρ⟩ fun r => ∀ c : Dev nD,
      r.2.mem ((c.tc : Thread nD τ).loc main_v8) = (fun i => ∑ r, rx m c r (i 0) * rd m c r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ?_) (Value.run m ρ)
  obtain ⟨h0, hr⟩ := h c
  refine ⟨h0.trans ?_, hr⟩
  clear h h0 hr
  funext i
  clean_types
  idx_vars i
  pointwise [rx, rd, relu2]
  exact Finset.sum_congr rfl fun _ _ => mul_comm _ _
end

open Idealize.ShloMosaic Idealize.SL.Sem

/-- The reference runs, its arguments end unchanged, and it has no semaphores. -/
theorem ref_frame : Cert.quiescent_Reference5Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel5Ideal_Reference5Ideal := by
  intro m g m' g' _ hargs
  refine ⟨fun c => (Cert.Kernel5Ideal.Gen.dats m 0 c).arrAt 2 Cert.Kernel5Ideal.cfg0.N, Cert.Kernel5Ideal.Value.run_blocks m g,
    (θ_run _ _ _).mono (fun r h c => ?_) (ref_values m' g')⟩
  obtain ⟨h0, hr⟩ := h c
  obtain ⟨a0, a1⟩ := hargs c
  have e0 : rx m' c = ax m c := funext fun i => funext fun k => congrArg relu2 (congrFun a0 _)
  have e1 : rd m' c = ad m c := funext fun i => funext fun k => congrFun a1 _
  refine ⟨h0.trans (Eq.trans ?_ (final m c).symm), hr⟩
  simp only [e0, e1]
  rfl

end Cert.Ff2Wgrad
-- ==== Proof.Ff1Wgrad.lean ====
module

public import proofs.«01_k».proof.Proof.Gen.Kernel6Ideal.Value
public import proofs.«01_k».proof.Proof.Gen.Reference6Ideal.Run
public import proofs.«01_k».proof.Proof.RowSum
public import proofs.«01_k».proof.Defs
public import Idealize.ShloMosaic.Lib.Pointwise
public import Idealize.ShloMosaic.Lib.Tactic.CleanTypes
public import Idealize.ShloMosaic.Lib.Quiescent

/-! The gradient of the feed-forward's first weight: the kernel's array and the reference's, at an index. -/

@[expose] public section

set_option maxRecDepth 16384

noncomputable section

namespace Cert.Ff1Wgrad

section
open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The input of the layer. -/
def ax (r : Fin 8192) (k : Fin 1024) : EReal := m ((c : Thread nD τ).loc main_arg0) (ix2 r k)
/-- The gradient that enters. -/
def ad (r : Fin 8192) (k : Fin 4096) : EReal := m ((c : Thread nD τ).loc main_arg1) (ix2 r k)

theorem idx0 : ∀ t : Fin grid0.N, win0_0.index t = ![t.val % 4, 0] ∧ win0_1.index t = ![t.val % 4, t.val / 4]
    ∧ win0_2.index t = ![0, t.val / 4] := by decide +kernel

theorem prod_at (x : Vec Ideal S2048x1024 .bf16) (y : Vec Ideal S2048x1024 .bf16) (i k : Fin 1024) :
    k0_pay1 x y (ix2 i k) = ∑ l, x (ix2 l i) * y (ix2 l k) := by pointwise [k0_pay1]
theorem first_at (x y : Vec Ideal S2048x1024 .bf16) (i k : Fin 1024) :
    k0_pay2 x y (ix2 i k) = k0_pay1 x y (ix2 i k) := by pointwise [k0_pay2]
theorem step_at (x y : Vec Ideal S2048x1024 .bf16) (a : Vec Ideal S1024x1024 .f32) (i k : Fin 1024) :
    k0_pay3 x y a (ix2 i k) = a (ix2 i k) + k0_pay1 x y (ix2 i k) := by pointwise [k0_pay3]
theorem last_at (x y : Vec Ideal S2048x1024 .bf16) (a : Vec Ideal S1024x1024 .f32) (i k : Fin 1024) :
    k0_pay4 x y a (ix2 i k) = a (ix2 i k) + k0_pay1 x y (ix2 i k) := by pointwise [k0_pay4]

/-- A run's first point stores its product. -/
theorem acc_first (t : Fin cfg0.N) (h : t.val % 4 = 0) :
    (outsAt0 m c t.val t.isLt).2 = k0_pay2 (iblk m c 0 t) (iblk m c 1 t) := by
  rw [outsAt0_A m c t h (by omega) (by omega)]
  frame_out
/-- The next two add theirs. -/
theorem acc_step (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  frame_out
  exact congrArg (k0_pay3 _ _) (Memref.IsWhole.read_unread _ _)
/-- The last gives the sum out. -/
theorem out_last (t : Fin cfg0.N) (h : t.val % 4 = 3) :
    (outsAt0 m c t.val t.isLt).1
      = k0_pay4 (iblk m c 0 t) (iblk m c 1 t) (outsAt0 m c (t.val - 1) (Nat.lt_of_le_of_lt (Nat.sub_le _ _) t.isLt)).2 := by
  rw [outsAt0_C m c t (by omega) (by omega) h]
  frame_out
  exact congrArg (k0_pay4 _ _) (Memref.IsWhole.read_unread _ _)

theorem part_at (t : Fin cfg0.N) (i k : Fin 1024) (q : Fin 4) (h : t.val / 4 = q) : k0_pay1 (iblk m c 0 t) (iblk m c 1 t) (ix2 i k)
    = ∑ l : Fin 2048, ax m c ⟨2048 * (t.val % 4) + l, by omega⟩ i * ad m c ⟨2048 * (t.val % 4) + l, by omega⟩ ⟨1024 * q + k, by omega⟩ := by
  rw [prod_at]
  refine Finset.sum_congr rfl fun l _ => congrArg₂ (· * ·) ?_ ?_
  · unfold ax
    blk_ext [iblk, V, idx0 t]
  · unfold ad
    blk_ext [iblk, V, idx0 t]

/-- The kernel's array: the product over all rows. -/
theorem final : (dats m 0 c).arrAt 2 cfg0.N = fun i => ∑ r, ax m c r (i 0) * ad m c r (i 1) := by
  refine (dats m 0 c).arrAt_eq_of_covers 2 _ (by decide +kernel) (fun t hf y => ?_)
  have ht := Nat.lt_of_lt_of_eq t.isLt N_0
  have h3 := (flush0_2 t).mp hf
  blk_simp [idx0 t]
  rw [after0_2]
  idx_vars y
  refine (RowSum.fold_rows (fun n h => (outsAt0 m c n h).2 (ix2 y0 y1)) (fun n h => (outsAt0 m c n h).1 (ix2 y0 y1))
    (fun n h => k0_pay1 (iblk m c 0 ⟨n, h⟩) (iblk m c 1 ⟨n, h⟩) (ix2 y0 y1)) t.val t.isLt h3
    (fun r => ax m c r y0 * ad m c r ⟨1024 * (t.val / 4) + y1, by omega⟩)
    (fun k hk h => ?_) (fun k hk h => ?_) (fun k hk h => ?_) (fun k hk h => ?_)).trans ?_
  · exact (congrFun (acc_first m c ⟨k, hk⟩ h) _).trans (first_at _ _ _ _)
  · exact (congrFun (acc_step m c ⟨k, hk⟩ h) _).trans (step_at _ _ _ _ _)
  · exact (congrFun (out_last m c ⟨k, hk⟩ h) _).trans (last_at _ _ _ _ _)
  · exact part_at m c ⟨k, hk⟩ y0 y1 ⟨t.val / 4, by omega⟩ h
  · refine Finset.sum_congr rfl fun r _ => congrArg₂ (· * ·) ?_ ?_
    · congr 1
      apply Fin.ext
      blk_simp [idx0 t]
    · congr 1
      apply Fin.ext
      blk_simp [idx0 t]
      simp only
      omega
end

section
open Cert.Reference6Ideal Cert.Reference6Ideal.Value Idealize.ShloMosaic Idealize.ShloMosaic.TcCoe Idealize.SL.Sem Idealize.ShloMosaic.StableHlo

variable (m : (ℓ : Loc nD τ sig) → Buf (Elt Ideal) ℓ) (c : Dev nD)

/-- The input of the layer. -/
def rx (r : Fin 8192) (k : Fin 1024) : EReal := m ((c : Thread nD τ).loc main_arg0) (ix2 r k)
/-- The gradient that enters. -/
def rd (r : Fin 8192) (k : Fin 4096) : EReal := m ((c : Thread nD τ).loc main_arg1) (ix2 r k)

/-- The reference's array: the product over all rows. -/
theorem ref_values (ρ : Dev nD → PrngReg) :
    θ_run defs (onTc (τ := τ) (main (F := Ideal))) ⟨m, fun _ => 0, ρ⟩ fun r => ∀ c : Dev nD,
      r.2.mem ((c.tc : Thread nD τ).loc main_v6) = (fun i => ∑ r, rx m c r (i 0) * rd m c r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ?_) (Value.run m ρ)
  obtain ⟨h0, hr⟩ := h c
  refine ⟨h0.trans ?_, hr⟩
  clear h h0 hr
  funext i
  clean_types
  idx_vars i
  pointwise [rx, rd]
  exact Finset.sum_congr rfl fun _ _ => mul_comm _ _
end

open Idealize.ShloMosaic Idealize.SL.Sem

/-- The reference runs, its arguments end unchanged, and it has no semaphores. -/
theorem ref_frame : Cert.quiescent_Reference6Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel6Ideal_Reference6Ideal := by
  intro m g m' g' _ hargs
  refine ⟨fun c => (Cert.Kernel6Ideal.Gen.dats m 0 c).arrAt 2 Cert.Kernel6Ideal.cfg0.N, Cert.Kernel6Ideal.Value.run_blocks m g,
    (θ_run _ _ _).mono (fun r h c => ?_) (ref_values m' g')⟩
  obtain ⟨h0, hr⟩ := h c
  obtain ⟨a0, a1⟩ := hargs c
  have e0 : rx m' c = ax m c := funext fun i => funext fun k => congrFun a0 _
  have e1 : rd m' c = ad m c := funext fun i => funext fun k => congrFun a1 _
  refine ⟨h0.trans (Eq.trans ?_ (final m c).symm), hr⟩
  simp only [e0, e1]
  rfl

end Cert.Ff1Wgrad
-- ==== Proof.InWgrad.lean ====
module

public import proofs.«01_k».proof.Proof.Gen.Kernel7Ideal.Value
public import proofs.«01_k».proof.Proof.Gen.Reference7Ideal.Run
public import proofs.«01_k».proof.Proof.RowSum
public import proofs.«01_k».proof.Defs
public import Idealize.ShloMosaic.Lib.Pointwise
public import Idealize.ShloMosaic.Lib.Tactic.CleanTypes
public import Idealize.ShloMosaic.Lib.Quiescent

/-! The gradient of the input projection's weight: the kernel's array and the reference's, at an index. -/

@[expose] public section

set_option maxRecDepth 16384

noncomputable section

namespace Cert.InWgrad

section
open Cert.Kernel7Ideal Cert.Kernel7Ideal.Gen Idealize.ShloMosaic Idealize.ShloMosaic.TcCoe Idealize.SL.Sem

variable (m : (ℓ : Loc nD τ sig) → Buf (Elt Ideal) ℓ) (c : Dev nD)

/-- The input of the layer. -/
def ax (r : Fin 8192) (k : Fin 1024) : EReal := m ((c : Thread nD τ).loc main_arg0) (ix2 r k)
/-- The gradient that enters. -/
def ad (r : Fin 8192) (k : Fin 10368) : EReal := m ((c : Thread nD τ).loc main_arg1) (ix2 r k)

theorem idx0 : ∀ t : Fin grid0.N, win0_0.index t = ![t.val % 4, 0] ∧ win0_1.index t = ![t.val % 4, t.val / 4]
    ∧ win0_2.index t = ![0, t.val / 4] := by decide +kernel

theorem prod_at (x : Vec Ideal S2048x1024 .bf16) (y : Vec Ideal S2048x1152 .bf16) (i : Fin 1024) (k : Fin 1152) :
    k0_pay1 x y (ix2 i k) = ∑ l, x (ix2 l i) * y (ix2 l k) := by pointwise [k0_pay1]
theorem first_at (x : Vec Ideal S2048x1024 .bf16) (y : Vec Ideal S2048x1152 .bf16) (i : Fin 1024) (k : Fin 1152) :
    k0_pay2 x y (ix2 i k) = k0_pay1 x y (ix2 i k) := by pointwise [k0_pay2]
theorem step_at (x : Vec Ideal S2048x1024 .bf16) (y : Vec Ideal S2048x1152 .bf16) (a : Vec Ideal S1024x1152 .f32) (i : Fin 1024) (k : Fin 1152) :
    k0_pay3 x y a (ix2 i k) = a (ix2 i k) + k0_pay1 x y (ix2 i k) := by pointwise [k0_pay3]
theorem last_at (x : Vec Ideal S2048x1024 .bf16) (y : Vec Ideal S2048x1152 .bf16) (a : Vec Ideal S1024x1152 .f32) (i : Fin 1024) (k : Fin 1152) :
    k0_pay4 x y a (ix2 i k) = a (ix2 i k) + k0_pay1 x y (ix2 i k) := by pointwise [k0_pay4]

/-- A run's first point stores its product. -/
theorem acc_first (t : Fin cfg0.N) (h : t.val % 4 = 0) :
    (outsAt0 m c t.val t.isLt).2 = k0_pay2 (iblk m c 0 t) (iblk m c 1 t) := by
  rw [outsAt0_A m c t h (by omega) (by omega)]
  frame_out
/-- The next two add theirs. -/
theorem acc_step (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  frame_out
  exact congrArg (k0_pay3 _ _) (Memref.IsWhole.read_unread _ _)
/-- The last gives the sum out. -/
theorem out_last (t : Fin cfg0.N) (h : t.val % 4 = 3) :
    (outsAt0 m c t.val t.isLt).1
      = k0_pay4 (iblk m c 0 t) (iblk m c 1 t) (outsAt0 m c (t.val - 1) (Nat.lt_of_le_of_lt (Nat.sub_le _ _) t.isLt)).2 := by
  rw [outsAt0_C m c t (by omega) (by omega) h]
  frame_out
  exact congrArg (k0_pay4 _ _) (Memref.IsWhole.read_unread _ _)

theorem part_at (t : Fin cfg0.N) (i : Fin 1024) (k : Fin 1152) (q : Fin 9) (h : t.val / 4 = q) : k0_pay1 (iblk m c 0 t) (iblk m c 1 t) (ix2 i k)
    = ∑ l : Fin 2048, ax m c ⟨2048 * (t.val % 4) + l, by omega⟩ i * ad m c ⟨2048 * (t.val % 4) + l, by omega⟩ ⟨1152 * q + k, by omega⟩ := by
  rw [prod_at]
  refine Finset.sum_congr rfl fun l _ => congrArg₂ (· * ·) ?_ ?_
  · unfold ax
    blk_ext [iblk, V, idx0 t]
  · unfold ad
    blk_ext [iblk, V, idx0 t]

/-- The kernel's array: the product over all rows. -/
theorem final : (dats m 0 c).arrAt 2 cfg0.N = fun i => ∑ r, ax m c r (i 0) * ad m c r (i 1) := by
  refine (dats m 0 c).arrAt_eq_of_covers 2 _ (by decide +kernel) (fun t hf y => ?_)
  have ht := Nat.lt_of_lt_of_eq t.isLt N_0
  have h3 := (flush0_2 t).mp hf
  blk_simp [idx0 t]
  rw [after0_2]
  idx_vars y
  refine (RowSum.fold_rows (fun n h => (outsAt0 m c n h).2 (ix2 y0 y1)) (fun n h => (outsAt0 m c n h).1 (ix2 y0 y1))
    (fun n h => k0_pay1 (iblk m c 0 ⟨n, h⟩) (iblk m c 1 ⟨n, h⟩) (ix2 y0 y1)) t.val t.isLt h3
    (fun r => ax m c r y0 * ad m c r ⟨1152 * (t.val / 4) + y1, by omega⟩)
    (fun k hk h => ?_) (fun k hk h => ?_) (fun k hk h => ?_) (fun k hk h => ?_)).trans ?_
  · exact (congrFun (acc_first m c ⟨k, hk⟩ h) _).trans (first_at _ _ _ _)
  · exact (congrFun (acc_step m c ⟨k, hk⟩ h) _).trans (step_at _ _ _ _ _)
  · exact (congrFun (out_last m c ⟨k, hk⟩ h) _).trans (last_at _ _ _ _ _)
  · exact part_at m c ⟨k, hk⟩ y0 y1 ⟨t.val / 4, by omega⟩ h
  · refine Finset.sum_congr rfl fun r _ => congrArg₂ (· * ·) ?_ ?_
    · congr 1
      apply Fin.ext
      blk_simp [idx0 t]
    · congr 1
      apply Fin.ext
      blk_simp [idx0 t]
      simp only
      omega
end

section
open Cert.Reference7Ideal Cert.Reference7Ideal.Value Idealize.ShloMosaic Idealize.ShloMosaic.TcCoe Idealize.SL.Sem Idealize.ShloMosaic.StableHlo

variable (m : (ℓ : Loc nD τ sig) → Buf (Elt Ideal) ℓ) (c : Dev nD)

/-- The input of the layer. -/
def rx (r : Fin 8192) (k : Fin 1024) : EReal := m ((c : Thread nD τ).loc main_arg0) (ix2 r k)
/-- The gradient that enters. -/
def rd (r : Fin 8192) (k : Fin 10368) : EReal := m ((c : Thread nD τ).loc main_arg1) (ix2 r k)

/-- The reference's array: the product over all rows. -/
theorem ref_values (ρ : Dev nD → PrngReg) :
    θ_run defs (onTc (τ := τ) (main (F := Ideal))) ⟨m, fun _ => 0, ρ⟩ fun r => ∀ c : Dev nD,
      r.2.mem ((c.tc : Thread nD τ).loc main_v6) = (fun i => ∑ r, rx m c r (i 0) * rd m c r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ?_) (Value.run m ρ)
  obtain ⟨h0, hr⟩ := h c
  refine ⟨h0.trans ?_, hr⟩
  clear h h0 hr
  funext i
  clean_types
  idx_vars i
  pointwise [rx, rd]
  exact Finset.sum_congr rfl fun _ _ => mul_comm _ _
end

open Idealize.ShloMosaic Idealize.SL.Sem

/-- The reference runs, its arguments end unchanged, and it has no semaphores. -/
theorem ref_frame : Cert.quiescent_Reference7Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel7Ideal_Reference7Ideal := by
  intro m g m' g' _ hargs
  refine ⟨fun c => (Cert.Kernel7Ideal.Gen.dats m 0 c).arrAt 2 Cert.Kernel7Ideal.cfg0.N, Cert.Kernel7Ideal.Value.run_blocks m g,
    (θ_run _ _ _).mono (fun r h c => ?_) (ref_values m' g')⟩
  obtain ⟨h0, hr⟩ := h c
  obtain ⟨a0, a1⟩ := hargs c
  have e0 : rx m' c = ax m c := funext fun i => funext fun k => congrFun a0 _
  have e1 : rd m' c = ad m c := funext fun i => funext fun k => congrFun a1 _
  refine ⟨h0.trans (Eq.trans ?_ (final m c).symm), hr⟩
  simp only [e0, e1]
  rfl

end Cert.InWgrad
-- ==== Proof.Ff2Loss.lean ====
module

public import proofs.«01_k».proof.Proof.Gen.Kernel8Ideal.Value
public import proofs.«01_k».proof.Proof.Gen.Reference8Ideal.Run
public import proofs.«01_k».proof.Defs
public import proofs.«01_k».proof.Proof.Ff1Dgrad
public import proofs.«01_k».proof.Proof.Ff2Wgrad
public import Idealize.ShloMosaic.Lib.Pointwise
public import Idealize.ShloMosaic.Lib.Pipeline.ValueKit
public import Idealize.ShloMosaic.Lib.Tactic.CleanTypes
public import Idealize.ShloMosaic.Lib.Quiescent

/-! The end of the feed-forward, the final norm, the loss and the gradient back through all three: the kernel's five
arrays and the reference's, at an index. -/

@[expose] public section

set_option maxRecDepth 16384

noncomputable section

namespace Cert.Ff2Loss

open Cert.Ff1Dgrad (res ms rs row)
open Cert.Ff2Wgrad (relu2)

section
open Idealize.ShloMosaic

variable (f : Fin 4096 → EReal) (w : Fin 4096 → Fin 1024 → EReal) (x t g n : Fin 1024 → EReal)

/-- The feed-forward's result: the squares of the positive parts against the weight. -/
def gf (k : Fin 1024) : EReal := ∑ l, relu2 (f l) * w l k
/-- The normalised residual. -/
def yn (k : Fin 1024) : EReal := res x (gf f w) g k * rs x (gf f w) g
/-- The error: the normalised residual, weighted, less the target. -/
def er (k : Fin 1024) : EReal := yn f w x g k * n k - t k
/-- A row's part of the loss. -/
def loss : EReal := Ideal.ofBits .f32 0x3F000000#32
  * Ideal.div (∑ k, er f w x t g n k * er f w x t g n k) (Ideal.ofBits .f32 0x44800000#32)
/-- The gradient of the loss at each mean square. -/
def cot : EReal := Ideal.div (Ideal.ofBits .f32 0x3F000000#32) (Ideal.ofBits .f32 0x44800000#32)
/-- The gradient at the error. -/
def dy (k : Fin 1024) : EReal := cot * (Ideal.ofBits .f32 0x40000000#32 * er f w x t g n k)
/-- A row's part of the gradient of the norm's weight. -/
def dnw (k : Fin 1024) : EReal := yn f w x g k * dy f w x t g n k
/-- The gradient at the normalised residual. -/
def dw (k : Fin 1024) : EReal := dy f w x t g n k * n k
/-- The gradient at each square of the residual. -/
def dms : EReal := Ideal.div ((∑ k, res x (gf f w) g k * dw f w x t g n k)
  * (Ideal.ofBits .f32 0xBF000000#32 * Ideal.div (rs x (gf f w) g) (ms x (gf f w) g))) (Ideal.ofBits .f32 0x44800000#32)
/-- The gradient at the residual stream. -/
def dx (k : Fin 1024) : EReal := dw f w x t g n k * rs x (gf f w) g + res x (gf f w) g k * dms f w x t g n
  + dms f w x t g n * res x (gf f w) g k
/-- The gradient at the feed-forward's result. -/
def dgf (k : Fin 1024) : EReal := g k * dx f w x t g n k
/-- A row's part of the gate's gradient. -/
def dg (k : Fin 1024) : EReal := dx f w x t g n k * gf f w k

theorem mul_self_nonneg (a : EReal) : 0 ≤ a * a := by
  rcases le_total 0 a with h | h
  · exact EReal.mul_nonneg h h
  · exact EReal.mul_nonneg_iff.mpr (.inr ⟨h, h⟩)

/-- The mean square of an error is not negative. -/
theorem mean_nonneg (e : Fin 1024 → EReal) : 0 ≤ Ideal.div (∑ k, e k * e k) (Ideal.ofBits .f32 0x44800000#32) := by
  have h : Ideal.ofBits .f32 0x44800000#32 = ((1024 : ℝ) : EReal) := by
    simp [Ideal.ofBits, Ideal.ieee, -EReal.coe_mul]; norm_num
  have hp : (0 : EReal) < ((1024 : ℝ) : EReal) := EReal.coe_pos.mpr (by norm_num)
  rw [h, Ideal.div, if_neg hp.ne']
  exact EReal.mul_nonneg (Finset.sum_nonneg fun k _ => mul_self_nonneg _) (EReal.inv_nonneg_of_nonneg hp.le)

/-- A factor of a sum whose terms are not negative goes to each term. -/
theorem mul_sum_nonneg {ι : Type} (s : Finset ι) (a : EReal) (v : ι → EReal) (h : ∀ i, 0 ≤ v i) :
    a * ∑ i ∈ s, v i = ∑ i ∈ s, a * v i := by
  classical
  induction s using Finset.induction_on with
  | empty => simp
  | insert i s hi ih =>
    rw [Finset.sum_insert hi, Finset.sum_insert hi, EReal.left_distrib_of_nonneg (h i) (Finset.sum_nonneg fun j _ => h j), ih]
end

section
open Cert.Kernel8Ideal Cert.Kernel8Ideal.Gen Idealize.ShloMosaic Idealize.ShloMosaic.TcCoe Idealize.SL.Sem

section
variable (x0 : Vec Ideal S512x4096 .bf16) (x1 : Vec Ideal S4096x1024 .bf16) (x2 x3 : Vec Ideal S512x1024 .f32)
  (x4 x5 : Vec Ideal S1x1024 .f32) (r : Fin 512) (k : Fin 1024)

theorem pay8_at : k0_pay8 x0 x1 (ix2 r k) = gf (row x0 r) (row x1) k := by pointwise [k0_pay8, gf, relu2, row]
theorem pay9_at (z : Fin 1) : k0_pay9 x5 (ix2 z k) = row x5 0 k := by
  rw [Subsingleton.elim z 0]
  pointwise [k0_pay9, row]
theorem pay10_at : k0_pay10 x0 x1 x2 x4 (ix2 r k) = res (row x2 r) (gf (row x0 r) (row x1)) (row x4 0) k := by
  pointwise [k0_pay10, pay8_at, res, row]
theorem pay11_at : k0_pay11 x0 x1 x2 x4 (ix2 r 0) = ms (row x2 r) (gf (row x0 r) (row x1)) (row x4 0) := by
  pointwise [k0_pay11, pay10_at, ms]
theorem pay12_at : k0_pay12 x0 x1 x2 x4 (ix2 r 0) = rs (row x2 r) (gf (row x0 r) (row x1)) (row x4 0) := by
  pointwise [k0_pay12, pay11_at, rs]
theorem pay13_at : k0_pay13 x0 x1 x2 x4 (ix2 r 0) = Ideal.ofBits .f32 0xBF000000#32
    * Ideal.div (rs (row x2 r) (gf (row x0 r) (row x1)) (row x4 0)) (ms (row x2 r) (gf (row x0 r) (row x1)) (row x4 0)) := by
  pointwise [k0_pay13, pay11_at, pay12_at]
theorem pay14_at : k0_pay14 x0 x1 x2 x4 (ix2 r k) = yn (row x0 r) (row x1) (row x2 r) (row x4 0) k := by
  pointwise [k0_pay14, pay10_at, pay12_at, yn]
theorem pay15_at : k0_pay15 x0 x1 x2 x3 x4 x5 (ix2 r k)
    = er (row x0 r) (row x1) (row x2 r) (row x3 r) (row x4 0) (row x5 0) k := by
  pointwise [k0_pay15, pay9_at, pay14_at, er, row]
theorem pay16_at : k0_pay16 x0 x1 x2 x3 x4 x5 (ix2 r k) = Ideal.ofBits .f32 0x40000000#32
    * er (row x0 r) (row x1) (row x2 r) (row x3 r) (row x4 0) (row x5 0) k := by
  pointwise [k0_pay16, pay15_at]
theorem pay18_at (v : Vec Ideal S512x1024 .f32) : k0_pay18 (F := Ideal) v (ix2 r k) = cot * v (ix2 r k) := by
  pointwise [k0_pay18, cot]
  first | done | simp only [Fin.sum_univ_one, mul_one]

/-- What a point stores of the residual stream's gradient. -/
def dxBlk : Vec Ideal S512x1024 .f32 := k0_pay20 (k0_pay9 x5) (k0_pay10 x0 x1 x2 x4) (k0_pay12 x0 x1 x2 x4)
  (k0_pay13 x0 x1 x2 x4) (k0_pay16 x0 x1 x2 x3 x4 x5)

theorem dxBlk_at : dxBlk x0 x1 x2 x3 x4 x5 (ix2 r k)
    = dx (row x0 r) (row x1) (row x2 r) (row x3 r) (row x4 0) (row x5 0) k := by
  pointwise [dxBlk, k0_pay20, pay9_at, pay10_at, pay12_at, pay13_at, pay16_at, pay18_at, dx, dms, dw, dy]
  first | done | simp only [Fin.sum_univ_one, pay13_at]

/-- What a point stores of the gradient at the feed-forward's result. -/
def dgfBlk : Vec Ideal S512x1024 .bf16 := k0_pay1 (k0_pay21 x4 (k0_pay9 x5) (k0_pay10 x0 x1 x2 x4) (k0_pay12 x0 x1 x2 x4)
  (k0_pay13 x0 x1 x2 x4) (k0_pay16 x0 x1 x2 x3 x4 x5))

theorem dgfBlk_at : dgfBlk x0 x1 x2 x3 x4 x5 (ix2 r k)
    = dgf (row x0 r) (row x1) (row x2 r) (row x3 r) (row x4 0) (row x5 0) k := by
  unfold dgf
  rw [← dxBlk_at]
  pointwise [dgfBlk, k0_pay1, k0_pay21, dxBlk, row]

/-- A point's step of the loss. -/
def lossStep (a : Vec Ideal S1x128 .f32) : Vec Ideal S1x128 .f32 :=
  k0_pay5 (k0_pay23 (k0_pay17 x0 x1 x2 x3 x4 x5) (Scalar.ofBits .f32 0x44800000#32)) a
/-- A point's step of the gate's gradient. -/
def dgStep (a : Vec Ideal S1x1024 .f32) : Vec Ideal S1x1024 .f32 := k0_pay6 (k0_pay22 (k0_pay8 x0 x1) (k0_pay9 x5)
  (k0_pay10 x0 x1 x2 x4) (k0_pay12 x0 x1 x2 x4) (k0_pay13 x0 x1 x2 x4) (k0_pay16 x0 x1 x2 x3 x4 x5)) a
/-- A point's step of the gradient of the norm's weight. -/
def dnwStep (a : Vec Ideal S1x1024 .f32) : Vec Ideal S1x1024 .f32 :=
  k0_pay7 (k0_pay19 (k0_pay14 x0 x1 x2 x4) (k0_pay16 x0 x1 x2 x3 x4 x5)) a

theorem lossStep_at (a : Vec Ideal S1x128 .f32) (z : Fin 1) (l : Fin 128) : lossStep x0 x1 x2 x3 x4 x5 a (ix2 z l)
    = a (ix2 z l) + ∑ r, loss (row x0 r) (row x1) (row x2 r) (row x3 r) (row x4 0) (row x5 0) := by
  pointwise [lossStep, k0_pay5, k0_pay23, k0_pay17, pay15_at, loss]
theorem dgStep_at (a : Vec Ideal S1x1024 .f32) (z : Fin 1) : dgStep x0 x1 x2 x3 x4 x5 a (ix2 z k)
    = a (ix2 z k) + ∑ r, dg (row x0 r) (row x1) (row x2 r) (row x3 r) (row x4 0) (row x5 0) k := by
  simp only [dg, ← dxBlk_at, ← pay8_at]
  pointwise [dgStep, k0_pay6, k0_pay22, dxBlk]
theorem dnwStep_at (a : Vec Ideal S1x1024 .f32) (z : Fin 1) : dnwStep x0 x1 x2 x3 x4 x5 a (ix2 z k)
    = a (ix2 z k) + ∑ r, dnw (row x0 r) (row x1) (row x2 r) (row x3 r) (row x4 0) (row x5 0) k := by
  pointwise [dnwStep, k0_pay7, k0_pay19, pay14_at, pay16_at, pay18_at, dnw, dy]
theorem zero2_at (z : Fin 1) (l : Fin 128) : k0_pay2 (F := Ideal) (ix2 z l) = 0 := by pointwise [k0_pay2]
theorem zero3_at (z : Fin 1) : k0_pay3 (F := Ideal) (ix2 z k) = 0 := by pointwise [k0_pay3]
theorem zero4_at (z : Fin 1) : k0_pay4 (F := Ideal) (ix2 z k) = 0 := by pointwise [k0_pay4]
end

variable (m : (ℓ : Loc nD τ sig) → Buf (Elt Ideal) ℓ) (c : Dev nD)

/-- The feed-forward's hidden array, before its square. -/
def af (r : Fin 8192) (l : Fin 4096) : EReal := m ((c : Thread nD τ).loc main_arg0) (ix2 r l)
/-- The feed-forward's second weight. -/
def aw (l : Fin 4096) (k : Fin 1024) : EReal := m ((c : Thread nD τ).loc main_arg1) (ix2 l k)
/-- The residual stream. -/
def ax (r : Fin 8192) (k : Fin 1024) : EReal := m ((c : Thread nD τ).loc main_arg2) (ix2 r k)
/-- The target. -/
def atg (r : Fin 8192) (k : Fin 1024) : EReal := m ((c : Thread nD τ).loc main_arg3) (ix2 r k)
/-- The gate. -/
def ag (k : Fin 1024) : EReal := m ((c : Thread nD τ).loc main_arg4) (ix2 0 k)
/-- The final norm's weight. -/
def an (k : Fin 1024) : EReal := m ((c : Thread nD τ).loc main_arg5) (ix1 k)

/-- Row `r` of point `t`'s blocks, among the array's rows. -/
def arow (t : Fin cfg0.N) (r : Fin 512) : Fin 8192 := ⟨512 * t.val + r, by have := Nat.lt_of_lt_of_eq t.isLt N_0; omega⟩

theorem idx0 : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0]
    ∧ win0_6.index t = ![t.val, 0] ∧ win0_7.index t = ![t.val, 0] := by decide +kernel

section
variable (t : Fin cfg0.N) (r : Fin 512)

theorem blk0 : row (iblk m c 0 t) r = af m c (arow t r) := by
  funext k
  unfold row af
  blk_ext [iblk, V, arow, idx0 t]
theorem blk1 : row (iblk m c 1 t) = aw m c := by
  funext j k
  unfold row aw
  blk_ext [iblk, V, idx0 t]
theorem blk2 : row (iblk m c 2 t) r = ax m c (arow t r) := by
  funext k
  unfold row ax
  blk_ext [iblk, V, arow, idx0 t]
theorem blk3 : row (iblk m c 3 t) r = atg m c (arow t r) := by
  funext k
  unfold row atg
  blk_ext [iblk, V, arow, idx0 t]
theorem blk4 : row (iblk m c 4 t) 0 = ag m c := by
  funext k
  unfold row ag
  blk_ext [iblk, V, idx0 t]
theorem blk5 : row (iblk m c 5 t) 0 = an m c := by
  funext k
  unfold row an
  blk_simp [iblk, idx0 t]
  entry_read
  pointwise
  first | done | blk_ext [idx0 t]

theorem point_dx : (outsAt0 m c t.val t.isLt).1
    = dxBlk (iblk m c 0 t) (iblk m c 1 t) (iblk m c 2 t) (iblk m c 3 t) (iblk m c 4 t) (iblk m c 5 t) := by
  unfold dxBlk
  by_cases h : t.val % 16 = 0
  · rw [outsAt0_A m c t h]
    frame_out
  · rw [outsAt0_B m c t h]
    frame_out
theorem point_dgf : (outsAt0 m c t.val t.isLt).2.1
    = dgfBlk (iblk m c 0 t) (iblk m c 1 t) (iblk m c 2 t) (iblk m c 3 t) (iblk m c 4 t) (iblk m c 5 t) := by
  unfold dgfBlk
  by_cases h : t.val % 16 = 0
  · rw [outsAt0_A m c t h]
    frame_out
  · rw [outsAt0_B m c t h]
    frame_out

theorem loss_reset (h : t.val % 16 = 0) : (outsAt0 m c t.val t.isLt).2.2.1
    = lossStep (iblk m c 0 t) (iblk m c 1 t) (iblk m c 2 t) (iblk m c 3 t) (iblk m c 4 t) (iblk m c 5 t) (k0_pay2 (F := Ideal)) := by
  rw [outsAt0_A m c t h]
  unfold lossStep
  frame_out
theorem loss_step (h : ¬t.val % 16 = 0) : (outsAt0 m c t.val t.isLt).2.2.1
    = lossStep (iblk m c 0 t) (iblk m c 1 t) (iblk m c 2 t) (iblk m c 3 t) (iblk m c 4 t) (iblk m c 5 t)
      (outsAt0 m c (t.val - 1) (Nat.lt_of_le_of_lt (Nat.sub_le _ _) t.isLt)).2.2.1 := by
  rw [outsAt0_B m c t h]
  unfold lossStep
  frame_out
theorem dg_reset (h : t.val % 16 = 0) : (outsAt0 m c t.val t.isLt).2.2.2.1
    = dgStep (iblk m c 0 t) (iblk m c 1 t) (iblk m c 2 t) (iblk m c 3 t) (iblk m c 4 t) (iblk m c 5 t) (k0_pay3 (F := Ideal)) := by
  rw [outsAt0_A m c t h]
  unfold dgStep
  frame_out
theorem dg_step (h : ¬t.val % 16 = 0) : (outsAt0 m c t.val t.isLt).2.2.2.1
    = dgStep (iblk m c 0 t) (iblk m c 1 t) (iblk m c 2 t) (iblk m c 3 t) (iblk m c 4 t) (iblk m c 5 t)
      (outsAt0 m c (t.val - 1) (Nat.lt_of_le_of_lt (Nat.sub_le _ _) t.isLt)).2.2.2.1 := by
  rw [outsAt0_B m c t h]
  unfold dgStep
  frame_out
theorem dnw_reset (h : t.val % 16 = 0) : (outsAt0 m c t.val t.isLt).2.2.2.2
    = dnwStep (iblk m c 0 t) (iblk m c 1 t) (iblk m c 2 t) (iblk m c 3 t) (iblk m c 4 t) (iblk m c 5 t) (k0_pay4 (F := Ideal)) := by
  rw [outsAt0_A m c t h]
  unfold dnwStep
  frame_out
theorem dnw_step (h : ¬t.val % 16 = 0) : (outsAt0 m c t.val t.isLt).2.2.2.2
    = dnwStep (iblk m c 0 t) (iblk m c 1 t) (iblk m c 2 t) (iblk m c 3 t) (iblk m c 4 t) (iblk m c 5 t)
      (outsAt0 m c (t.val - 1) (Nat.lt_of_le_of_lt (Nat.sub_le _ _) t.isLt)).2.2.2.2 := by
  rw [outsAt0_B m c t h]
  unfold dnwStep
  frame_out
end

/-- The residual stream's gradient. -/
theorem final_dx : (dats m 0 c).arrAt 6 cfg0.N
    = fun i => dx (af m c (i 0)) (aw m c) (ax m c (i 0)) (atg m c (i 0)) (ag m c) (an m c) (i 1) := by
  refine (dats m 0 c).arrAt_eq_of_covers 6 _ (by decide +kernel) (fun t hf y => ?_)
  blk_simp [idx0 t]
  rw [after0_6, point_dx]
  idx_vars y
  have e0 : (((View.whole main_v1_0).slice (win0_6.rect t)).emb (ix2 y0 y1) 0 : Fin 8192) = arow t y0 := Fin.ext (by
    blk_simp [idx0 t]
    simp only [arow]
    omega)
  have e1 : (((View.whole main_v1_0).slice (win0_6.rect t)).emb (ix2 y0 y1) 1 : Fin 1024) = y1 := Fin.ext (by blk_simp [idx0 t])
  rw [dxBlk_at, blk0, blk1, blk2, blk3, blk4, blk5]
  exact congrArg₂ (fun r k => dx (af m c r) (aw m c) (ax m c r) (atg m c r) (ag m c) (an m c) k) e0.symm e1.symm

/-- The gradient at the feed-forward's result. -/
theorem final_dgf : (dats m 0 c).arrAt 7 cfg0.N
    = fun i => dgf (af m c (i 0)) (aw m c) (ax m c (i 0)) (atg m c (i 0)) (ag m c) (an m c) (i 1) := by
  refine (dats m 0 c).arrAt_eq_of_covers 7 _ (by decide +kernel) (fun t hf y => ?_)
  blk_simp [idx0 t]
  rw [after0_7, point_dgf]
  idx_vars y
  have e0 : (((View.whole main_v1_1).slice (win0_7.rect t)).emb (ix2 y0 y1) 0 : Fin 8192) = arow t y0 := Fin.ext (by
    blk_simp [idx0 t]
    simp only [arow]
    omega)
  have e1 : (((View.whole main_v1_1).slice (win0_7.rect t)).emb (ix2 y0 y1) 1 : Fin 1024) = y1 := Fin.ext (by blk_simp [idx0 t])
  rw [dgfBlk_at, blk0, blk1, blk2, blk3, blk4, blk5]
  exact congrArg₂ (fun r k => dgf (af m c r) (aw m c) (ax m c r) (atg m c r) (ag m c) (an m c) k) e0.symm e1.symm

/-- The loss. -/
theorem final_loss : (dats m 0 c).arrAt 8 cfg0.N
    = fun _ => ∑ r, loss (af m c r) (aw m c) (ax m c r) (atg m c r) (ag m c) (an m c) := by
  refine (dats m 0 c).arrAt_eq_of_after_last 8 t0_15 (by decide +kernel) _ fun j => ?_
  blk_simp
  rw [after0_8]
  idx_vars j
  refine RowSum.fold_tiles N_0 (fun n h => (outsAt0 m c n h).2.2.1 (ix2 j0 j1))
    (fun r => loss (af m c r) (aw m c) (ax m c r) (atg m c r) (ag m c) (an m c)) arow (fun _ _ => rfl)
    (fun t h => ?_) (fun t h => ?_) t0_15 rfl
  · rw [loss_reset m c t h, lossStep_at, zero2_at, zero_add]
    simp only [blk0, blk1, blk2, blk3, blk4, blk5]
  · rw [loss_step m c t h, lossStep_at]
    simp only [blk0, blk1, blk2, blk3, blk4, blk5]

/-- The gate's gradient. -/
theorem final_dg : (dats m 0 c).arrAt 9 cfg0.N
    = fun i => ∑ r, dg (af m c r) (aw m c) (ax m c r) (atg m c r) (ag m c) (an m c) (i 1) := by
  refine (dats m 0 c).arrAt_eq_of_after_last 9 t0_15 (by decide +kernel) _ fun j => ?_
  blk_simp
  rw [after0_9]
  idx_vars j
  refine RowSum.fold_tiles N_0 (fun n h => (outsAt0 m c n h).2.2.2.1 (ix2 j0 j1))
    (fun r => dg (af m c r) (aw m c) (ax m c r) (atg m c r) (ag m c) (an m c) j1) arow (fun _ _ => rfl)
    (fun t h => ?_) (fun t h => ?_) t0_15 rfl
  · rw [dg_reset m c t h, dgStep_at, zero3_at, zero_add]
    simp only [blk0, blk1, blk2, blk3, blk4, blk5]
  · rw [dg_step m c t h, dgStep_at]
    simp only [blk0, blk1, blk2, blk3, blk4, blk5]

/-- The gradient of the final norm's weight. -/
theorem final_dnw : (dats m 0 c).arrAt 10 cfg0.N
    = fun i => ∑ r, dnw (af m c r) (aw m c) (ax m c r) (atg m c r) (ag m c) (an m c) (i 1) := by
  refine (dats m 0 c).arrAt_eq_of_after_last 10 t0_15 (by decide +kernel) _ fun j => ?_
  blk_simp
  rw [after0_10]
  idx_vars j
  refine RowSum.fold_tiles N_0 (fun n h => (outsAt0 m c n h).2.2.2.2 (ix2 j0 j1))
    (fun r => dnw (af m c r) (aw m c) (ax m c r) (atg m c r) (ag m c) (an m c) j1) arow (fun _ _ => rfl)
    (fun t h => ?_) (fun t h => ?_) t0_15 rfl
  · rw [dnw_reset m c t h, dnwStep_at, zero4_at, zero_add]
    simp only [blk0, blk1, blk2, blk3, blk4, blk5]
  · rw [dnw_step m c t h, dnwStep_at]
    simp only [blk0, blk1, blk2, blk3, blk4, blk5]
end

section
open Cert.SguRef Cert.Reference8Ideal Cert.Reference8Ideal.Value Idealize.ShloMosaic Idealize.ShloMosaic.TcCoe Idealize.SL.Sem Idealize.ShloMosaic.StableHlo

variable (m : (ℓ : Loc nD τ sig) → Buf (Elt Ideal) ℓ) (c : Dev nD)

/-- The feed-forward's hidden array, before its square. -/
def rf (r : Fin 8192) (l : Fin 4096) : EReal := m ((c : Thread nD τ).loc main_arg0) (ix2 r l)
/-- The feed-forward's second weight. -/
def rwt (l : Fin 4096) (k : Fin 1024) : EReal := m ((c : Thread nD τ).loc main_arg1) (ix2 l k)
/-- The residual stream. -/
def rx (r : Fin 8192) (k : Fin 1024) : EReal := m ((c : Thread nD τ).loc main_arg2) (ix2 r k)
/-- The target. -/
def rt (r : Fin 8192) (k : Fin 1024) : EReal := m ((c : Thread nD τ).loc main_arg3) (ix2 r k)
/-- The gate. -/
def rg (k : Fin 1024) : EReal := m ((c : Thread nD τ).loc main_arg4) (ix2 0 k)
/-- The final norm's weight. -/
def rn (k : Fin 1024) : EReal := m ((c : Thread nD τ).loc main_arg5) (ix1 k)

theorem add_mul_two_mul (a t x : EReal) : a + t * (Ideal.ofBits .f32 0x40000000#32 * x) = a + x * t + t * x := by
  rw [mul_two_mul, add_assoc]

set_option maxHeartbeats 2000000 in
/-- The residual stream's gradient. -/
theorem v58_at (r : Fin 8192) (k : Fin 1024) : res_main_v58 m c (ix2 r k)
    = dx (rf m c r) (rwt m c) (rx m c r) (rt m c r) (rg m c) (rn m c) k := by
  unfold res_main_v58
  clean_types
  pointwise [dx, dms, dw, dy, cot, er, yn, rs, ms, res, gf, relu2, rf, rwt, rx, rt, rg, rn]
  simp only [Fin.sum_univ_one, mul_one]
  exact add_mul_two_mul _ _ _
set_option maxHeartbeats 2000000 in
theorem v64_at (r : Fin 8192) (k : Fin 1024) : res_main_v64 m c (ix2 r k)
    = dgf (rf m c r) (rwt m c) (rx m c r) (rt m c r) (rg m c) (rn m c) k := by
  unfold dgf
  rw [← v58_at]
  unfold res_main_v64 res_main_v58
  clean_types
  pointwise [rg]
set_option maxHeartbeats 2000000 in
theorem v63_at (z : Fin 1) (k : Fin 1024) : res_main_v63 m c (ix2 z k)
    = ∑ r, dg (rf m c r) (rwt m c) (rx m c r) (rt m c r) (rg m c) (rn m c) k := by
  simp only [dg, ← v58_at]
  unfold res_main_v63 res_main_v58
  clean_types
  pointwise [gf, relu2, rf, rwt]
set_option maxHeartbeats 2000000 in
theorem v65_at (z : Fin 1) (k : Fin 128) : res_main_v65 m c (ix2 z k)
    = ∑ r, loss (rf m c r) (rwt m c) (rx m c r) (rt m c r) (rg m c) (rn m c) := by
  simp only [loss]
  rw [← mul_sum_nonneg Finset.univ _ _ fun r => mean_nonneg _]
  unfold res_main_v65
  clean_types
  pointwise [er, yn, rs, ms, res, gf, relu2, rf, rwt, rx, rt, rg, rn]
set_option maxHeartbeats 2000000 in
theorem v66_at (z : Fin 1) (k : Fin 1024) : res_main_v66 m c (ix2 z k)
    = ∑ r, dnw (rf m c r) (rwt m c) (rx m c r) (rt m c r) (rg m c) (rn m c) k := by
  unfold res_main_v66
  clean_types
  pointwise [dnw, dy, cot, er, yn, rs, ms, res, gf, relu2, rf, rwt, rx, rt, rg, rn]
  first | done | simp only [Fin.sum_univ_one, mul_one]

/-- The reference's arrays. -/
theorem ref_values (ρ : Dev nD → PrngReg) :
    θ_run defs (onTc (τ := τ) (main (F := Ideal))) ⟨m, fun _ => 0, ρ⟩ fun r => ∀ c : Dev nD,
      (r.2.mem ((c.tc : Thread nD τ).loc main_v58) = fun i => dx (rf m c (i 0)) (rwt m c) (rx m c (i 0)) (rt m c (i 0)) (rg m c) (rn m c) (i 1))
      ∧ (r.2.mem ((c.tc : Thread nD τ).loc main_v64) = fun i => dgf (rf m c (i 0)) (rwt m c) (rx m c (i 0)) (rt m c (i 0)) (rg m c) (rn m c) (i 1))
      ∧ (r.2.mem ((c.tc : Thread nD τ).loc main_v65) = fun _ => ∑ r, loss (rf m c r) (rwt m c) (rx m c r) (rt m c r) (rg m c) (rn m c))
      ∧ (r.2.mem ((c.tc : Thread nD τ).loc main_v63) = fun i => ∑ r, dg (rf m c r) (rwt m c) (rx m c r) (rt m c r) (rg m c) (rn m c) (i 1))
      ∧ (r.2.mem ((c.tc : Thread nD τ).loc main_v66) = fun i => ∑ r, dnw (rf m c r) (rwt m c) (rx m c r) (rt m c r) (rg m c) (rn m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun _ h c => ?_) (Value.run m ρ)
  obtain ⟨h0, h1, h2, h3, h4, hr⟩ := h c
  refine ⟨h0.trans ?_, h1.trans ?_, h2.trans ?_, h3.trans ?_, h4.trans ?_, hr⟩
  · funext i
    idx_vars i
    exact v58_at m c i0 i1
  · funext i
    idx_vars i
    exact v64_at m c i0 i1
  · funext i
    idx_vars i
    exact v65_at m c i0 i1
  · funext i
    idx_vars i
    exact v63_at m c i0 i1
  · funext i
    idx_vars i
    exact v66_at m c i0 i1
end

open Idealize.ShloMosaic Idealize.SL.Sem

/-- The reference runs, its arguments end unchanged, and it has no semaphores. -/
theorem ref_frame : Cert.quiescent_Reference8Ideal := fun m g _ =>
  (θ_run _ _ _).mono (fun r h => ⟨fun c => (h c).2.2.2.2.2, sem_eq_zero_of_no_sems rfl r.2⟩) (ref_values m g)

/-- The kernel's results and the reference's are the same arrays at every input. -/
theorem algebraic : Cert.algebraic_Kernel8Ideal_Reference8Ideal := by
  intro m g m' g' _ hargs
  refine ⟨fun c => (Cert.Kernel8Ideal.Gen.dats m 0 c).arrAt 6 Cert.Kernel8Ideal.cfg0.N,
    fun c => (Cert.Kernel8Ideal.Gen.dats m 0 c).arrAt 7 Cert.Kernel8Ideal.cfg0.N,
    fun c => (Cert.Kernel8Ideal.Gen.dats m 0 c).arrAt 8 Cert.Kernel8Ideal.cfg0.N,
    fun c => (Cert.Kernel8Ideal.Gen.dats m 0 c).arrAt 9 Cert.Kernel8Ideal.cfg0.N,
    fun c => (Cert.Kernel8Ideal.Gen.dats m 0 c).arrAt 10 Cert.Kernel8Ideal.cfg0.N, Cert.Kernel8Ideal.Value.run_blocks m g,
    (θ_run _ _ _).mono (fun r h c => ?_) (ref_values m' g')⟩
  obtain ⟨h0, h1, h2, h3, h4, hr⟩ := h c
  obtain ⟨a0, a1, a2, a3, a4, a5⟩ := hargs c
  have e0 : rf m' c = af m c := funext fun i => funext fun k => congrFun a0 _
  have e1 : rwt m' c = aw m c := funext fun i => funext fun k => congrFun a1 _
  have e2 : rx m' c = ax m c := funext fun i => funext fun k => congrFun a2 _
  have e3 : rt m' c = atg m c := funext fun i => funext fun k => congrFun a3 _
  have e4 : rg m' c = ag m c := funext fun k => congrFun a4 _
  have e5 : rn m' c = an m c := funext fun k => congrFun a5 _
  simp only [e0, e1, e2, e3, e4, e5] at h0 h1 h2 h3 h4
  exact ⟨h0.trans (final_dx m c).symm, h1.trans (final_dgf m c).symm, h2.trans (final_loss m c).symm,
    h3.trans (final_dg m c).symm, h4.trans (final_dnw m c).symm, hr⟩

end Cert.Ff2Loss
-- ==== Proof.OutWgrad.lean ====
module

public import proofs.«01_k».proof.Proof.Gen.Kernel9Ideal.Value
public import proofs.«01_k».proof.Proof.Gen.Reference9Ideal.Run
public import proofs.«01_k».proof.Proof.RowSum
public import proofs.«01_k».proof.Defs
public import Idealize.ShloMosaic.Lib.Pointwise
public import Idealize.ShloMosaic.Lib.Tactic.CleanTypes
public import Idealize.ShloMosaic.Lib.Quiescent

/-! The gradient of the output projection's weight: the kernel's array and the reference's, at an index. -/

@[expose] public section

set_option maxRecDepth 16384

noncomputable section

namespace Cert.OutWgrad

section
open Cert.Kernel9Ideal Cert.Kernel9Ideal.Gen Idealize.ShloMosaic Idealize.ShloMosaic.TcCoe Idealize.SL.Sem

variable (m : (ℓ : Loc nD τ sig) → Buf (Elt Ideal) ℓ) (c : Dev nD)

/-- The mixed branches, the projection's input. -/
def ax (r : Fin 8192) (k : Fin 1024) : EReal := m ((c : Thread nD τ).loc main_arg0) (ix2 r k)
/-- The gradient that enters. -/
def ad (r : Fin 8192) (k : Fin 1024) : EReal := m ((c : Thread nD τ).loc main_arg1) (ix2 r k)

theorem idx0 : ∀ t : Fin grid0.N, win0_0.index t = ![t.val % 4, 0] ∧ win0_1.index t = ![t.val % 4, t.val / 4]
    ∧ win0_2.index t = ![0, t.val / 4] := by decide +kernel

theorem prod_at (x : Vec Ideal S2048x1024 .bf16) (y : Vec Ideal S2048x1024 .bf16) (i k : Fin 1024) :
    k0_pay1 x y (ix2 i k) = ∑ l, x (ix2 l i) * y (ix2 l k) := by pointwise [k0_pay1]
theorem first_at (x y : Vec Ideal S2048x1024 .bf16) (i k : Fin 1024) :
    k0_pay2 x y (ix2 i k) = k0_pay1 x y (ix2 i k) := by pointwise [k0_pay2]
theorem step_at (x y : Vec Ideal S2048x1024 .bf16) (a : Vec Ideal S1024x1024 .f32) (i k : Fin 1024) :
    k0_pay3 x y a (ix2 i k) = a (ix2 i k) + k0_pay1 x y (ix2 i k) := by pointwise [k0_pay3]
theorem last_at (x y : Vec Ideal S2048x1024 .bf16) (a : Vec Ideal S1024x1024 .f32) (i k : Fin 1024) :
    k0_pay4 x y a (ix2 i k) = a (ix2 i k) + k0_pay1 x y (ix2 i k) := by pointwise [k0_pay4]

/-- A run's first point stores its product. -/
theorem acc_first (t : Fin cfg0.N) (h : t.val % 4 = 0) :
    (outsAt0 m c t.val t.isLt).2 = k0_pay2 (iblk m c 0 t) (iblk m c 1 t) := by
  rw [outsAt0_A m c t h (by omega) (by omega)]
  frame_out
/-- The next two add theirs. -/
theorem acc_step (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  frame_out
  exact congrArg (k0_pay3 _ _) (Memref.IsWhole.read_unread _ _)
/-- The last gives the sum out. -/
theorem out_last (t : Fin cfg0.N) (h : t.val % 4 = 3) :
    (outsAt0 m c t.val t.isLt).1
      = k0_pay4 (iblk m c 0 t) (iblk m c 1 t) (outsAt0 m c (t.val - 1) (Nat.lt_of_le_of_lt (Nat.sub_le _ _) t.isLt)).2 := by
  rw [outsAt0_C m c t (by omega) (by omega) h]
  frame_out
  exact congrArg (k0_pay4 _ _) (Memref.IsWhole.read_unread _ _)

theorem part_at (t : Fin cfg0.N) (i k : Fin 1024) (q : Fin 1) (h : t.val / 4 = q) : k0_pay1 (iblk m c 0 t) (iblk m c 1 t) (ix2 i k)
    = ∑ l : Fin 2048, ax m c ⟨2048 * (t.val % 4) + l, by omega⟩ i * ad m c ⟨2048 * (t.val % 4) + l, by omega⟩ ⟨1024 * q + k, by omega⟩ := by
  rw [prod_at]
  refine Finset.sum_congr rfl fun l _ => congrArg₂ (· * ·) ?_ ?_
  · unfold ax
    blk_ext [iblk, V, idx0 t]
  · unfold ad
    blk_ext [iblk, V, idx0 t]

/-- The kernel's array: the product over all rows. -/
theorem final : (dats m 0 c).arrAt 2 cfg0.N = fun i => ∑ r, ax m c r (i 0) * ad m c r (i 1) := by
  refine (dats m 0 c).arrAt_eq_of_covers 2 _ (by decide +kernel) (fun t hf y => ?_)
  have ht := Nat.lt_of_lt_of_eq t.isLt N_0
  have h3 := (flush0_2 t).mp hf
  blk_simp [idx0 t]
  rw [after0_2]
  idx_vars y
  refine (RowSum.fold_rows (fun n h => (outsAt0 m c n h).2 (ix2 y0 y1)) (fun n h => (outsAt0 m c n h).1 (ix2 y0 y1))
    (fun n h => k0_pay1 (iblk m c 0 ⟨n, h⟩) (iblk m c 1 ⟨n, h⟩) (ix2 y0 y1)) t.val t.isLt h3
    (fun r => ax m c r y0 * ad m c r ⟨1024 * (t.val / 4) + y1, by omega⟩)
    (fun k hk h => ?_) (fun k hk h => ?_) (fun k hk h => ?_) (fun k hk h => ?_)).trans ?_
  · exact (congrFun (acc_first m c ⟨k, hk⟩ h) _).trans (first_at _ _ _ _)
  · exact (congrFun (acc_step m c ⟨k, hk⟩ h) _).trans (step_at _ _ _ _ _)
  · exact (congrFun (out_last m c ⟨k, hk⟩ h) _).trans (last_at _ _ _ _ _)
  · exact part_at m c ⟨k, hk⟩ y0 y1 ⟨t.val / 4, by omega⟩ h
  · refine Finset.sum_congr rfl fun r _ => congrArg₂ (· * ·) ?_ ?_
    · congr 1
      apply Fin.ext
      blk_simp [idx0 t]
    · congr 1
      apply Fin.ext
      blk_simp [idx0 t]
      simp only
      omega
end

section
open Cert.Reference9Ideal Cert.Reference9Ideal.Value Idealize.ShloMosaic Idealize.ShloMosaic.TcCoe Idealize.SL.Sem Idealize.ShloMosaic.StableHlo

variable (m : (ℓ : Loc nD τ sig) → Buf (Elt Ideal) ℓ) (c : Dev nD)

/-- The mixed branches, the projection's input. -/
def rx (r : Fin 8192) (k : Fin 1024) : EReal := m ((c : Thread nD τ).loc main_arg0) (ix2 r k)
/-- The gradient that enters. -/
def rd (r : Fin 8192) (k : Fin 1024) : EReal := m ((c : Thread nD τ).loc main_arg1) (ix2 r k)

/-- The reference's array: the product over all rows. -/
theorem ref_values (ρ : Dev nD → PrngReg) :
    θ_run defs (onTc (τ := τ) (main (F := Ideal))) ⟨m, fun _ => 0, ρ⟩ fun r => ∀ c : Dev nD,
      r.2.mem ((c.tc : Thread nD τ).loc main_v6) = (fun i => ∑ r, rx m c r (i 0) * rd m c r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ?_) (Value.run m ρ)
  obtain ⟨h0, hr⟩ := h c
  refine ⟨h0.trans ?_, hr⟩
  clear h h0 hr
  funext i
  clean_types
  idx_vars i
  pointwise [rx, rd]
  exact Finset.sum_congr rfl fun _ _ => mul_comm _ _
end

open Idealize.ShloMosaic Idealize.SL.Sem

/-- The reference runs, its arguments end unchanged, and it has no semaphores. -/
theorem ref_frame : Cert.quiescent_Reference9Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel9Ideal_Reference9Ideal := by
  intro m g m' g' _ hargs
  refine ⟨fun c => (Cert.Kernel9Ideal.Gen.dats m 0 c).arrAt 2 Cert.Kernel9Ideal.cfg0.N, Cert.Kernel9Ideal.Value.run_blocks m g,
    (θ_run _ _ _).mono (fun r h c => ?_) (ref_values m' g')⟩
  obtain ⟨h0, hr⟩ := h c
  obtain ⟨a0, a1⟩ := hargs c
  have e0 : rx m' c = ax m c := funext fun i => funext fun k => congrFun a0 _
  have e1 : rd m' c = ad m c := funext fun i => funext fun k => congrFun a1 _
  refine ⟨h0.trans (Eq.trans ?_ (final m c).symm), hr⟩
  simp only [e0, e1]
  rfl

end Cert.OutWgrad
-- ==== Proof.GmWgrad.lean ====
module

public import proofs.«01_k».proof.Proof.Gen.Kernel10Ideal.Value
public import proofs.«01_k».proof.Proof.Gen.Reference10Ideal.Run
public import proofs.«01_k».proof.Proof.RowSum
public import proofs.«01_k».proof.Defs
public import Idealize.ShloMosaic.Lib.Pointwise
public import Idealize.ShloMosaic.Lib.Tactic.CleanTypes
public import Idealize.ShloMosaic.Lib.Quiescent

/-! The gradient of the gating branch's output weight: the kernel's array and the reference's, at an index. -/

@[expose] public section

set_option maxRecDepth 16384

noncomputable section

namespace Cert.GmWgrad

section
open Cert.Kernel10Ideal Cert.Kernel10Ideal.Gen Idealize.ShloMosaic Idealize.ShloMosaic.TcCoe Idealize.SL.Sem

variable (m : (ℓ : Loc nD τ sig) → Buf (Elt Ideal) ℓ) (c : Dev nD)

/-- The branch's values before its output product. -/
def ax (r : Fin 8192) (k : Fin 1024) : EReal := m ((c : Thread nD τ).loc main_arg0) (ix2 r k)
/-- The gradient that enters. -/
def ad (r : Fin 8192) (k : Fin 1024) : EReal := m ((c : Thread nD τ).loc main_arg1) (ix2 r k)

theorem idx0 : ∀ t : Fin grid0.N, win0_0.index t = ![t.val % 4, 0] ∧ win0_1.index t = ![t.val % 4, t.val / 4]
    ∧ win0_2.index t = ![0, t.val / 4] := by decide +kernel

theorem prod_at (x : Vec Ideal S2048x1024 .bf16) (y : Vec Ideal S2048x1024 .bf16) (i k : Fin 1024) :
    k0_pay1 x y (ix2 i k) = ∑ l, x (ix2 l i) * y (ix2 l k) := by pointwise [k0_pay1]
theorem first_at (x y : Vec Ideal S2048x1024 .bf16) (i k : Fin 1024) :
    k0_pay2 x y (ix2 i k) = k0_pay1 x y (ix2 i k) := by pointwise [k0_pay2]
theorem step_at (x y : Vec Ideal S2048x1024 .bf16) (a : Vec Ideal S1024x1024 .f32) (i k : Fin 1024) :
    k0_pay3 x y a (ix2 i k) = a (ix2 i k) + k0_pay1 x y (ix2 i k) := by pointwise [k0_pay3]
theorem last_at (x y : Vec Ideal S2048x1024 .bf16) (a : Vec Ideal S1024x1024 .f32) (i k : Fin 1024) :
    k0_pay4 x y a (ix2 i k) = a (ix2 i k) + k0_pay1 x y (ix2 i k) := by pointwise [k0_pay4]

/-- A run's first point stores its product. -/
theorem acc_first (t : Fin cfg0.N) (h : t.val % 4 = 0) :
    (outsAt0 m c t.val t.isLt).2 = k0_pay2 (iblk m c 0 t) (iblk m c 1 t) := by
  rw [outsAt0_A m c t h (by omega) (by omega)]
  frame_out
/-- The next two add theirs. -/
theorem acc_step (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  frame_out
  exact congrArg (k0_pay3 _ _) (Memref.IsWhole.read_unread _ _)
/-- The last gives the sum out. -/
theorem out_last (t : Fin cfg0.N) (h : t.val % 4 = 3) :
    (outsAt0 m c t.val t.isLt).1
      = k0_pay4 (iblk m c 0 t) (iblk m c 1 t) (outsAt0 m c (t.val - 1) (Nat.lt_of_le_of_lt (Nat.sub_le _ _) t.isLt)).2 := by
  rw [outsAt0_C m c t (by omega) (by omega) h]
  frame_out
  exact congrArg (k0_pay4 _ _) (Memref.IsWhole.read_unread _ _)

theorem part_at (t : Fin cfg0.N) (i k : Fin 1024) (q : Fin 1) (h : t.val / 4 = q) : k0_pay1 (iblk m c 0 t) (iblk m c 1 t) (ix2 i k)
    = ∑ l : Fin 2048, ax m c ⟨2048 * (t.val % 4) + l, by omega⟩ i * ad m c ⟨2048 * (t.val % 4) + l, by omega⟩ ⟨1024 * q + k, by omega⟩ := by
  rw [prod_at]
  refine Finset.sum_congr rfl fun l _ => congrArg₂ (· * ·) ?_ ?_
  · unfold ax
    blk_ext [iblk, V, idx0 t]
  · unfold ad
    blk_ext [iblk, V, idx0 t]

/-- The kernel's array: the product over all rows. -/
theorem final : (dats m 0 c).arrAt 2 cfg0.N = fun i => ∑ r, ax m c r (i 0) * ad m c r (i 1) := by
  refine (dats m 0 c).arrAt_eq_of_covers 2 _ (by decide +kernel) (fun t hf y => ?_)
  have ht := Nat.lt_of_lt_of_eq t.isLt N_0
  have h3 := (flush0_2 t).mp hf
  blk_simp [idx0 t]
  rw [after0_2]
  idx_vars y
  refine (RowSum.fold_rows (fun n h => (outsAt0 m c n h).2 (ix2 y0 y1)) (fun n h => (outsAt0 m c n h).1 (ix2 y0 y1))
    (fun n h => k0_pay1 (iblk m c 0 ⟨n, h⟩) (iblk m c 1 ⟨n, h⟩) (ix2 y0 y1)) t.val t.isLt h3
    (fun r => ax m c r y0 * ad m c r ⟨1024 * (t.val / 4) + y1, by omega⟩)
    (fun k hk h => ?_) (fun k hk h => ?_) (fun k hk h => ?_) (fun k hk h => ?_)).trans ?_
  · exact (congrFun (acc_first m c ⟨k, hk⟩ h) _).trans (first_at _ _ _ _)
  · exact (congrFun (acc_step m c ⟨k, hk⟩ h) _).trans (step_at _ _ _ _ _)
  · exact (congrFun (out_last m c ⟨k, hk⟩ h) _).trans (last_at _ _ _ _ _)
  · exact part_at m c ⟨k, hk⟩ y0 y1 ⟨t.val / 4, by omega⟩ h
  · refine Finset.sum_congr rfl fun r _ => congrArg₂ (· * ·) ?_ ?_
    · congr 1
      apply Fin.ext
      blk_simp [idx0 t]
    · congr 1
      apply Fin.ext
      blk_simp [idx0 t]
      simp only
      omega
end

section
open Cert.Reference10Ideal Cert.Reference10Ideal.Value Idealize.ShloMosaic Idealize.ShloMosaic.TcCoe Idealize.SL.Sem Idealize.ShloMosaic.StableHlo

variable (m : (ℓ : Loc nD τ sig) → Buf (Elt Ideal) ℓ) (c : Dev nD)

/-- The branch's values before its output product. -/
def rx (r : Fin 8192) (k : Fin 1024) : EReal := m ((c : Thread nD τ).loc main_arg0) (ix2 r k)
/-- The gradient that enters. -/
def rd (r : Fin 8192) (k : Fin 1024) : EReal := m ((c : Thread nD τ).loc main_arg1) (ix2 r k)

/-- The reference's array: the product over all rows. -/
theorem ref_values (ρ : Dev nD → PrngReg) :
    θ_run defs (onTc (τ := τ) (main (F := Ideal))) ⟨m, fun _ => 0, ρ⟩ fun r => ∀ c : Dev nD,
      r.2.mem ((c.tc : Thread nD τ).loc main_v6) = (fun i => ∑ r, rx m c r (i 0) * rd m c r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ?_) (Value.run m ρ)
  obtain ⟨h0, hr⟩ := h c
  refine ⟨h0.trans ?_, hr⟩
  clear h h0 hr
  funext i
  clean_types
  idx_vars i
  pointwise [rx, rd]
  exact Finset.sum_congr rfl fun _ _ => mul_comm _ _
end

open Idealize.ShloMosaic Idealize.SL.Sem

/-- The reference runs, its arguments end unchanged, and it has no semaphores. -/
theorem ref_frame : Cert.quiescent_Reference10Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel10Ideal_Reference10Ideal := by
  intro m g m' g' _ hargs
  refine ⟨fun c => (Cert.Kernel10Ideal.Gen.dats m 0 c).arrAt 2 Cert.Kernel10Ideal.cfg0.N, Cert.Kernel10Ideal.Value.run_blocks m g,
    (θ_run _ _ _).mono (fun r h c => ?_) (ref_values m' g')⟩
  obtain ⟨h0, hr⟩ := h c
  obtain ⟨a0, a1⟩ := hargs c
  have e0 : rx m' c = ax m c := funext fun i => funext fun k => congrFun a0 _
  have e1 : rd m' c = ad m c := funext fun i => funext fun k => congrFun a1 _
  refine ⟨h0.trans (Eq.trans ?_ (final m c).symm), hr⟩
  simp only [e0, e1]
  rfl

end Cert.GmWgrad
-- ==== Proof.SsmWgrad.lean ====
module

public import proofs.«01_k».proof.Proof.Gen.Kernel11Ideal.Value
public import proofs.«01_k».proof.Proof.Gen.Reference11Ideal.Run
public import proofs.«01_k».proof.Proof.RowSum
public import proofs.«01_k».proof.Defs
public import Idealize.ShloMosaic.Lib.Pointwise
public import Idealize.ShloMosaic.Lib.Tactic.CleanTypes
public import Idealize.ShloMosaic.Lib.Quiescent

/-! The gradient of the scan branch's output weight: the kernel's array and the reference's, at an index. -/

@[expose] public section

set_option maxRecDepth 16384

noncomputable section

namespace Cert.SsmWgrad

section
open Cert.Kernel11Ideal Cert.Kernel11Ideal.Gen Idealize.ShloMosaic Idealize.ShloMosaic.TcCoe Idealize.SL.Sem

variable (m : (ℓ : Loc nD τ sig) → Buf (Elt Ideal) ℓ) (c : Dev nD)

/-- The branch's values before its output product. -/
def ax (r : Fin 8192) (k : Fin 2048) : EReal := m ((c : Thread nD τ).loc main_arg0) (ix2 r k)
/-- The gradient that enters. -/
def ad (r : Fin 8192) (k : Fin 1024) : EReal := m ((c : Thread nD τ).loc main_arg1) (ix2 r k)

theorem idx0 : ∀ t : Fin grid0.N, win0_0.index t = ![t.val % 4, t.val / 4] ∧ win0_1.index t = ![t.val % 4, 0]
    ∧ win0_2.index t = ![t.val / 4, 0] := by decide +kernel

theorem prod_at (x : Vec Ideal S2048x1024 .bf16) (y : Vec Ideal S2048x1024 .bf16) (i k : Fin 1024) :
    k0_pay1 x y (ix2 i k) = ∑ l, x (ix2 l i) * y (ix2 l k) := by pointwise [k0_pay1]
theorem first_at (x y : Vec Ideal S2048x1024 .bf16) (i k : Fin 1024) :
    k0_pay2 x y (ix2 i k) = k0_pay1 x y (ix2 i k) := by pointwise [k0_pay2]
theorem step_at (x y : Vec Ideal S2048x1024 .bf16) (a : Vec Ideal S1024x1024 .f32) (i k : Fin 1024) :
    k0_pay3 x y a (ix2 i k) = a (ix2 i k) + k0_pay1 x y (ix2 i k) := by pointwise [k0_pay3]
theorem last_at (x y : Vec Ideal S2048x1024 .bf16) (a : Vec Ideal S1024x1024 .f32) (i k : Fin 1024) :
    k0_pay4 x y a (ix2 i k) = a (ix2 i k) + k0_pay1 x y (ix2 i k) := by pointwise [k0_pay4]

/-- A run's first point stores its product. -/
theorem acc_first (t : Fin cfg0.N) (h : t.val % 4 = 0) :
    (outsAt0 m c t.val t.isLt).2 = k0_pay2 (iblk m c 0 t) (iblk m c 1 t) := by
  rw [outsAt0_A m c t h (by omega) (by omega)]
  frame_out
/-- The next two add theirs. -/
theorem acc_step (t : Fin cfg0.N) (h : 1 ≤ t.val % 4 ∧ t.val % 4 ≤ 2) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t (by omega) h (by omega)]
  frame_out
  exact congrArg (k0_pay3 _ _) (Memref.IsWhole.read_unread _ _)
/-- The last gives the sum out. -/
theorem out_last (t : Fin cfg0.N) (h : t.val % 4 = 3) :
    (outsAt0 m c t.val t.isLt).1
      = k0_pay4 (iblk m c 0 t) (iblk m c 1 t) (outsAt0 m c (t.val - 1) (Nat.lt_of_le_of_lt (Nat.sub_le _ _) t.isLt)).2 := by
  rw [outsAt0_C m c t (by omega) (by omega) h]
  frame_out
  exact congrArg (k0_pay4 _ _) (Memref.IsWhole.read_unread _ _)

theorem part_at (t : Fin cfg0.N) (i k : Fin 1024) (q : Fin 2) (h : t.val / 4 = q) : k0_pay1 (iblk m c 0 t) (iblk m c 1 t) (ix2 i k)
    = ∑ l : Fin 2048, ax m c ⟨2048 * (t.val % 4) + l, by omega⟩ ⟨1024 * q + i, by omega⟩ * ad m c ⟨2048 * (t.val % 4) + l, by omega⟩ k := by
  rw [prod_at]
  refine Finset.sum_congr rfl fun l _ => congrArg₂ (· * ·) ?_ ?_
  · unfold ax
    blk_ext [iblk, V, idx0 t]
  · unfold ad
    blk_ext [iblk, V, idx0 t]

/-- The kernel's array: the product over all rows. -/
theorem final : (dats m 0 c).arrAt 2 cfg0.N = fun i => ∑ r, ax m c r (i 0) * ad m c r (i 1) := by
  refine (dats m 0 c).arrAt_eq_of_covers 2 _ (by decide +kernel) (fun t hf y => ?_)
  have ht := Nat.lt_of_lt_of_eq t.isLt N_0
  have h3 := (flush0_2 t).mp hf
  blk_simp [idx0 t]
  rw [after0_2]
  idx_vars y
  refine (RowSum.fold_rows (fun n h => (outsAt0 m c n h).2 (ix2 y0 y1)) (fun n h => (outsAt0 m c n h).1 (ix2 y0 y1))
    (fun n h => k0_pay1 (iblk m c 0 ⟨n, h⟩) (iblk m c 1 ⟨n, h⟩) (ix2 y0 y1)) t.val t.isLt h3
    (fun r => ax m c r ⟨1024 * (t.val / 4) + y0, by omega⟩ * ad m c r y1)
    (fun k hk h => ?_) (fun k hk h => ?_) (fun k hk h => ?_) (fun k hk h => ?_)).trans ?_
  · exact (congrFun (acc_first m c ⟨k, hk⟩ h) _).trans (first_at _ _ _ _)
  · exact (congrFun (acc_step m c ⟨k, hk⟩ h) _).trans (step_at _ _ _ _ _)
  · exact (congrFun (out_last m c ⟨k, hk⟩ h) _).trans (last_at _ _ _ _ _)
  · exact part_at m c ⟨k, hk⟩ y0 y1 ⟨t.val / 4, by omega⟩ h
  · refine Finset.sum_congr rfl fun r _ => congrArg₂ (· * ·) ?_ ?_
    · congr 1
      apply Fin.ext
      blk_simp [idx0 t]
      simp only
      omega
    · congr 1
      apply Fin.ext
      blk_simp [idx0 t]
end

section
open Cert.Reference11Ideal Cert.Reference11Ideal.Value Idealize.ShloMosaic Idealize.ShloMosaic.TcCoe Idealize.SL.Sem Idealize.ShloMosaic.StableHlo

variable (m : (ℓ : Loc nD τ sig) → Buf (Elt Ideal) ℓ) (c : Dev nD)

/-- The branch's values before its output product. -/
def rx (r : Fin 8192) (k : Fin 2048) : EReal := m ((c : Thread nD τ).loc main_arg0) (ix2 r k)
/-- The gradient that enters. -/
def rd (r : Fin 8192) (k : Fin 1024) : EReal := m ((c : Thread nD τ).loc main_arg1) (ix2 r k)

/-- The reference's array: the product over all rows. -/
theorem ref_values (ρ : Dev nD → PrngReg) :
    θ_run defs (onTc (τ := τ) (main (F := Ideal))) ⟨m, fun _ => 0, ρ⟩ fun r => ∀ c : Dev nD,
      r.2.mem ((c.tc : Thread nD τ).loc main_v6) = (fun i => ∑ r, rx m c r (i 0) * rd m c r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ?_) (Value.run m ρ)
  obtain ⟨h0, hr⟩ := h c
  refine ⟨h0.trans ?_, hr⟩
  clear h h0 hr
  funext i
  clean_types
  idx_vars i
  pointwise [rx, rd]
  exact Finset.sum_congr rfl fun _ _ => mul_comm _ _
end

open Idealize.ShloMosaic Idealize.SL.Sem

/-- The reference runs, its arguments end unchanged, and it has no semaphores. -/
theorem ref_frame : Cert.quiescent_Reference11Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel11Ideal_Reference11Ideal := by
  intro m g m' g' _ hargs
  refine ⟨fun c => (Cert.Kernel11Ideal.Gen.dats m 0 c).arrAt 2 Cert.Kernel11Ideal.cfg0.N, Cert.Kernel11Ideal.Value.run_blocks m g,
    (θ_run _ _ _).mono (fun r h c => ?_) (ref_values m' g')⟩
  obtain ⟨h0, hr⟩ := h c
  obtain ⟨a0, a1⟩ := hargs c
  have e0 : rx m' c = ax m c := funext fun i => funext fun k => congrFun a0 _
  have e1 : rd m' c = ad m c := funext fun i => funext fun k => congrFun a1 _
  refine ⟨h0.trans (Eq.trans ?_ (final m c).symm), hr⟩
  simp only [e0, e1]
  rfl

end Cert.SsmWgrad
-- ==== Proof.SsmDgrad.lean ====
module

public import proofs.«01_k».proof.Proof.Gen.Kernel12Ideal.Value
public import proofs.«01_k».proof.Proof.Gen.Reference12Ideal.Run
public import proofs.«01_k».proof.Defs
public import Idealize.ShloMosaic.Lib.Pointwise
public import Idealize.ShloMosaic.Lib.Pipeline.ValueKit
public import Idealize.ShloMosaic.Lib.Tactic.CleanTypes
public import Idealize.ShloMosaic.Lib.Quiescent

/-! The cotangent of the scan branch's values: the kernel's array and the reference's, at an index. -/

@[expose] public section

set_option maxRecDepth 16384

noncomputable section

namespace Cert.SsmDgrad

section
open Cert.Kernel12Ideal Cert.Kernel12Ideal.Gen Idealize.ShloMosaic Idealize.ShloMosaic.TcCoe Idealize.SL.Sem

variable (m : (ℓ : Loc nD τ sig) → Buf (Elt Ideal) ℓ) (c : Dev nD)

/-- The cotangent that enters. -/
def ax (r : Fin 8192) (l : Fin 1024) : EReal := m ((c : Thread nD τ).loc main_arg0) (ix2 r l)
/-- The weight's rows. -/
def aw (k : Fin 2048) (l : Fin 1024) : EReal := m ((c : Thread nD τ).loc main_arg1) (ix2 k l)

theorem idx0 : ∀ t : Fin grid0.N, win0_0.index t = ![t.val / 2, 0] ∧ win0_1.index t = ![t.val % 2, 0]
    ∧ win0_2.index t = ![t.val / 2, t.val % 2] := by decide +kernel

theorem pay_at (x : Vec Ideal S2048x1024 .bf16) (w : Vec Ideal S1024x1024 .bf16) (r : Fin 2048) (k : Fin 1024) :
    k0_pay1 x w (ix2 r k) = ∑ l, x (ix2 r l) * w (ix2 k l) := by
  pointwise [k0_pay1]

theorem point (t : Fin cfg0.N) : outsAt0 m c t = k0_pay1 (iblk m c 0 t) (iblk m c 1 t) := by
  unfold outsAt0
  frame_out

/-- The kernel's array. -/
theorem final : (dats m 0 c).arrAt 2 cfg0.N = fun i => ∑ l, ax m c (i 0) l * aw m c (i 1) l := by
  refine (dats m 0 c).arrAt_eq_of_covers 2 _ (by decide +kernel) (fun t hf y => ?_)
  have ht := Nat.lt_of_lt_of_eq t.isLt N_0
  blk_simp [idx0 t]
  rw [after0_2, point]
  idx_vars y
  refine (pay_at _ _ y0 y1).trans ?_
  unfold ax aw
  refine Finset.sum_congr rfl fun l _ => congrArg₂ (· * ·) ?_ ?_
  · blk_ext [iblk, V, idx0 t]
  · blk_ext [iblk, V, idx0 t]
end

section
open Cert.Reference12Ideal Cert.Reference12Ideal.Value Idealize.ShloMosaic Idealize.ShloMosaic.TcCoe Idealize.SL.Sem Idealize.ShloMosaic.StableHlo

variable (m : (ℓ : Loc nD τ sig) → Buf (Elt Ideal) ℓ) (c : Dev nD)

/-- The cotangent that enters. -/
def rx (r : Fin 8192) (l : Fin 1024) : EReal := m ((c : Thread nD τ).loc main_arg0) (ix2 r l)
/-- The weight's rows. -/
def rwt (k : Fin 2048) (l : Fin 1024) : EReal := m ((c : Thread nD τ).loc main_arg1) (ix2 k l)

/-- The reference's array. -/
theorem ref_values (ρ : Dev nD → PrngReg) :
    θ_run defs (onTc (τ := τ) (main (F := Ideal))) ⟨m, fun _ => 0, ρ⟩ fun r => ∀ c : Dev nD,
      r.2.mem ((c.tc : Thread nD τ).loc main_v5) = (fun i => ∑ l, rx m c (i 0) l * rwt m c (i 1) l)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ?_) (Value.run m ρ)
  obtain ⟨h0, hr⟩ := h c
  refine ⟨h0.trans ?_, hr⟩
  clear h h0 hr
  funext i
  clean_types
  idx_vars i
  pointwise [rx, rwt]
end

open Idealize.ShloMosaic Idealize.SL.Sem

/-- The reference runs, its arguments end unchanged, and it has no semaphores. -/
theorem ref_frame : Cert.quiescent_Reference12Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel12Ideal_Reference12Ideal := by
  intro m g m' g' _ hargs
  refine ⟨fun c => (Cert.Kernel12Ideal.Gen.dats m 0 c).arrAt 2 Cert.Kernel12Ideal.cfg0.N, Cert.Kernel12Ideal.Value.run_blocks m g,
    (θ_run _ _ _).mono (fun r h c => ?_) (ref_values m' g')⟩
  obtain ⟨h0, hr⟩ := h c
  obtain ⟨a0, a1⟩ := hargs c
  have e0 : rx m' c = ax m c := funext fun i => funext fun k => congrFun a0 _
  have e1 : rwt m' c = aw m c := funext fun i => funext fun k => congrFun a1 _
  refine ⟨h0.trans (Eq.trans ?_ (final m c).symm), hr⟩
  simp only [e0, e1]
  rfl

end Cert.SsmDgrad
-- ==== Proof.Proj.lean ====
module

public import proofs.«01_k».proof.Proof.Gen.Kernel13Ideal.Value
public import proofs.«01_k».proof.Proof.Gen.Reference13Ideal.Run
public import proofs.«01_k».proof.Defs
public import Idealize.ShloMosaic.Lib.Pointwise
public import Idealize.ShloMosaic.Lib.Pipeline.ValueKit
public import Idealize.ShloMosaic.Lib.Tactic.CleanTypes
public import Idealize.ShloMosaic.Lib.Quiescent

/-! The input projection: the kernel's array and the reference's, at an index. -/

@[expose] public section

set_option maxRecDepth 16384

noncomputable section

namespace Cert.Proj

/-- A column of the result, among the weight's columns. -/
def col (k : Fin 10240) : Fin 10368 := ⟨k, by omega⟩

section
open Cert.Kernel13Ideal Cert.Kernel13Ideal.Gen Idealize.ShloMosaic Idealize.ShloMosaic.TcCoe Idealize.SL.Sem

variable (m : (ℓ : Loc nD τ sig) → Buf (Elt Ideal) ℓ) (c : Dev nD)

/-- The layer's input. -/
def ax (r : Fin 8192) (l : Fin 1024) : EReal := m ((c : Thread nD τ).loc main_arg0) (ix2 r l)
/-- The weight's columns. -/
def aw (k : Fin 10368) (l : Fin 1024) : EReal := m ((c : Thread nD τ).loc main_arg1) (ix2 l k)

theorem idx0 : ∀ t : Fin grid0.N, win0_0.index t = ![t.val / 10, 0] ∧ win0_1.index t = ![0, t.val % 10]
    ∧ win0_2.index t = ![t.val / 10, t.val % 10] := by decide +kernel

theorem pay_at (x : Vec Ideal S2048x1024 .bf16) (w : Vec Ideal S1024x1024 .bf16) (r : Fin 2048) (k : Fin 1024) :
    k0_pay1 x w (ix2 r k) = ∑ l, x (ix2 r l) * w (ix2 l k) := by
  pointwise [k0_pay1]

/-- The weight's block at an index: the last blocks of the array, cut short, are not reached. -/
theorem w_at (t : Fin cfg0.N) (l k : Fin 1024) : (X0_1 m c t : Vec Ideal S1024x1024 .bf16) (ix2 l k)
    = m ((c : Thread nD τ).loc main_arg1) (ix2 l ⟨1024 * (t.val % 10) + k, by omega⟩) := by
  let j : ((cfg0.win 1).xblock (cfg0.grid.coords t)).Idx := fun a => ⟨(ix2 l k : S1024x1024.Idx) a, by
    show _ < (cfg0.win 1).xsize (cfg0.grid.coords t) a
    rw [xsize0_1 t a]
    exact ((ix2 l k : S1024x1024.Idx) a).isLt⟩
  refine ((cfg0.win 1).fill_xinj (cfg0.grid.coords t) dflt0_1 (iblk m c 1 t) j).trans ?_
  blk_ext [iblk, V, j, idx0 t]

theorem point (t : Fin cfg0.N) : outsAt0 m c t = k0_pay1 (iblk m c 0 t) (X0_1 m c t) := by
  unfold outsAt0
  frame_out

/-- The kernel's array. -/
theorem final : (dats m 0 c).arrAt 2 cfg0.N = fun i => ∑ l, ax m c (i 0) l * aw m c (col (i 1)) l := by
  refine (dats m 0 c).arrAt_eq_of_covers 2 _ (by decide +kernel) (fun t hf y => ?_)
  have ht := Nat.lt_of_lt_of_eq t.isLt N_0
  blk_simp [idx0 t]
  rw [after0_2, point]
  idx_vars y
  refine (pay_at _ _ y0 y1).trans ?_
  unfold ax aw col
  refine Finset.sum_congr rfl fun l _ => congrArg₂ (· * ·) ?_ ((w_at m c t l y1).trans ?_)
  · blk_ext [iblk, V, idx0 t]
  · blk_ext [idx0 t]
end

section
open Cert.Reference13Ideal Cert.Reference13Ideal.Value Idealize.ShloMosaic Idealize.ShloMosaic.TcCoe Idealize.SL.Sem Idealize.ShloMosaic.StableHlo

variable (m : (ℓ : Loc nD τ sig) → Buf (Elt Ideal) ℓ) (c : Dev nD)

/-- The layer's input. -/
def rx (r : Fin 8192) (l : Fin 1024) : EReal := m ((c : Thread nD τ).loc main_arg0) (ix2 r l)
/-- The weight's columns. -/
def rwt (k : Fin 10368) (l : Fin 1024) : EReal := m ((c : Thread nD τ).loc main_arg1) (ix2 l k)

/-- The reference's array. -/
theorem ref_values (ρ : Dev nD → PrngReg) :
    θ_run defs (onTc (τ := τ) (main (F := Ideal))) ⟨m, fun _ => 0, ρ⟩ fun r => ∀ c : Dev nD,
      r.2.mem ((c.tc : Thread nD τ).loc main_v4) = (fun i => ∑ l, rx m c (i 0) l * rwt m c (col (i 1)) l)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ?_) (Value.run m ρ)
  obtain ⟨h0, hr⟩ := h c
  refine ⟨h0.trans ?_, hr⟩
  clear h h0 hr
  funext i
  clean_types
  idx_vars i
  pointwise [rx, rwt, col]
end

open Idealize.ShloMosaic Idealize.SL.Sem

/-- The reference runs, its arguments end unchanged, and it has no semaphores. -/
theorem ref_frame : Cert.quiescent_Reference13Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel13Ideal_Reference13Ideal := by
  intro m g m' g' _ hargs
  refine ⟨fun c => (Cert.Kernel13Ideal.Gen.dats m 0 c).arrAt 2 Cert.Kernel13Ideal.cfg0.N, Cert.Kernel13Ideal.Value.run_blocks m g,
    (θ_run _ _ _).mono (fun r h c => ?_) (ref_values m' g')⟩
  obtain ⟨h0, hr⟩ := h c
  obtain ⟨a0, a1⟩ := hargs c
  have e0 : rx m' c = ax m c := funext fun i => funext fun k => congrFun a0 _
  have e1 : rwt m' c = aw m c := funext fun i => funext fun k => congrFun a1 _
  refine ⟨h0.trans (Eq.trans ?_ (final m c).symm), hr⟩
  simp only [e0, e1]
  rfl

end Cert.Proj
-- ==== Proof.Ff1.lean ====
module

public import proofs.«01_k».proof.Proof.Gen.Kernel14Ideal.Value
public import proofs.«01_k».proof.Proof.Gen.Reference14Ideal.Run
public import proofs.«01_k».proof.Defs
public import Idealize.ShloMosaic.Lib.Pointwise
public import Idealize.ShloMosaic.Lib.Pipeline.ValueKit
public import Idealize.ShloMosaic.Lib.Tactic.CleanTypes
public import Idealize.ShloMosaic.Lib.Quiescent

/-! The feed-forward's first product: the kernel's array and the reference's, at an index. -/

@[expose] public section

set_option maxRecDepth 16384

noncomputable section

namespace Cert.Ff1

section
open Cert.Kernel14Ideal Cert.Kernel14Ideal.Gen Idealize.ShloMosaic Idealize.ShloMosaic.TcCoe Idealize.SL.Sem

variable (m : (ℓ : Loc nD τ sig) → Buf (Elt Ideal) ℓ) (c : Dev nD)

/-- The layer's input. -/
def ax (r : Fin 8192) (l : Fin 1024) : EReal := m ((c : Thread nD τ).loc main_arg0) (ix2 r l)
/-- The weight's columns. -/
def aw (k : Fin 4096) (l : Fin 1024) : EReal := m ((c : Thread nD τ).loc main_arg1) (ix2 l k)

theorem idx0 : ∀ t : Fin grid0.N, win0_0.index t = ![t.val / 4, 0] ∧ win0_1.index t = ![0, t.val % 4]
    ∧ win0_2.index t = ![t.val / 4, t.val % 4] := by decide +kernel

theorem pay_at (x : Vec Ideal S2048x1024 .bf16) (w : Vec Ideal S1024x1024 .bf16) (r : Fin 2048) (k : Fin 1024) :
    k0_pay1 x w (ix2 r k) = ∑ l, x (ix2 r l) * w (ix2 l k) := by
  pointwise [k0_pay1]

theorem point (t : Fin cfg0.N) : outsAt0 m c t = k0_pay1 (iblk m c 0 t) (iblk m c 1 t) := by
  unfold outsAt0
  frame_out

/-- The kernel's array. -/
theorem final : (dats m 0 c).arrAt 2 cfg0.N = fun i => ∑ l, ax m c (i 0) l * aw m c (i 1) l := by
  refine (dats m 0 c).arrAt_eq_of_covers 2 _ (by decide +kernel) (fun t hf y => ?_)
  have ht := Nat.lt_of_lt_of_eq t.isLt N_0
  blk_simp [idx0 t]
  rw [after0_2, point]
  idx_vars y
  refine (pay_at _ _ y0 y1).trans ?_
  unfold ax aw
  refine Finset.sum_congr rfl fun l _ => congrArg₂ (· * ·) ?_ ?_
  · blk_ext [iblk, V, idx0 t]
  · blk_ext [iblk, V, idx0 t]
end

section
open Cert.Reference14Ideal Cert.Reference14Ideal.Value Idealize.ShloMosaic Idealize.ShloMosaic.TcCoe Idealize.SL.Sem Idealize.ShloMosaic.StableHlo

variable (m : (ℓ : Loc nD τ sig) → Buf (Elt Ideal) ℓ) (c : Dev nD)

/-- The layer's input. -/
def rx (r : Fin 8192) (l : Fin 1024) : EReal := m ((c : Thread nD τ).loc main_arg0) (ix2 r l)
/-- The weight's columns. -/
def rwt (k : Fin 4096) (l : Fin 1024) : EReal := m ((c : Thread nD τ).loc main_arg1) (ix2 l k)

/-- The reference's array. -/
theorem ref_values (ρ : Dev nD → PrngReg) :
    θ_run defs (onTc (τ := τ) (main (F := Ideal))) ⟨m, fun _ => 0, ρ⟩ fun r => ∀ c : Dev nD,
      r.2.mem ((c.tc : Thread nD τ).loc main_v3) = (fun i => ∑ l, rx m c (i 0) l * rwt m c (i 1) l)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ?_) (Value.run m ρ)
  obtain ⟨h0, hr⟩ := h c
  refine ⟨h0.trans ?_, hr⟩
  clear h h0 hr
  funext i
  clean_types
  idx_vars i
  pointwise [rx, rwt]
end

open Idealize.ShloMosaic Idealize.SL.Sem

/-- The reference runs, its arguments end unchanged, and it has no semaphores. -/
theorem ref_frame : Cert.quiescent_Reference14Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel14Ideal_Reference14Ideal := by
  intro m g m' g' _ hargs
  refine ⟨fun c => (Cert.Kernel14Ideal.Gen.dats m 0 c).arrAt 2 Cert.Kernel14Ideal.cfg0.N, Cert.Kernel14Ideal.Value.run_blocks m g,
    (θ_run _ _ _).mono (fun r h c => ?_) (ref_values m' g')⟩
  obtain ⟨h0, hr⟩ := h c
  obtain ⟨a0, a1⟩ := hargs c
  have e0 : rx m' c = ax m c := funext fun i => funext fun k => congrFun a0 _
  have e1 : rwt m' c = aw m c := funext fun i => funext fun k => congrFun a1 _
  refine ⟨h0.trans (Eq.trans ?_ (final m c).symm), hr⟩
  simp only [e0, e1]
  rfl

end Cert.Ff1
-- ==== Proof.BranchGm.lean ====
module

public import proofs.«01_k».proof.Proof.Gen.Kernel15Ideal.Value
public import proofs.«01_k».proof.Proof.Gen.Reference15Ideal.Run
public import proofs.«01_k».proof.Defs
public import Idealize.ShloMosaic.Lib.Pointwise
public import Idealize.ShloMosaic.Lib.Pipeline.ValueKit
public import Idealize.ShloMosaic.Lib.Tactic.CleanTypes
public import Idealize.ShloMosaic.Lib.Quiescent

/-! The gating branch's output product: the kernel's array and the reference's, at an index. -/

@[expose] public section

set_option maxRecDepth 16384

noncomputable section

namespace Cert.BranchGm

section
open Cert.Kernel15Ideal Cert.Kernel15Ideal.Gen Idealize.ShloMosaic Idealize.ShloMosaic.TcCoe Idealize.SL.Sem

variable (m : (ℓ : Loc nD τ sig) → Buf (Elt Ideal) ℓ) (c : Dev nD)

/-- The branch's values. -/
def ax (r : Fin 8192) (l : Fin 1024) : EReal := m ((c : Thread nD τ).loc main_arg0) (ix2 r l)
/-- The weight's columns. -/
def aw (k : Fin 1024) (l : Fin 1024) : EReal := m ((c : Thread nD τ).loc main_arg1) (ix2 l k)

theorem idx0 : ∀ t : Fin grid0.N, win0_0.index t = ![t.val, 0] ∧ win0_1.index t = ![0, 0]
    ∧ win0_2.index t = ![t.val, 0] := by decide +kernel

theorem pay_at (x : Vec Ideal S2048x1024 .bf16) (w : Vec Ideal S1024x1024 .bf16) (r : Fin 2048) (k : Fin 1024) :
    k0_pay1 x w (ix2 r k) = ∑ l, x (ix2 r l) * w (ix2 l k) := by
  pointwise [k0_pay1]

theorem point (t : Fin cfg0.N) : outsAt0 m c t = k0_pay1 (iblk m c 0 t) (iblk m c 1 t) := by
  unfold outsAt0
  frame_out

/-- The kernel's array. -/
theorem final : (dats m 0 c).arrAt 2 cfg0.N = fun i => ∑ l, ax m c (i 0) l * aw m c (i 1) l := by
  refine (dats m 0 c).arrAt_eq_of_covers 2 _ (by decide +kernel) (fun t hf y => ?_)
  have ht := Nat.lt_of_lt_of_eq t.isLt N_0
  blk_simp [idx0 t]
  rw [after0_2, point]
  idx_vars y
  refine (pay_at _ _ y0 y1).trans ?_
  unfold ax aw
  refine Finset.sum_congr rfl fun l _ => congrArg₂ (· * ·) ?_ ?_
  · blk_ext [iblk, V, idx0 t]
  · blk_ext [iblk, V, idx0 t]
end

section
open Cert.Reference15Ideal Cert.Reference15Ideal.Value Idealize.ShloMosaic Idealize.ShloMosaic.TcCoe Idealize.SL.Sem Idealize.ShloMosaic.StableHlo

variable (m : (ℓ : Loc nD τ sig) → Buf (Elt Ideal) ℓ) (c : Dev nD)

/-- The branch's values. -/
def rx (r : Fin 8192) (l : Fin 1024) : EReal := m ((c : Thread nD τ).loc main_arg0) (ix2 r l)
/-- The weight's columns. -/
def rwt (k : Fin 1024) (l : Fin 1024) : EReal := m ((c : Thread nD τ).loc main_arg1) (ix2 l k)

/-- The reference's array. -/
theorem ref_values (ρ : Dev nD → PrngReg) :
    θ_run defs (onTc (τ := τ) (main (F := Ideal))) ⟨m, fun _ => 0, ρ⟩ fun r => ∀ c : Dev nD,
      r.2.mem ((c.tc : Thread nD τ).loc main_v3) = (fun i => ∑ l, rx m c (i 0) l * rwt m c (i 1) l)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ?_) (Value.run m ρ)
  obtain ⟨h0, hr⟩ := h c
  refine ⟨h0.trans ?_, hr⟩
  clear h h0 hr
  funext i
  clean_types
  idx_vars i
  pointwise [rx, rwt]
end

open Idealize.ShloMosaic Idealize.SL.Sem

/-- The reference runs, its arguments end unchanged, and it has no semaphores. -/
theorem ref_frame : Cert.quiescent_Reference15Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel15Ideal_Reference15Ideal := by
  intro m g m' g' _ hargs
  refine ⟨fun c => (Cert.Kernel15Ideal.Gen.dats m 0 c).arrAt 2 Cert.Kernel15Ideal.cfg0.N, Cert.Kernel15Ideal.Value.run_blocks m g,
    (θ_run _ _ _).mono (fun r h c => ?_) (ref_values m' g')⟩
  obtain ⟨h0, hr⟩ := h c
  obtain ⟨a0, a1⟩ := hargs c
  have e0 : rx m' c = ax m c := funext fun i => funext fun k => congrFun a0 _
  have e1 : rwt m' c = aw m c := funext fun i => funext fun k => congrFun a1 _
  refine ⟨h0.trans (Eq.trans ?_ (final m c).symm), hr⟩
  simp only [e0, e1]
  rfl

end Cert.BranchGm
-- ==== Proof.SsmMix.lean ====
module

public import proofs.«01_k».proof.Proof.Gen.Kernel16Ideal.Value
public import proofs.«01_k».proof.Proof.Gen.Reference16Ideal.Run
public import proofs.«01_k».proof.Defs
public import proofs.«01_k».proof.Proof.MixBwd
public import proofs.«01_k».proof.Proof.Ff1Dgrad
public import Idealize.ShloMosaic.Lib.Pointwise
public import Idealize.ShloMosaic.Lib.Pipeline.ValueKit
public import Idealize.ShloMosaic.Lib.Tactic.CleanTypes
public import Idealize.ShloMosaic.Lib.Quiescent

/-! The recurrence branch's product, and the mixture of the two branches under their sigmoid gates: the kernel's two
arrays and the reference's, at an index. -/

@[expose] public section

set_option maxRecDepth 16384

noncomputable section

namespace Cert.SsmMix

section
open Idealize.ShloMosaic

/-- The branch: a row against a column of the weight. -/
def br (y : Fin 2048 → EReal) (w : Fin 2048 → Fin 1024 → EReal) (k : Fin 1024) : EReal := ∑ l, y l * w l k
/-- The mixture of the two branches, each under its gate. -/
def mix (y : Fin 2048 → EReal) (w : Fin 2048 → Fin 1024 → EReal) (ga gb a : Fin 1024 → EReal) (k : Fin 1024) : EReal :=
  Ideal.logistic (ga k) * a k + Ideal.logistic (gb k) * br y w k
end

section
open Cert.Kernel16Ideal Cert.Kernel16Ideal.Gen Cert.Ff1Dgrad Cert.MixBwd Idealize.ShloMosaic Idealize.ShloMosaic.TcCoe Idealize.SL.Sem

section
variable (x0 : Vec Ideal S512x2048 .bf16) (x1 : Vec Ideal S2048x1024 .bf16) (x2 x3 x4 : Vec Ideal S512x1024 .bf16)
  (r : Fin 512) (k : Fin 1024)

theorem pay1_at : k0_pay1 x0 x1 (ix2 r k) = br (row x0 r) (row x1) k := by pointwise [k0_pay1, br, row]
theorem pay2_at : k0_pay2 x0 x1 x2 x3 x4 (ix2 r k) = mix (row x0 r) (row x1) (row x2 r) (row x3 r) (row x4 r) k := by
  pointwise [k0_pay2, pay1_at, mix, row]
theorem pay3_at : k0_pay3 x0 x1 (ix2 r k) = br (row x0 r) (row x1) k := by pointwise [k0_pay3, pay1_at]
end

variable (m : (ℓ : Loc nD τ sig) → Buf (Elt Ideal) ℓ) (c : Dev nD)

/-- The recurrence's gated output. -/
def ayb (r : Fin 8192) (k : Fin 2048) : EReal := m ((c : Thread nD τ).loc main_arg0) (ix2 r k)
/-- The branch's weight. -/
def aw (r : Fin 2048) (k : Fin 1024) : EReal := m ((c : Thread nD τ).loc main_arg1) (ix2 r k)
/-- The projection the gates lie in. -/
def ap (r : Fin 8192) (k : Fin 10240) : EReal := m ((c : Thread nD τ).loc main_arg2) (ix2 r k)
/-- The first branch. -/
def aa (r : Fin 8192) (k : Fin 1024) : EReal := m ((c : Thread nD τ).loc main_arg3) (ix2 r k)

/-- Row `r` of point `t`'s blocks, among the array's rows. -/
def arow (t : Fin cfg0.N) (r : Fin 512) : Fin 8192 := ⟨512 * t.val + r, by have := Nat.lt_of_lt_of_eq t.isLt N_0; omega⟩

theorem idx0 : ∀ t : Fin grid0.N, win0_0.index t = ![t.val, 0] ∧ win0_1.index t = ![0, 0] ∧ win0_2.index t = ![t.val, 8]
    ∧ win0_3.index t = ![t.val, 9] ∧ win0_4.index t = ![t.val, 0] ∧ win0_5.index t = ![t.val, 0] ∧ win0_6.index t = ![t.val, 0] := by
  decide +kernel

section
variable (t : Fin cfg0.N) (r : Fin 512)

theorem blk0 : row (iblk m c 0 t) r = ayb m c (arow t r) := by
  funext k
  unfold row ayb
  blk_ext [iblk, V, arow, idx0 t]
theorem blk1 : row (iblk m c 1 t) = aw m c := by
  funext j k
  unfold row aw
  blk_ext [iblk, V, idx0 t]
theorem blk2 : row (iblk m c 2 t) r = fun k => ap m c (arow t r) (gcol k) := by
  funext k
  unfold row ap
  blk_ext [iblk, V, arow, gcol, idx0 t]
theorem blk3 : row (iblk m c 3 t) r = fun k => ap m c (arow t r) (hcol k) := by
  funext k
  unfold row ap
  blk_ext [iblk, V, arow, hcol, idx0 t]
theorem blk4 : row (iblk m c 4 t) r = aa m c (arow t r) := by
  funext k
  unfold row aa
  blk_ext [iblk, V, arow, idx0 t]

theorem point5 : (outsAt0 m c t).1 = k0_pay2 (iblk m c 0 t) (iblk m c 1 t) (iblk m c 2 t) (iblk m c 3 t) (iblk m c 4 t) := by
  unfold outsAt0
  frame_out
theorem point6 : (outsAt0 m c t).2 = k0_pay3 (iblk m c 0 t) (iblk m c 1 t) := by
  unfold outsAt0
  frame_out
end

/-- The mixture. -/
theorem final_mix : (dats m 0 c).arrAt 5 cfg0.N
    = fun i => mix (ayb m c (i 0)) (aw m c) (fun k => ap m c (i 0) (gcol k)) (fun k => ap m c (i 0) (hcol k)) (aa m c (i 0)) (i 1) := by
  refine (dats m 0 c).arrAt_eq_of_covers 5 _ (by decide +kernel) (fun t hf y => ?_)
  blk_simp [idx0 t]
  rw [after0_5, point5]
  idx_vars y
  have e0 : (((View.whole main_v0_0).slice (win0_5.rect t)).emb (ix2 y0 y1) 0 : Fin 8192) = arow t y0 := Fin.ext (by
    blk_simp [idx0 t]
    simp only [arow]
    omega)
  have e1 : (((View.whole main_v0_0).slice (win0_5.rect t)).emb (ix2 y0 y1) 1 : Fin 1024) = y1 := Fin.ext (by blk_simp [idx0 t])
  rw [pay2_at, blk0, blk1, blk2, blk3, blk4]
  exact congrArg₂ (fun r k => mix (ayb m c r) (aw m c) (fun k => ap m c r (gcol k)) (fun k => ap m c r (hcol k)) (aa m c r) k) e0.symm e1.symm

/-- The branch. -/
theorem final_br : (dats m 0 c).arrAt 6 cfg0.N
    = fun i => br (ayb m c (i 0)) (aw m c) (i 1) := by
  refine (dats m 0 c).arrAt_eq_of_covers 6 _ (by decide +kernel) (fun t hf y => ?_)
  blk_simp [idx0 t]
  rw [after0_6, point6]
  idx_vars y
  have e0 : (((View.whole main_v0_1).slice (win0_6.rect t)).emb (ix2 y0 y1) 0 : Fin 8192) = arow t y0 := Fin.ext (by
    blk_simp [idx0 t]
    simp only [arow]
    omega)
  have e1 : (((View.whole main_v0_1).slice (win0_6.rect t)).emb (ix2 y0 y1) 1 : Fin 1024) = y1 := Fin.ext (by blk_simp [idx0 t])
  rw [pay3_at, blk0, blk1]
  exact congrArg₂ (fun r k => br (ayb m c r) (aw m c) k) e0.symm e1.symm

end

section
open Cert.Reference16Ideal Cert.Reference16Ideal.Value Cert.MixBwd Idealize.ShloMosaic Idealize.ShloMosaic.TcCoe Idealize.SL.Sem Idealize.ShloMosaic.StableHlo

variable (m : (ℓ : Loc nD τ sig) → Buf (Elt Ideal) ℓ) (c : Dev nD)

/-- The recurrence's gated output. -/
def ryb (r : Fin 8192) (k : Fin 2048) : EReal := m ((c : Thread nD τ).loc main_arg0) (ix2 r k)
/-- The branch's weight. -/
def rwt (r : Fin 2048) (k : Fin 1024) : EReal := m ((c : Thread nD τ).loc main_arg1) (ix2 r k)
/-- The projection the gates lie in. -/
def rp (r : Fin 8192) (k : Fin 10240) : EReal := m ((c : Thread nD τ).loc main_arg2) (ix2 r k)
/-- The first branch. -/
def ra (r : Fin 8192) (k : Fin 1024) : EReal := m ((c : Thread nD τ).loc main_arg3) (ix2 r k)

/-- The reference's arrays. -/
theorem ref_values (ρ : Dev nD → PrngReg) :
    θ_run defs (onTc (τ := τ) (main (F := Ideal))) ⟨m, fun _ => 0, ρ⟩ fun r => ∀ c : Dev nD,
      (r.2.mem ((c.tc : Thread nD τ).loc main_v22) = fun i => mix (ryb m c (i 0)) (rwt m c) (fun k => rp m c (i 0) (gcol k)) (fun k => rp m c (i 0) (hcol k)) (ra m c (i 0)) (i 1))
      ∧ (r.2.mem ((c.tc : Thread nD τ).loc main_v23) = fun i => br (ryb m c (i 0)) (rwt m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun _ h c => ?_) (Value.run m ρ)
  obtain ⟨h0, h1, hr⟩ := h c
  refine ⟨h0.trans ?_, h1.trans ?_, hr⟩
  · clear h h0 h1 hr
    funext i
    clean_types
    idx_vars i
    pointwise [mix, br, ryb, rwt, rp, ra, gcol, hcol]
    rfl
  · clear h h0 h1 hr
    funext i
    clean_types
    idx_vars i
    pointwise [br, ryb, rwt]
end

open Idealize.ShloMosaic Idealize.SL.Sem

/-- The reference runs, its arguments end unchanged, and it has no semaphores. -/
theorem ref_frame : Cert.quiescent_Reference16Ideal := fun m g _ =>
  (θ_run _ _ _).mono (fun r h => ⟨fun c => (h c).2.2, sem_eq_zero_of_no_sems rfl r.2⟩) (ref_values m g)

/-- The kernel's results and the reference's are the same arrays at every input. -/
theorem algebraic : Cert.algebraic_Kernel16Ideal_Reference16Ideal := by
  intro m g m' g' _ hargs
  refine ⟨fun c => (Cert.Kernel16Ideal.Gen.dats m 0 c).arrAt 5 Cert.Kernel16Ideal.cfg0.N,
    fun c => (Cert.Kernel16Ideal.Gen.dats m 0 c).arrAt 6 Cert.Kernel16Ideal.cfg0.N, Cert.Kernel16Ideal.Value.run_blocks m g,
    (θ_run _ _ _).mono (fun r h c => ?_) (ref_values m' g')⟩
  obtain ⟨h0, h1, hr⟩ := h c
  obtain ⟨a0, a1, a2, a3⟩ := hargs c
  have e0 : ryb m' c = ayb m c := funext fun i => funext fun k => congrFun a0 _
  have e1 : rwt m' c = aw m c := funext fun i => funext fun k => congrFun a1 _
  have e2 : rp m' c = ap m c := funext fun i => funext fun k => congrFun a2 _
  have e3 : ra m' c = aa m c := funext fun i => funext fun k => congrFun a3 _
  simp only [e0, e1, e2, e3] at h0 h1
  exact ⟨h0.trans (final_mix m c).symm, h1.trans (final_br m c).symm, hr⟩

end Cert.SsmMix
-- ==== Proof.OutRes.lean ====
module

public import proofs.«01_k».proof.Proof.Gen.Kernel17Ideal.Value
public import proofs.«01_k».proof.Proof.Gen.Reference17Ideal.Run
public import proofs.«01_k».proof.Defs
public import proofs.«01_k».proof.Proof.Ff1Dgrad
public import Idealize.ShloMosaic.Lib.Pointwise
public import Idealize.ShloMosaic.Lib.Pipeline.ValueKit
public import Idealize.ShloMosaic.Lib.Tactic.CleanTypes
public import Idealize.ShloMosaic.Lib.Quiescent

/-! The output projection, the gated residual and the modulated norm that feeds the feed-forward: the kernel's three
arrays and the reference's, at an index. -/

@[expose] public section

set_option maxRecDepth 16384

noncomputable section

namespace Cert.OutRes

section
open Idealize.ShloMosaic Cert.Ff1Dgrad

/-- The output projection: a row against a column of the weight. -/
def prod (d : Fin 1024 → EReal) (w : Fin 1024 → Fin 1024 → EReal) (k : Fin 1024) : EReal := ∑ l, d l * w l k
/-- The gated residual, normalised, scaled and shifted. -/
def modn (x o g sc sh : Fin 1024 → EReal) (k : Fin 1024) : EReal := res x o g k * rs x o g * (1 + sc k) + sh k
end

section
open Cert.Kernel17Ideal Cert.Kernel17Ideal.Gen Cert.Ff1Dgrad Idealize.ShloMosaic Idealize.ShloMosaic.TcCoe Idealize.SL.Sem

section
variable (x0 : Vec Ideal S512x1024 .bf16) (x1 : Vec Ideal S1024x1024 .bf16) (x2 : Vec Ideal S512x1024 .f32)
  (x3 x4 x5 : Vec Ideal S1x1024 .f32) (r : Fin 512) (k : Fin 1024)

theorem pay1_at : k0_pay1 x0 x1 (ix2 r k) = prod (row x0 r) (row x1) k := by pointwise [k0_pay1, prod, row]
theorem pay2_at : k0_pay2 x0 x1 x2 x3 (ix2 r k) = res (row x2 r) (prod (row x0 r) (row x1)) (row x3 0) k := by
  pointwise [k0_pay2, pay1_at, res, row]
theorem pay3_at : k0_pay3 x0 x1 x2 x3 x4 x5 (ix2 r k)
    = modn (row x2 r) (prod (row x0 r) (row x1)) (row x3 0) (row x4 0) (row x5 0) k := by
  pointwise [k0_pay3, pay2_at, modn, rs, ms, row]
end

variable (m : (ℓ : Loc nD τ sig) → Buf (Elt Ideal) ℓ) (c : Dev nD)

/-- The mixture of the branches. -/
def amx (r : Fin 8192) (k : Fin 1024) : EReal := m ((c : Thread nD τ).loc main_arg0) (ix2 r k)
/-- The output projection's weight. -/
def aw (r : Fin 1024) (k : Fin 1024) : EReal := m ((c : Thread nD τ).loc main_arg1) (ix2 r k)
/-- The residual stream. -/
def ax (r : Fin 8192) (k : Fin 1024) : EReal := m ((c : Thread nD τ).loc main_arg2) (ix2 r k)
/-- The gate. -/
def ag (k : Fin 1024) : EReal := m ((c : Thread nD τ).loc main_arg3) (ix2 0 k)
/-- The scale. -/
def asc (k : Fin 1024) : EReal := m ((c : Thread nD τ).loc main_arg4) (ix2 0 k)
/-- The shift. -/
def ash (k : Fin 1024) : EReal := m ((c : Thread nD τ).loc main_arg5) (ix2 0 k)

/-- Row `r` of point `t`'s blocks, among the array's rows. -/
def arow (t : Fin cfg0.N) (r : Fin 512) : Fin 8192 := ⟨512 * t.val + r, by have := Nat.lt_of_lt_of_eq t.isLt N_0; omega⟩

theorem idx0 : ∀ t : Fin grid0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] := by decide +kernel

section
variable (t : Fin cfg0.N) (r : Fin 512)

theorem blk0 : row (iblk m c 0 t) r = amx m c (arow t r) := by
  funext k
  unfold row amx
  blk_ext [iblk, V, arow, idx0 t]
theorem blk1 : row (iblk m c 1 t) = aw m c := by
  funext j k
  unfold row aw
  blk_ext [iblk, V, idx0 t]
theorem blk2 : row (iblk m c 2 t) r = ax m c (arow t r) := by
  funext k
  unfold row ax
  blk_ext [iblk, V, arow, idx0 t]
theorem blk3 : row (iblk m c 3 t) 0 = ag m c := by
  funext k
  unfold row ag
  blk_ext [iblk, V, idx0 t]
theorem blk4 : row (iblk m c 4 t) 0 = asc m c := by
  funext k
  unfold row asc
  blk_ext [iblk, V, idx0 t]
theorem blk5 : row (iblk m c 5 t) 0 = ash m c := by
  funext k
  unfold row ash
  blk_ext [iblk, V, idx0 t]

theorem point6 : (outsAt0 m c t).1 = k0_pay2 (iblk m c 0 t) (iblk m c 1 t) (iblk m c 2 t) (iblk m c 3 t) := by
  unfold outsAt0
  frame_out
theorem point7 : (outsAt0 m c t).2.1
    = k0_pay3 (iblk m c 0 t) (iblk m c 1 t) (iblk m c 2 t) (iblk m c 3 t) (iblk m c 4 t) (iblk m c 5 t) := by
  unfold outsAt0
  frame_out
theorem point8 : (outsAt0 m c t).2.2 = k0_pay1 (iblk m c 0 t) (iblk m c 1 t) := by
  unfold outsAt0
  frame_out
end

/-- The gated residual. -/
theorem final_x : (dats m 0 c).arrAt 6 cfg0.N
    = fun i => res (ax m c (i 0)) (prod (amx m c (i 0)) (aw m c)) (ag m c) (i 1) := by
  refine (dats m 0 c).arrAt_eq_of_covers 6 _ (by decide +kernel) (fun t hf y => ?_)
  blk_simp [idx0 t]
  rw [after0_6, point6]
  idx_vars y
  have e0 : (((View.whole main_v0_0).slice (win0_6.rect t)).emb (ix2 y0 y1) 0 : Fin 8192) = arow t y0 := Fin.ext (by
    blk_simp [idx0 t]
    simp only [arow]
    omega)
  have e1 : (((View.whole main_v0_0).slice (win0_6.rect t)).emb (ix2 y0 y1) 1 : Fin 1024) = y1 := Fin.ext (by blk_simp [idx0 t])
  rw [pay2_at, blk0, blk1, blk2, blk3]
  exact congrArg₂ (fun r k => res (ax m c r) (prod (amx m c r) (aw m c)) (ag m c) k) e0.symm e1.symm

/-- The modulated norm. -/
theorem final_h : (dats m 0 c).arrAt 7 cfg0.N
    = fun i => modn (ax m c (i 0)) (prod (amx m c (i 0)) (aw m c)) (ag m c) (asc m c) (ash m c) (i 1) := by
  refine (dats m 0 c).arrAt_eq_of_covers 7 _ (by decide +kernel) (fun t hf y => ?_)
  blk_simp [idx0 t]
  rw [after0_7, point7]
  idx_vars y
  have e0 : (((View.whole main_v0_1).slice (win0_7.rect t)).emb (ix2 y0 y1) 0 : Fin 8192) = arow t y0 := Fin.ext (by
    blk_simp [idx0 t]
    simp only [arow]
    omega)
  have e1 : (((View.whole main_v0_1).slice (win0_7.rect t)).emb (ix2 y0 y1) 1 : Fin 1024) = y1 := Fin.ext (by blk_simp [idx0 t])
  rw [pay3_at, blk0, blk1, blk2, blk3, blk4, blk5]
  exact congrArg₂ (fun r k => modn (ax m c r) (prod (amx m c r) (aw m c)) (ag m c) (asc m c) (ash m c) k) e0.symm e1.symm

/-- The output projection. -/
theorem final_o : (dats m 0 c).arrAt 8 cfg0.N
    = fun i => prod (amx m c (i 0)) (aw m c) (i 1) := by
  refine (dats m 0 c).arrAt_eq_of_covers 8 _ (by decide +kernel) (fun t hf y => ?_)
  blk_simp [idx0 t]
  rw [after0_8, point8]
  idx_vars y
  have e0 : (((View.whole main_v0_2).slice (win0_8.rect t)).emb (ix2 y0 y1) 0 : Fin 8192) = arow t y0 := Fin.ext (by
    blk_simp [idx0 t]
    simp only [arow]
    omega)
  have e1 : (((View.whole main_v0_2).slice (win0_8.rect t)).emb (ix2 y0 y1) 1 : Fin 1024) = y1 := Fin.ext (by blk_simp [idx0 t])
  rw [pay1_at, blk0, blk1]
  exact congrArg₂ (fun r k => prod (amx m c r) (aw m c) k) e0.symm e1.symm

end

section
open Cert.Reference17Ideal Cert.Reference17Ideal.Value Cert.Ff1Dgrad Idealize.ShloMosaic Idealize.ShloMosaic.TcCoe Idealize.SL.Sem Idealize.ShloMosaic.StableHlo

variable (m : (ℓ : Loc nD τ sig) → Buf (Elt Ideal) ℓ) (c : Dev nD)

/-- The mixture of the branches. -/
def rmx (r : Fin 8192) (k : Fin 1024) : EReal := m ((c : Thread nD τ).loc main_arg0) (ix2 r k)
/-- The output projection's weight. -/
def rwt (r : Fin 1024) (k : Fin 1024) : EReal := m ((c : Thread nD τ).loc main_arg1) (ix2 r k)
/-- The residual stream. -/
def rx (r : Fin 8192) (k : Fin 1024) : EReal := m ((c : Thread nD τ).loc main_arg2) (ix2 r k)
/-- The gate. -/
def rg (k : Fin 1024) : EReal := m ((c : Thread nD τ).loc main_arg3) (ix2 0 k)
/-- The scale. -/
def rsc (k : Fin 1024) : EReal := m ((c : Thread nD τ).loc main_arg4) (ix2 0 k)
/-- The shift. -/
def rsh (k : Fin 1024) : EReal := m ((c : Thread nD τ).loc main_arg5) (ix2 0 k)

/-- The reference's arrays. -/
theorem ref_values (ρ : Dev nD → PrngReg) :
    θ_run defs (onTc (τ := τ) (main (F := Ideal))) ⟨m, fun _ => 0, ρ⟩ fun r => ∀ c : Dev nD,
      (r.2.mem ((c.tc : Thread nD τ).loc main_v5) = fun i => res (rx m c (i 0)) (prod (rmx m c (i 0)) (rwt m c)) (rg m c) (i 1))
      ∧ (r.2.mem ((c.tc : Thread nD τ).loc main_v24) = fun i => modn (rx m c (i 0)) (prod (rmx m c (i 0)) (rwt m c)) (rg m c) (rsc m c) (rsh m c) (i 1))
      ∧ (r.2.mem ((c.tc : Thread nD τ).loc main_v2) = fun i => prod (rmx m c (i 0)) (rwt m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun _ h c => ?_) (Value.run m ρ)
  obtain ⟨h0, h1, h2, hr⟩ := h c
  refine ⟨h0.trans ?_, h1.trans ?_, h2.trans ?_, hr⟩
  · clear h h0 h1 h2 hr
    funext i
    clean_types
    idx_vars i
    pointwise [res, prod, rmx, rwt, rx, rg]
  · clear h h0 h1 h2 hr
    funext i
    clean_types
    idx_vars i
    pointwise [modn, rs, ms, res, prod, rmx, rwt, rx, rg, rsc, rsh]
  · clear h h0 h1 h2 hr
    funext i
    clean_types
    idx_vars i
    pointwise [prod, rmx, rwt]
end

open Idealize.ShloMosaic Idealize.SL.Sem

/-- The reference runs, its arguments end unchanged, and it has no semaphores. -/
theorem ref_frame : Cert.quiescent_Reference17Ideal := fun m g _ =>
  (θ_run _ _ _).mono (fun r h => ⟨fun c => (h c).2.2.2, sem_eq_zero_of_no_sems rfl r.2⟩) (ref_values m g)

/-- The kernel's results and the reference's are the same arrays at every input. -/
theorem algebraic : Cert.algebraic_Kernel17Ideal_Reference17Ideal := by
  intro m g m' g' _ hargs
  refine ⟨fun c => (Cert.Kernel17Ideal.Gen.dats m 0 c).arrAt 6 Cert.Kernel17Ideal.cfg0.N,
    fun c => (Cert.Kernel17Ideal.Gen.dats m 0 c).arrAt 7 Cert.Kernel17Ideal.cfg0.N,
    fun c => (Cert.Kernel17Ideal.Gen.dats m 0 c).arrAt 8 Cert.Kernel17Ideal.cfg0.N, Cert.Kernel17Ideal.Value.run_blocks m g,
    (θ_run _ _ _).mono (fun r h c => ?_) (ref_values m' g')⟩
  obtain ⟨h0, h1, h2, hr⟩ := h c
  obtain ⟨a0, a1, a2, a3, a4, a5⟩ := hargs c
  have e0 : rmx m' c = amx m c := funext fun i => funext fun k => congrFun a0 _
  have e1 : rwt m' c = aw m c := funext fun i => funext fun k => congrFun a1 _
  have e2 : rx m' c = ax m c := funext fun i => funext fun k => congrFun a2 _
  have e3 : rg m' c = ag m c := funext fun k => congrFun a3 _
  have e4 : rsc m' c = asc m c := funext fun k => congrFun a4 _
  have e5 : rsh m' c = ash m c := funext fun k => congrFun a5 _
  simp only [e0, e1, e2, e3, e4, e5] at h0 h1 h2
  exact ⟨h0.trans (final_x m c).symm, h1.trans (final_h m c).symm, h2.trans (final_o m c).symm, hr⟩

end Cert.OutRes
-- ==== Proof.ModBwd.lean ====
module

public import proofs.«01_k».proof.Proof.Gen.Kernel18Ideal.Value
public import proofs.«01_k».proof.Proof.Gen.Reference18Ideal.Run
public import proofs.«01_k».proof.Defs
public import proofs.«01_k».proof.Proof.Ff1Dgrad
public import Idealize.ShloMosaic.Lib.Pointwise
public import Idealize.ShloMosaic.Lib.Pipeline.ValueKit
public import Idealize.ShloMosaic.Lib.Tactic.CleanTypes
public import Idealize.ShloMosaic.Lib.Quiescent

/-! The gradient of the modulated norm that feeds the mixer: the kernel's three arrays and the reference's, at an index. -/

@[expose] public section

set_option maxRecDepth 16384

noncomputable section

namespace Cert.ModBwd

section
open Idealize.ShloMosaic

variable (x d d1 sc : Fin 1024 → EReal)

/-- A row's mean square, with the norm's small constant. -/
def ms : EReal := Ideal.div (∑ k, x k * x k) (Ideal.ofBits .f32 0x44800000#32) + Ideal.ofBits .f32 0x358637BD#32
/-- The reciprocal of its root mean square. -/
def rs : EReal := Ideal.rsqrt (ms x)
/-- The gradient at the normalised row. -/
def dn (k : Fin 1024) : EReal := d k * (1 + sc k)
/-- The gradient at each square of the row. -/
def dms : EReal := Ideal.div ((∑ k, x k * dn d sc k)
  * (Ideal.ofBits .f32 0xBF000000#32 * Ideal.div (rs x) (ms x))) (Ideal.ofBits .f32 0x44800000#32)
/-- The gradient at the residual stream. -/
def dx (k : Fin 1024) : EReal := d1 k + dn d sc k * rs x + x k * dms x d sc + dms x d sc * x k
/-- A row's part of the scale's gradient. -/
def dsc (k : Fin 1024) : EReal := x k * rs x * d k
end

section
open Cert.Kernel18Ideal Cert.Kernel18Ideal.Gen Idealize.ShloMosaic Idealize.ShloMosaic.TcCoe Idealize.SL.Sem
open Cert.Ff1Dgrad (row)

section
variable (x0 : Vec Ideal S256x1024 .f32) (x1 : Vec Ideal S256x1024 .bf16) (x2 : Vec Ideal S256x1024 .f32)
  (x3 a : Vec Ideal S1x1024 .f32) (r : Fin 256) (k : Fin 1024) (z : Fin 1)

theorem pay7_at : k0_pay7 x0 (ix2 r 0) = ms (row x0 r) := by pointwise [k0_pay7, ms, row]
theorem pay8_at : k0_pay8 x0 (ix2 r 0) = rs (row x0 r) := by pointwise [k0_pay8, pay7_at, rs]
theorem pay11_at : k0_pay11 x1 x3 (ix2 r k) = dn (row x1 r) (row x3 0) k := by pointwise [k0_pay11, k0_pay6, dn, row]
theorem pay12_at : k0_pay12 x0 x1 x3 (ix2 r k) = dms (row x0 r) (row x1 r) (row x3 0) := by
  pointwise [k0_pay12, pay7_at, pay8_at, pay11_at, dms, row]
  simp only [Fin.sum_univ_one, pay7_at, pay8_at]

/-- What a point stores of the residual stream's gradient. -/
def dxBlk : Vec Ideal S256x1024 .f32 := k0_pay1 x2 (k0_pay13 x0 x1 x3) (k0_pay14 x0 x1 x3)

theorem dxBlk_at : dxBlk x0 x1 x2 x3 (ix2 r k) = dx (row x0 r) (row x1 r) (row x2 r) (row x3 0) k := by
  pointwise [dxBlk, k0_pay1, k0_pay13, k0_pay14, pay8_at, pay11_at, pay12_at, dx]
  rw [add_comm, ← add_assoc, ← add_assoc]
  rfl

theorem dscStep_at : k0_pay4 (k0_pay10 x0 x1) a (ix2 z k) = a (ix2 z k) + ∑ r, dsc (row x0 r) (row x1 r) k := by
  pointwise [k0_pay4, k0_pay10, k0_pay6, pay8_at, dsc, row]
theorem dshStep_at : k0_pay5 (k0_pay9 x1) a (ix2 z k) = a (ix2 z k) + ∑ r, row x1 r k := by
  pointwise [k0_pay5, k0_pay9, k0_pay6, row]
theorem zero2_at : k0_pay2 (F := Ideal) (ix2 z k) = 0 := by pointwise [k0_pay2]
theorem zero3_at : k0_pay3 (F := Ideal) (ix2 z k) = 0 := by pointwise [k0_pay3]
end

variable (m : (ℓ : Loc nD τ sig) → Buf (Elt Ideal) ℓ) (c : Dev nD)

/-- The residual stream. -/
def ax (r : Fin 8192) (k : Fin 1024) : EReal := m ((c : Thread nD τ).loc main_arg0) (ix2 r k)
/-- The gradient at the modulated row. -/
def ad (r : Fin 8192) (k : Fin 1024) : EReal := m ((c : Thread nD τ).loc main_arg1) (ix2 r k)
/-- The gradient that enters along the residual stream. -/
def adx (r : Fin 8192) (k : Fin 1024) : EReal := m ((c : Thread nD τ).loc main_arg2) (ix2 r k)
/-- The scale. -/
def asc (k : Fin 1024) : EReal := m ((c : Thread nD τ).loc main_arg3) (ix2 0 k)

/-- Row `r` of point `t`'s blocks, among the array's rows. -/
def arow (t : Fin cfg0.N) (r : Fin 256) : Fin 8192 := ⟨256 * t.val + r, by have := Nat.lt_of_lt_of_eq t.isLt N_0; omega⟩

/-- The grid's last point. -/
def tlast : Fin grid0.N := ⟨31, by rw [N_0]; decide⟩
theorem tlast_last : tlast.val + 1 = grid0.N := N_0.symm

theorem idx0 : ∀ t : Fin grid0.N, win0_0.index t = ![t.val, 0] ∧ win0_1.index t = ![t.val, 0] ∧ win0_2.index t = ![t.val, 0]
    ∧ win0_3.index t = ![0, 0] ∧ win0_5.index t = ![t.val, 0] := by decide +kernel

section
variable (t : Fin cfg0.N) (r : Fin 256)

theorem blk0 : row (iblk m c 0 t) r = ax m c (arow t r) := by
  funext k
  unfold row ax
  blk_ext [iblk, V, arow, idx0 t]
theorem blk1 : row (iblk m c 1 t) r = ad m c (arow t r) := by
  funext k
  unfold row ad
  blk_ext [iblk, V, arow, idx0 t]
theorem blk2 : row (iblk m c 2 t) r = adx m c (arow t r) := by
  funext k
  unfold row adx
  blk_ext [iblk, V, arow, idx0 t]
theorem blk3 : row (iblk m c 3 t) 0 = asc m c := by
  funext k
  unfold row asc
  blk_ext [iblk, V, idx0 t]

theorem point_dx : (outsAt0 m c t.val t.isLt).1 = dxBlk (iblk m c 0 t) (iblk m c 1 t) (iblk m c 2 t) (iblk m c 3 t) := by
  unfold dxBlk
  by_cases h : t.val % 32 = 0
  · rw [outsAt0_A m c t h]
    frame_out
  · rw [outsAt0_B m c t h]
    frame_out

theorem dsc_reset (h : t.val % 32 = 0) : (outsAt0 m c t.val t.isLt).2.1
    = k0_pay4 (k0_pay10 (iblk m c 0 t) (iblk m c 1 t)) (k0_pay2 (F := Ideal)) := by
  rw [outsAt0_A m c t h]
  frame_out
theorem dsc_step (h : ¬t.val % 32 = 0) : (outsAt0 m c t.val t.isLt).2.1
    = k0_pay4 (k0_pay10 (iblk m c 0 t) (iblk m c 1 t))
      (outsAt0 m c (t.val - 1) (Nat.lt_of_le_of_lt (Nat.sub_le _ _) t.isLt)).2.1 := by
  rw [outsAt0_B m c t h]
  frame_out
theorem dsh_reset (h : t.val % 32 = 0) : (outsAt0 m c t.val t.isLt).2.2
    = k0_pay5 (k0_pay9 (iblk m c 1 t)) (k0_pay3 (F := Ideal)) := by
  rw [outsAt0_A m c t h]
  frame_out
theorem dsh_step (h : ¬t.val % 32 = 0) : (outsAt0 m c t.val t.isLt).2.2
    = k0_pay5 (k0_pay9 (iblk m c 1 t)) (outsAt0 m c (t.val - 1) (Nat.lt_of_le_of_lt (Nat.sub_le _ _) t.isLt)).2.2 := by
  rw [outsAt0_B m c t h]
  frame_out
end

/-- The residual stream's gradient. -/
theorem final_dx : (dats m 0 c).arrAt 5 cfg0.N
    = fun i => dx (ax m c (i 0)) (ad m c (i 0)) (adx m c (i 0)) (asc m c) (i 1) := by
  refine (dats m 0 c).arrAt_eq_of_covers 5 _ (by decide +kernel) (fun t hf y => ?_)
  blk_simp [idx0 t]
  rw [after0_5, point_dx]
  idx_vars y
  have e0 : (((View.whole main_v0_0).slice (win0_5.rect t)).emb (ix2 y0 y1) 0 : Fin 8192) = arow t y0 := Fin.ext (by
    blk_simp [idx0 t]
    simp only [arow]
    omega)
  have e1 : (((View.whole main_v0_0).slice (win0_5.rect t)).emb (ix2 y0 y1) 1 : Fin 1024) = y1 := Fin.ext (by blk_simp [idx0 t])
  rw [dxBlk_at, blk0, blk1, blk2, blk3]
  exact congrArg₂ (fun r k => dx (ax m c r) (ad m c r) (adx m c r) (asc m c) k) e0.symm e1.symm

set_option maxHeartbeats 1000000 in
/-- The scale's gradient. -/
theorem final_dsc : (dats m 0 c).arrAt 6 cfg0.N = fun i => ∑ r, dsc (ax m c r) (ad m c r) (i 1) := by
  refine (dats m 0 c).arrAt_eq_of_after_last 6 tlast (by decide +kernel) _ fun j => ?_
  blk_simp
  rw [after0_6]
  idx_vars j
  refine RowSum.fold_runs 32 256 N_0 rfl (fun n h => (outsAt0 m c n h).2.1 (ix2 j0 j1))
    (fun r => dsc (ax m c r) (ad m c r) j1) arow (fun _ _ => rfl) (fun t h => ?_) (fun t h => ?_) tlast tlast_last
  · rw [dsc_reset m c t h, dscStep_at, zero2_at, zero_add]
    simp only [blk0, blk1]
  · rw [dsc_step m c t h, dscStep_at]
    simp only [blk0, blk1]

set_option maxHeartbeats 1000000 in
/-- The shift's gradient. -/
theorem final_dsh : (dats m 0 c).arrAt 7 cfg0.N = fun i => ∑ r, ad m c r (i 1) := by
  refine (dats m 0 c).arrAt_eq_of_after_last 7 tlast (by decide +kernel) _ fun j => ?_
  blk_simp
  rw [after0_7]
  idx_vars j
  refine RowSum.fold_runs 32 256 N_0 rfl (fun n h => (outsAt0 m c n h).2.2 (ix2 j0 j1))
    (fun r => ad m c r j1) arow (fun _ _ => rfl) (fun t h => ?_) (fun t h => ?_) tlast tlast_last
  · rw [dsh_reset m c t h, dshStep_at, zero3_at, zero_add]
    simp only [blk1]
  · rw [dsh_step m c t h, dshStep_at]
    simp only [blk1]

end

section
open Cert.SguRef Cert.Reference18Ideal Cert.Reference18Ideal.Value Idealize.ShloMosaic Idealize.ShloMosaic.TcCoe Idealize.SL.Sem Idealize.ShloMosaic.StableHlo

variable (m : (ℓ : Loc nD τ sig) → Buf (Elt Ideal) ℓ) (c : Dev nD)

/-- The residual stream. -/
def rx (r : Fin 8192) (k : Fin 1024) : EReal := m ((c : Thread nD τ).loc main_arg0) (ix2 r k)
/-- The gradient at the modulated row. -/
def rd (r : Fin 8192) (k : Fin 1024) : EReal := m ((c : Thread nD τ).loc main_arg1) (ix2 r k)
/-- The gradient that enters along the residual stream. -/
def rdx (r : Fin 8192) (k : Fin 1024) : EReal := m ((c : Thread nD τ).loc main_arg2) (ix2 r k)
/-- The scale. -/
def rsc (k : Fin 1024) : EReal := m ((c : Thread nD τ).loc main_arg3) (ix2 0 k)

/-- The reference's arrays. -/
theorem ref_values (ρ : Dev nD → PrngReg) :
    θ_run defs (onTc (τ := τ) (main (F := Ideal))) ⟨m, fun _ => 0, ρ⟩ fun r => ∀ c : Dev nD,
      (r.2.mem ((c.tc : Thread nD τ).loc main_v45) = fun i => dx (rx m c (i 0)) (rd m c (i 0)) (rdx m c (i 0)) (rsc m c) (i 1))
      ∧ (r.2.mem ((c.tc : Thread nD τ).loc main_v28) = fun i => ∑ r, dsc (rx m c r) (rd m c r) (i 1))
      ∧ (r.2.mem ((c.tc : Thread nD τ).loc main_v25) = fun i => ∑ r, rd m c r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun _ h c => ?_) (Value.run m ρ)
  obtain ⟨h0, h1, h2, hr⟩ := h c
  refine ⟨h0.trans ?_, h1.trans ?_, h2.trans ?_, hr⟩
  · clear h h0 h1 h2 hr
    funext i
    clean_types
    idx_vars i
    pointwise [dx, dms, dn, rs, ms, rx, rd, rdx, rsc]
    simp only [Fin.sum_univ_one]
    rw [mul_two_mul]
    exact (add_assoc _ _ _).symm
  · clear h h0 h1 h2 hr
    funext i
    clean_types
    idx_vars i
    pointwise [dsc, rs, ms, rx, rd]
  · clear h h0 h1 h2 hr
    funext i
    clean_types
    idx_vars i
    pointwise [rd]
end

open Idealize.ShloMosaic Idealize.SL.Sem

/-- The reference runs, its arguments end unchanged, and it has no semaphores. -/
theorem ref_frame : Cert.quiescent_Reference18Ideal := fun m g _ =>
  (θ_run _ _ _).mono (fun r h => ⟨fun c => (h c).2.2.2, sem_eq_zero_of_no_sems rfl r.2⟩) (ref_values m g)

/-- The kernel's results and the reference's are the same arrays at every input. -/
theorem algebraic : Cert.algebraic_Kernel18Ideal_Reference18Ideal := by
  intro m g m' g' _ hargs
  refine ⟨fun c => (Cert.Kernel18Ideal.Gen.dats m 0 c).arrAt 5 Cert.Kernel18Ideal.cfg0.N,
    fun c => (Cert.Kernel18Ideal.Gen.dats m 0 c).arrAt 6 Cert.Kernel18Ideal.cfg0.N,
    fun c => (Cert.Kernel18Ideal.Gen.dats m 0 c).arrAt 7 Cert.Kernel18Ideal.cfg0.N, Cert.Kernel18Ideal.Value.run_blocks m g,
    (θ_run _ _ _).mono (fun r h c => ?_) (ref_values m' g')⟩
  obtain ⟨h0, h1, h2, hr⟩ := h c
  obtain ⟨a0, a1, a2, a3, a4⟩ := hargs c
  have e0 : rx m' c = ax m c := funext fun i => funext fun k => congrFun a0 _
  have e1 : rd m' c = ad m c := funext fun i => funext fun k => congrFun a1 _
  have e2 : rdx m' c = adx m c := funext fun i => funext fun k => congrFun a2 _
  have e3 : rsc m' c = asc m c := funext fun k => congrFun a3 _
  simp only [e0, e1, e2, e3] at h0 h1 h2
  exact ⟨h0.trans (final_dx m c).symm, h1.trans (final_dsc m c).symm, h2.trans (final_dsh m c).symm, hr⟩

end Cert.ModBwd
-- ==== Proof.SguFwd.lean ====
module

public import proofs.«01_k».proof.Proof.Gen.Kernel19Ideal.Value
public import proofs.«01_k».proof.Proof.Gen.Reference19Ideal.Run
public import proofs.«01_k».proof.Proof.SguIndex
public import proofs.«01_k».proof.Proof.SguRef
public import proofs.«01_k».proof.Defs
public import Idealize.ShloMosaic.Lib.Pipeline.ValueKit
public import Idealize.ShloMosaic.Lib.Quiescent

/-! The spatial gating unit's forward pass: the kernel's array and the reference's, at an index. A block's mixed values are
    those of SguBlock.lean, which the unit's gradient computes again. -/

@[expose] public section

set_option maxRecDepth 16384

noncomputable section

namespace Cert.SguFwd

open Cert.Sgu (gl th hf ms rs xh vn cw mix grp col arow brow chunk vec1 mat3 vec2)

/-- The unit's output, from the rows' values of `u` and `v`, the norm's weight, the matrices and the biases. -/
def out (nw : Fin 1024 → EReal) (ws : Fin 8 → Fin 128 → Fin 128 → EReal) (bs : Fin 8 → Fin 128 → EReal)
    (U V : Fin 64 → Fin 128 → Fin 1024 → EReal) (M : Fin 64) (i : Fin 128) (k : Fin 1024) : EReal :=
  gl (U M i k) * mix nw ws bs (V M) i k

/-- A row of the array lies in one of its chunks. -/
theorem arow_split (r : Fin 8192) : r = arow ⟨r / 128, by omega⟩ ⟨r % 128, by omega⟩ :=
  Fin.ext (by simp only [arow]; omega)

section
open Cert.KernelIdeal Cert.KernelIdeal.Gen Cert.Sgu Idealize.ShloMosaic

variable (x0 x1 : Vec Ideal S512x1024 .bf16) (x2 : Vec Ideal S1x1024 .f32) (x3 : Vec Ideal S8x128x128 .f32)
  (x4 : Vec Ideal S8x128x1 .f32)

/-- The block that the body stores: the activated `u` times the mixed values. -/
def outBlk : FVec Ideal S512x1024 .bf16 :=
  truncf .bf16 (mulf (k0_pay11 x0) (mixBlock (k0_pay5 x3) (k0_pay6 x4) (vnBlk x1 x2))) bitsLt_bf16_f32

theorem outBlk_at (n : Fin 4) (i : Fin 128) (k : Fin 1024) : outBlk x0 x1 x2 x3 x4 (ix2 (brow n i) k)
    = gl (chunk x0 n i k) * mix (vec1 x2) (mat3 x3) (vec2 x4) (chunk x1 n) i k := by
  pointwise [outBlk, pay5_eq, pay6_eq, pay11_at, mixBlock_at, vnBlk_at, mix, rowAt, chunk]
  rfl
end

section
open Cert.Kernel19Ideal Cert.Kernel19Ideal.Gen Idealize.ShloMosaic Idealize.ShloMosaic.TcCoe Idealize.SL.Sem

variable (m : (ℓ : Loc nD τ sig) → Buf (Elt Ideal) ℓ) (c : Dev nD)

/-- Chunk `M` of `u`. -/
def aU (M : Fin 64) (i : Fin 128) (k : Fin 1024) : EReal := m ((c : Thread nD τ).loc main_arg0) (ix2 (arow M i) ⟨k, by omega⟩)
/-- Chunk `M` of `v`. -/
def aV (M : Fin 64) (i : Fin 128) (k : Fin 1024) : EReal := m ((c : Thread nD τ).loc main_arg0) (ix2 (arow M i) ⟨1024 + k, by omega⟩)
/-- The norm's weight. -/
def anw (k : Fin 1024) : EReal := m ((c : Thread nD τ).loc main_arg1) (ix2 0 k)
/-- The mixing matrices. -/
def aws (g : Fin 8) (i k : Fin 128) : EReal := m ((c : Thread nD τ).loc main_arg2) (ix4 0 g i k)
/-- The mixing biases. -/
def abs (g : Fin 8) (i : Fin 128) : EReal := m ((c : Thread nD τ).loc main_arg3) (ix3 0 g i)

/-- Chunk `n` of point `t`'s block, among the array's 64 chunks. -/
def pch (t : Fin cfg0.N) (n : Fin 4) : Fin 64 := ⟨4 * t.val + n, by have := Nat.lt_of_lt_of_eq t.isLt N_0; omega⟩

theorem idx0 : ∀ t : Fin grid0.N, win0_0.index t = ![t.val, 0] ∧ win0_1.index t = ![t.val, 1] ∧ win0_2.index t = ![0, 0]
    ∧ win0_3.index t = ![0, 0, 0] ∧ win0_4.index t = ![0, 0, 0] ∧ win0_5.index t = ![t.val, 0] := by decide +kernel

theorem blk_U (t : Fin cfg0.N) (n : Fin 4) : chunk (iblk m c 0 t) n = aU m c (pch t n) := by
  funext i k
  unfold chunk aU
  blk_ext [iblk, V, brow, arow, pch, idx0 t]
theorem blk_V (t : Fin cfg0.N) (n : Fin 4) : chunk (iblk m c 1 t) n = aV m c (pch t n) := by
  funext i k
  unfold chunk aV
  blk_ext [iblk, V, brow, arow, pch, idx0 t]
theorem blk_nw (t : Fin cfg0.N) : vec1 (iblk m c 2 t) = anw m c := by
  funext k
  unfold vec1 anw
  blk_ext [iblk, V, idx0 t]
theorem blk_ws (t : Fin cfg0.N) : mat3 (iblk m c 3 t) = aws m c := by
  funext g i k
  unfold mat3 aws
  blk_simp [iblk, idx0 t]
  entry_read
  pointwise
  first | done | blk_ext [idx0 t]
theorem blk_bs (t : Fin cfg0.N) : vec2 (iblk m c 4 t) = abs m c := by
  funext g i
  unfold vec2 abs
  blk_simp [iblk, idx0 t]
  entry_read
  pointwise
  first | done | blk_ext [idx0 t]

set_option maxRecDepth 100000 in
set_option maxHeartbeats 4000000 in
/-- What a point leaves in the output's staging buffer. -/
theorem point (x0 x1 : Vec Ideal S512x1024 .bf16) (x2 : Vec Ideal S1x1024 .f32) (x3 : Vec Ideal S8x128x128 .f32)
    (x4 : Vec Ideal S8x128x1 .f32) : out0_5 x0 x1 x2 x3 x4 = outBlk x0 x1 x2 x3 x4 := by
  unfold_out out0_5
  frame_out
  rfl

theorem outBlk_row (t : Fin cfg0.N) (r : Fin 512) (k : Fin 1024) (h : 512 * t.val + r.val < 8192) :
    outBlk (iblk m c 0 t) (iblk m c 1 t) (iblk m c 2 t) (iblk m c 3 t) (iblk m c 4 t) (ix2 r k)
      = out (anw m c) (aws m c) (abs m c) (aU m c) (aV m c) ⟨(512 * t.val + r.val) / 128, by omega⟩
          ⟨(512 * t.val + r.val) % 128, by omega⟩ k := by
  obtain ⟨n, i, rfl⟩ : ∃ n i, r = brow n i := ⟨⟨r / 128, by omega⟩, ⟨r % 128, by omega⟩, Fin.ext (by simp only [brow]; omega)⟩
  have e1 : (⟨(512 * t.val + (brow n i).val) / 128, by omega⟩ : Fin 64) = pch t n := Fin.ext (by simp only [brow, pch]; omega)
  have e2 : (⟨(512 * t.val + (brow n i).val) % 128, by omega⟩ : Fin 128) = i := Fin.ext (by simp only [brow]; omega)
  rw [e1, e2, outBlk_at, blk_U, blk_V, blk_nw, blk_ws, blk_bs, out]

/-- The kernel's array. -/
theorem final : (dats m 0 c).arrAt 5 cfg0.N = fun i : S8192x1024.Idx =>
    out (anw m c) (aws m c) (abs m c) (aU m c) (aV m c) ⟨(i 0).val / 128, by have := (i 0).isLt; simp at this; omega⟩
      ⟨(i 0).val % 128, by omega⟩ (i 1) := by
  refine (dats m 0 c).arrAt_eq_of_covers 5 _ (by decide +kernel) (fun t hf y => ?_)
  have ht := Nat.lt_of_lt_of_eq t.isLt N_0
  blk_simp [idx0 t]
  rw [after0_5, point]
  idx_vars y
  refine (outBlk_row m c t y0 y1 (by omega)).trans ?_
  congr 1 <;> first
    | exact Fin.ext (by simp [idx0 t, Nat.mul_comm])
    | rfl
end

section
open Cert.Reference19Ideal Cert.Reference19Ideal.Value Idealize.ShloMosaic Idealize.ShloMosaic.TcCoe Idealize.SL.Sem Idealize.ShloMosaic.StableHlo
open Cert.SguRef (select_mask arow_div arow_mod arow_mk col_mk col_div col_mod grp_col col_grp)

variable (m : (ℓ : Loc nD τ sig) → Buf (Elt Ideal) ℓ) (c : Dev nD)

/-- Chunk `M` of `u`. -/
def rU (M : Fin 64) (i : Fin 128) (k : Fin 1024) : EReal := m ((c : Thread nD τ).loc main_arg0) (ix2 (arow M i) ⟨k, by omega⟩)
/-- Chunk `M` of `v`. -/
def rV (M : Fin 64) (i : Fin 128) (k : Fin 1024) : EReal := m ((c : Thread nD τ).loc main_arg0) (ix2 (arow M i) ⟨1024 + k, by omega⟩)
/-- The norm's weight. -/
def rnw (k : Fin 1024) : EReal := m ((c : Thread nD τ).loc main_arg1) (ix2 0 k)
/-- The mixing matrices. -/
def rws (g : Fin 8) (i k : Fin 128) : EReal := m ((c : Thread nD τ).loc main_arg2) (ix4 0 g i k)
/-- The mixing biases. -/
def rbs (g : Fin 8) (i : Fin 128) : EReal := m ((c : Thread nD τ).loc main_arg3) (ix3 0 g i)

/-- The activation as the reference writes it. -/
theorem gl_eq (x : EReal) : x * (Ideal.ofBits .f32 0x3F000000#32 * (1 + Ideal.tanh (Ideal.ofBits .f32 0x3F4C422A#32
    * (x + Ideal.ofBits .f32 0x3D372713#32 * (x * x * x))))) = gl x := by
  rw [mul_comm (x * x) x]; rfl

/-- The reference's array in a chunk's row and a group's column. -/
theorem ref_at (M : Fin 64) (i : Fin 128) (g : Fin 8) (d : Fin 128) : res_main_v62 m c (ix2 (arow M i) (col g d))
    = out (rnw m c) (rws m c) (rbs m c) (rU m c) (rV m c) M i (col g d) := by
  unfold res_main_v62
  clean_types
  pointwise
  have er : ∀ (x : Fin 128) (h : (arow M i : ℕ) / 128 * 128 + x < 8192), (⟨(arow M i : ℕ) / 128 * 128 + x, h⟩ : Fin 8192) = arow M x :=
    fun x h => Fin.ext (by simp only [arow]; omega)
  have em : (arow M i : ℕ) % 128 = i := by simp only [arow]; omega
  have eu : ∀ (r : Fin 128) (k : Fin 1024) (h : (k : ℕ) < 10240),
      m ((c : Thread nD τ).loc main_arg0) (ix2 (arow M r) ⟨k, h⟩) = rU m c M r k := fun _ _ _ => rfl
  have ev : ∀ (r : Fin 128) (k : Fin 1024) (h : 1024 + (k : ℕ) < 10240),
      m ((c : Thread nD τ).loc main_arg0) (ix2 (arow M r) ⟨1024 + k, h⟩) = rV m c M r k := fun _ _ _ => rfl
  simp only [er, em, eu, ev, gl_eq, select_mask, out, mix, grp_col, col_div, Fin.eta, vn, xh, rs, ms, cw]
  refine congrArg (gl _ * ·) (congrArg₂ (· + ·) (Finset.sum_congr rfl fun x _ => ?_) rfl)
  split
  · exact mul_comm _ _
  · exact (zero_mul _).symm

/-- The reference's array. -/
theorem ref_values (ρ : Dev nD → PrngReg) :
    θ_run defs (onTc (τ := τ) (main (F := Ideal))) ⟨m, fun _ => 0, ρ⟩ fun r => ∀ c : Dev nD,
      r.2.mem ((c.tc : Thread nD τ).loc main_v62) = (fun i : S8192x1024.Idx =>
        out (rnw m c) (rws m c) (rbs m c) (rU m c) (rV m c) ⟨(i 0).val / 128, by have := (i 0).isLt; simp at this; omega⟩
          ⟨(i 0).val % 128, by omega⟩ (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun _ h c => ?_) (Value.run m ρ)
  obtain ⟨h0, hr⟩ := h c
  refine ⟨h0.trans ?_, hr⟩
  clear h h0 hr
  funext i
  idx_vars i
  obtain ⟨M, a, rfl⟩ : ∃ M a, i0 = arow M a := ⟨_, _, arow_split i0⟩
  obtain ⟨g, d, rfl⟩ := col_grp i1
  refine (ref_at m c M a g d).trans ?_
  exact congrArg₂ (out _ _ _ _ _ · · _) (arow_div M a _).symm (arow_mod M a _).symm
end

open Idealize.ShloMosaic Idealize.SL.Sem

/-- The reference runs, its arguments end unchanged, and it has no semaphores. -/
theorem ref_frame : Cert.quiescent_Reference19Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel19Ideal_Reference19Ideal := by
  intro m g m' g' _ hargs
  refine ⟨fun c => (Cert.Kernel19Ideal.Gen.dats m 0 c).arrAt 5 Cert.Kernel19Ideal.cfg0.N, Cert.Kernel19Ideal.Value.run_blocks m g,
    (θ_run _ _ _).mono (fun r h c => ?_) (ref_values m' g')⟩
  obtain ⟨h0, hr⟩ := h c
  obtain ⟨a0, a1, a2, a3⟩ := hargs c
  have e0 : rU m' c = aU m c := funext fun M => funext fun i => funext fun k => congrFun a0 _
  have e1 : rV m' c = aV m c := funext fun M => funext fun i => funext fun k => congrFun a0 _
  have e2 : rnw m' c = anw m c := funext fun k => congrFun a1 _
  have e3 : rws m' c = aws m c := funext fun g => funext fun i => funext fun k => congrFun a2 _
  have e4 : rbs m' c = abs m c := funext fun g => funext fun i => congrFun a3 _
  refine ⟨h0.trans (Eq.trans ?_ (final m c).symm), hr⟩
  simp only [e0, e1, e2, e3, e4]

end Cert.SguFwd
-- ==== Proof.Dt.lean ====
module

public import proofs.«01_k».proof.Proof.Gen.Kernel20Ideal.Value
public import proofs.«01_k».proof.Proof.Gen.Reference20Ideal.Run
public import proofs.«01_k».proof.Defs
public import Idealize.ShloMosaic.Lib.Pointwise
public import Idealize.ShloMosaic.Lib.Pipeline.ValueKit
public import Idealize.ShloMosaic.Lib.Tactic.CleanTypes
public import Idealize.ShloMosaic.Lib.Quiescent

/-! The input projection's last 128 columns, of which the recurrence takes its step sizes: the kernel's array and the
    reference's, at an index. -/

@[expose] public section

set_option maxRecDepth 16384

noncomputable section

namespace Cert.Dt

section
open Cert.Kernel20Ideal Cert.Kernel20Ideal.Gen Idealize.ShloMosaic Idealize.ShloMosaic.TcCoe Idealize.SL.Sem

variable (m : (ℓ : Loc nD τ sig) → Buf (Elt Ideal) ℓ) (c : Dev nD)

/-- The layer's input. -/
def ax (r : Fin 8192) (l : Fin 1024) : EReal := m ((c : Thread nD τ).loc main_arg0) (ix2 r l)
/-- The weight's last columns. -/
def aw (k : Fin 128) (l : Fin 1024) : EReal := m ((c : Thread nD τ).loc main_arg1) (ix2 l ⟨10240 + k, by omega⟩)

theorem idx0 : ∀ t : Fin grid0.N, win0_0.index t = ![t.val, 0] ∧ win0_1.index t = ![0, 0]
    ∧ win0_2.index t = ![t.val, 0] := by decide +kernel

theorem pay_at (x : Vec Ideal S1024x1024 .bf16) (w : Vec Ideal S1024x128 .bf16) (r : Fin 1024) (k : Fin 128) :
    k0_pay1 x w (ix2 r k) = ∑ l, x (ix2 r l) * w (ix2 l k) := by
  pointwise [k0_pay1]

theorem point (t : Fin cfg0.N) : outsAt0 m c t = k0_pay1 (iblk m c 0 t) (iblk m c 1 t) := by
  unfold outsAt0
  frame_out

/-- The weight's block is its last 128 columns. -/
theorem blk_w (t : Fin cfg0.N) (l : Fin 1024) (k : Fin 128) : iblk m c 1 t (ix2 l k) = aw m c k l := by
  unfold aw
  blk_simp [iblk, idx0 t]
  entry_read
  pointwise
  first | done | blk_ext [idx0 t]

/-- The kernel's array. -/
theorem final : (dats m 0 c).arrAt 2 cfg0.N = fun i => ∑ l, ax m c (i 0) l * aw m c (i 1) l := by
  refine (dats m 0 c).arrAt_eq_of_covers 2 _ (by decide +kernel) (fun t hf y => ?_)
  have ht := Nat.lt_of_lt_of_eq t.isLt N_0
  blk_simp [idx0 t]
  rw [after0_2, point]
  idx_vars y
  refine (pay_at _ _ y0 y1).trans ?_
  refine Finset.sum_congr rfl fun l _ => congrArg₂ (· * ·) ?_ ((blk_w m c t l y1).trans ?_)
  · unfold ax
    blk_ext [iblk, V, idx0 t]
  · exact congrArg (aw m c · l) (Fin.ext (by simp [idx0 t]))
end

section
open Cert.Reference20Ideal Cert.Reference20Ideal.Value Idealize.ShloMosaic Idealize.ShloMosaic.TcCoe Idealize.SL.Sem Idealize.ShloMosaic.StableHlo

variable (m : (ℓ : Loc nD τ sig) → Buf (Elt Ideal) ℓ) (c : Dev nD)

/-- The layer's input. -/
def rx (r : Fin 8192) (l : Fin 1024) : EReal := m ((c : Thread nD τ).loc main_arg0) (ix2 r l)
/-- The weight's last columns. -/
def rwt (k : Fin 128) (l : Fin 1024) : EReal := m ((c : Thread nD τ).loc main_arg1) (ix2 l ⟨10240 + k, by omega⟩)

/-- The reference's array. -/
theorem ref_values (ρ : Dev nD → PrngReg) :
    θ_run defs (onTc (τ := τ) (main (F := Ideal))) ⟨m, fun _ => 0, ρ⟩ fun r => ∀ c : Dev nD,
      r.2.mem ((c.tc : Thread nD τ).loc main_v3) = (fun i => ∑ l, rx m c (i 0) l * rwt m c (i 1) l)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run _ _ _).mono (fun _ h c => ?_) (Value.run m ρ)
  obtain ⟨h0, hr⟩ := h c
  refine ⟨h0.trans ?_, hr⟩
  clear h h0 hr
  funext i
  clean_types
  idx_vars i
  pointwise [rx, rwt]
end

open Idealize.ShloMosaic Idealize.SL.Sem

/-- The reference runs, its arguments end unchanged, and it has no semaphores. -/
theorem ref_frame : Cert.quiescent_Reference20Ideal := fun m g _ =>
  (θ_run _ _ _).mono (fun r h => ⟨fun c => (h c).2, sem_eq_zero_of_no_sems rfl r.2⟩) (ref_values m g)

/-- The kernel's result and the reference's are the same array at every input. -/
theorem algebraic : Cert.algebraic_Kernel20Ideal_Reference20Ideal := by
  intro m g m' g' _ hargs
  refine ⟨fun c => (Cert.Kernel20Ideal.Gen.dats m 0 c).arrAt 2 Cert.Kernel20Ideal.cfg0.N, Cert.Kernel20Ideal.Value.run_blocks m g,
    (θ_run _ _ _).mono (fun r h c => ?_) (ref_values m' g')⟩
  obtain ⟨h0, hr⟩ := h c
  obtain ⟨a0, a1⟩ := hargs c
  have e0 : rx m' c = ax m c := funext fun i => funext fun k => congrFun a0 _
  have e1 : rwt m' c = aw m c := funext fun i => funext fun k => congrFun a1 _
  refine ⟨h0.trans (Eq.trans ?_ (final m c).symm), hr⟩
  simp only [e0, e1]
  rfl

end Cert.Dt
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.SguArrays
public import proofs.«01_k».proof.Proof.MixBwd
public import proofs.«01_k».proof.Proof.Ff1Dgrad
public import proofs.«01_k».proof.Proof.Ff2Dgrad
public import proofs.«01_k».proof.Proof.Ff2Wgrad
public import proofs.«01_k».proof.Proof.Ff1Wgrad
public import proofs.«01_k».proof.Proof.InWgrad
public import proofs.«01_k».proof.Proof.Ff2Loss
public import proofs.«01_k».proof.Proof.OutWgrad
public import proofs.«01_k».proof.Proof.GmWgrad
public import proofs.«01_k».proof.Proof.SsmWgrad
public import proofs.«01_k».proof.Proof.SsmDgrad
public import proofs.«01_k».proof.Proof.Proj
public import proofs.«01_k».proof.Proof.Ff1
public import proofs.«01_k».proof.Proof.BranchGm
public import proofs.«01_k».proof.Proof.SsmMix
public import proofs.«01_k».proof.Proof.OutRes
public import proofs.«01_k».proof.Proof.ModBwd
public import proofs.«01_k».proof.Proof.SguFwd
public import proofs.«01_k».proof.Proof.Dt
public import proofs.«01_k».proof.Proof.SguRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, its arguments end unchanged, and it has no semaphores. -/
theorem ref_frame : Cert.quiescent_ReferenceIdeal := fun m g _ =>
  (θ_run _ _ _).mono (fun r h => ⟨fun c => (h c).2.2.2.2, sem_eq_zero_of_no_sems rfl r.2⟩) (SguRef.run_values m g)

/-- The kernel's four results and the reference's are the same arrays at every input. -/
theorem sgu_algebraic : Cert.algebraic_KernelIdeal_ReferenceIdeal := by
  intro m g m' g' _ hargs
  refine ⟨fun c => (Cert.KernelIdeal.Gen.dats m 0 c).arrAt 7 Cert.KernelIdeal.cfg0.N, fun c => (Cert.KernelIdeal.Gen.dats m 0 c).arrAt 8 Cert.KernelIdeal.cfg0.N,
    fun c => (Cert.KernelIdeal.Gen.dats m 0 c).arrAt 9 Cert.KernelIdeal.cfg0.N, fun c => (Cert.KernelIdeal.Gen.dats m 0 c).arrAt 10 Cert.KernelIdeal.cfg0.N,
    Cert.KernelIdeal.Value.run_blocks m g, (θ_run _ _ _).mono (fun r h c => ?_) (SguRef.run_values m' g')⟩
  obtain ⟨h0, h1, h2, h3, hr⟩ := h c
  obtain ⟨a0, a1, a2, a3, a4, a5, a6⟩ := hargs c
  have e0 : SguRef.aP (StableHlo.launchContents m' c) = Sgu.aP m c := funext fun M => funext fun i => funext fun k => congrFun a0 _
  have e1 : SguRef.aw (StableHlo.launchContents m' c) = Sgu.aw m c := funext fun i => funext fun k => congrFun a1 _
  have e2 : SguRef.aU (StableHlo.launchContents m' c) = Sgu.aU m c := funext fun M => funext fun i => funext fun k => congrFun a2 _
  have e3 : SguRef.aV (StableHlo.launchContents m' c) = Sgu.aV m c := funext fun M => funext fun i => funext fun k => congrFun a2 _
  have e4 : SguRef.anw (StableHlo.launchContents m' c) = Sgu.anw m c := funext fun k => congrFun a3 _
  have e5 : SguRef.aws (StableHlo.launchContents m' c) = Sgu.aws m c := funext fun M => funext fun i => funext fun k => congrFun a4 _
  have e6 : SguRef.abs (StableHlo.launchContents m' c) = Sgu.abs m c := funext fun i => funext fun k => congrFun a5 _
  refine ⟨?_, ?_, ?_, ?_, hr⟩
  · refine h0.trans (Eq.trans ?_ (Sgu.final_duv m c).symm)
    rw [a6]
    simp only [SguRef.duv, e0, e1, e2, e3, e4, e5, e6]
    rfl
  · refine h1.trans (Eq.trans ?_ (Sgu.final_dnw m c).symm)
    simp only [e0, e1, e2, e3, e5]
    rfl
  · refine h2.trans (Eq.trans ?_ (Sgu.final_dmat m c).symm)
    simp only [e0, e1, e2, e3, e4]
    rfl
  · refine h3.trans (Eq.trans ?_ (Sgu.final_db m c).symm)
    simp only [e0, e1, e2]
    rfl

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  fun m g _ => Cert.Kernel.Gen.frame m g, fun m g _ => Cert.KernelIdeal.Gen.frame m g, ref_frame,
  fun m g _ => Cert.Kernel2.Gen.frame m g, fun m g _ => Cert.Kernel2Ideal.Gen.frame m g, Cert.MixBwd.ref_frame,
  fun m g _ => Cert.Kernel3.Gen.frame m g, fun m g _ => Cert.Kernel3Ideal.Gen.frame m g, Cert.Ff1Dgrad.ref_frame,
  fun m g _ => Cert.Kernel4.Gen.frame m g, fun m g _ => Cert.Kernel4Ideal.Gen.frame m g, Cert.Ff2Dgrad.ref_frame,
  fun m g _ => Cert.Kernel5.Gen.frame m g, fun m g _ => Cert.Kernel5Ideal.Gen.frame m g, Cert.Ff2Wgrad.ref_frame,
  fun m g _ => Cert.Kernel6.Gen.frame m g, fun m g _ => Cert.Kernel6Ideal.Gen.frame m g, Cert.Ff1Wgrad.ref_frame,
  fun m g _ => Cert.Kernel7.Gen.frame m g, fun m g _ => Cert.Kernel7Ideal.Gen.frame m g, Cert.InWgrad.ref_frame,
  fun m g _ => Cert.Kernel8.Gen.frame m g, fun m g _ => Cert.Kernel8Ideal.Gen.frame m g, Cert.Ff2Loss.ref_frame,
  fun m g _ => Cert.Kernel9.Gen.frame m g, fun m g _ => Cert.Kernel9Ideal.Gen.frame m g, Cert.OutWgrad.ref_frame,
  fun m g _ => Cert.Kernel10.Gen.frame m g, fun m g _ => Cert.Kernel10Ideal.Gen.frame m g, Cert.GmWgrad.ref_frame,
  fun m g _ => Cert.Kernel11.Gen.frame m g, fun m g _ => Cert.Kernel11Ideal.Gen.frame m g, Cert.SsmWgrad.ref_frame,
  fun m g _ => Cert.Kernel12.Gen.frame m g, fun m g _ => Cert.Kernel12Ideal.Gen.frame m g, Cert.SsmDgrad.ref_frame,
  fun m g _ => Cert.Kernel13.Gen.frame m g, fun m g _ => Cert.Kernel13Ideal.Gen.frame m g, Cert.Proj.ref_frame,
  fun m g _ => Cert.Kernel14.Gen.frame m g, fun m g _ => Cert.Kernel14Ideal.Gen.frame m g, Cert.Ff1.ref_frame,
  fun m g _ => Cert.Kernel15.Gen.frame m g, fun m g _ => Cert.Kernel15Ideal.Gen.frame m g, Cert.BranchGm.ref_frame,
  fun m g _ => Cert.Kernel16.Gen.frame m g, fun m g _ => Cert.Kernel16Ideal.Gen.frame m g, Cert.SsmMix.ref_frame,
  fun m g _ => Cert.Kernel17.Gen.frame m g, fun m g _ => Cert.Kernel17Ideal.Gen.frame m g, Cert.OutRes.ref_frame,
  fun m g _ => Cert.Kernel18.Gen.frame m g, fun m g _ => Cert.Kernel18Ideal.Gen.frame m g, Cert.ModBwd.ref_frame,
  fun m g _ => Cert.Kernel19.Gen.frame m g, fun m g _ => Cert.Kernel19Ideal.Gen.frame m g, Cert.SguFwd.ref_frame,
  fun m g _ => Cert.Kernel20.Gen.frame m g, fun m g _ => Cert.Kernel20Ideal.Gen.frame m g, Cert.Dt.ref_frame,
  trivial, sgu_algebraic,
  trivial, Cert.MixBwd.algebraic,
  trivial, Cert.Ff1Dgrad.algebraic,
  trivial, Cert.Ff2Dgrad.algebraic,
  trivial, Cert.Ff2Wgrad.algebraic,
  trivial, Cert.Ff1Wgrad.algebraic,
  trivial, Cert.InWgrad.algebraic,
  trivial, Cert.Ff2Loss.algebraic,
  trivial, Cert.OutWgrad.algebraic,
  trivial, Cert.GmWgrad.algebraic,
  trivial, Cert.SsmWgrad.algebraic,
  trivial, Cert.SsmDgrad.algebraic,
  trivial, Cert.Proj.algebraic,
  trivial, Cert.Ff1.algebraic,
  trivial, Cert.BranchGm.algebraic,
  trivial, Cert.SsmMix.algebraic,
  trivial, Cert.OutRes.algebraic,
  trivial, Cert.ModBwd.algebraic,
  trivial, Cert.SguFwd.algebraic,
  trivial, Cert.Dt.algebraic⟩

end Cert.Proof

end
